-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x128 : Shape := ⟨2, ![2048, 128]⟩
abbrev S6x128x2048 : Shape := ⟨3, ![6, 128, 2048]⟩
abbrev S5x128x2048 : Shape := ⟨3, ![5, 128, 2048]⟩
abbrev S5x2 : Shape := ⟨2, ![5, 2]⟩
abbrev S6x2 : Shape := ⟨2, ![6, 2]⟩
abbrev S_ : Shape := ⟨0, ![]⟩
abbrev S1x1 : Shape := ⟨2, ![1, 1]⟩
abbrev S1x64x2048 : Shape := ⟨3, ![1, 64, 2048]⟩
abbrev S64x2048 : Shape := ⟨2, ![64, 2048]⟩
abbrev S128x128 : Shape := ⟨2, ![128, 128]⟩
abbrev S1x128x2048 : Shape := ⟨3, ![1, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S2048x128, .f32⟩
  | .local _ .vmem, ⟨0, _⟩ => ⟨S128x2048, .f32⟩
  | .local _ .vmem, ⟨1, _⟩ => ⟨S2048x128, .f32⟩
  | .local _ .vmem, ⟨2, _⟩ => ⟨S2048x128, .f32⟩
  | .local _ .vmem, ⟨3, _⟩ => ⟨S6x128x2048, .f32⟩
  | .local _ .vmem, ⟨4, _⟩ => ⟨S6x128x2048, .f32⟩
  | .local _ .vmem, ⟨5, _⟩ => ⟨S5x128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_439 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_438 : BitVec 32 := 1#32
  let v451 : BitVec 32 := Scalar.muli v147 c1_i32_438
  let v452 : BitVec 32 := Scalar.addi c0_i32_439 v451
  v452.toNat
def k0_dev2 (d0 : Dev nD) : Nat :=
  let c0_i32_442 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_441 : BitVec 32 := 1#32
  let v453 : BitVec 32 := Scalar.muli v99 c1_i32_441
  let v454 : BitVec 32 := Scalar.addi c0_i32_442 v453
  v454.toNat
def k0_dev3 (d0 : Dev nD) : Nat :=
  let c0_i32_445 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_444 : BitVec 32 := 1#32
  let v455 : BitVec 32 := Scalar.muli v351 c1_i32_444
  let v456 : BitVec 32 := Scalar.addi c0_i32_445 v455
  v456.toNat
def k0_dev4 (d0 : Dev nD) : Nat :=
  let c0_i32_453 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_452 : BitVec 32 := 1#32
  let v457 : BitVec 32 := Scalar.muli v99 c1_i32_452
  let v458 : BitVec 32 := Scalar.addi c0_i32_453 v457
  v458.toNat
def k0_dev5 (d0 : Dev nD) : Nat :=
  let c0_i32_464 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_463 : BitVec 32 := 1#32
  let v466 : BitVec 32 := Scalar.muli v147 c1_i32_463
  let v467 : BitVec 32 := Scalar.addi c0_i32_464 v466
  v467.toNat
def k0_cond1 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_469 : BitVec 32 := 0#32
  let v475 : BitVec 1 := Scalar.cmpi .eq v51 c0_i32_469
  let c3_i32_470 : BitVec 32 := 3#32
  let v476 : BitVec 1 := Scalar.cmpi .eq v51 c3_i32_470
  let v477 : BitVec 1 := Scalar.ori v475 v476
  let v478 : BitVec 32 := Scalar.extui v477
  let c0_i32_471 : BitVec 32 := 0#32
  let v479 : BitVec 1 := Scalar.cmpi .ne v478 c0_i32_471
  v479

def k0_dev6 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev7 (d0 : Dev nD) : Nat :=
  let c0_i32_478 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_477 : BitVec 32 := 1#32
  let v480 : BitVec 32 := Scalar.muli v99 c1_i32_477
  let v481 : BitVec 32 := Scalar.addi c0_i32_478 v480
  v481.toNat
def k0_dev8 (d0 : Dev nD) : Nat :=
  let c0_i32_488 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_487 : BitVec 32 := 1#32
  let v489 : BitVec 32 := Scalar.muli v147 c1_i32_487
  let v490 : BitVec 32 := Scalar.addi c0_i32_488 v489
  v490.toNat
def k0_cond2 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_493 : BitVec 32 := 0#32
  let v498 : BitVec 1 := Scalar.cmpi .eq v51 c0_i32_493
  let c3_i32_494 : BitVec 32 := 3#32
  let v499 : BitVec 1 := Scalar.cmpi .eq v51 c3_i32_494
  let v500 : BitVec 1 := Scalar.ori v498 v499
  let v501 : BitVec 32 := Scalar.extui v500
  let c0_i32_495 : BitVec 32 := 0#32
  let v502 : BitVec 1 := Scalar.cmpi .ne v501 c0_i32_495
  v502

def k0_dev9 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v508 : BitVec 32 := Scalar.muli v2 c128_i32
  let v509 : Index := Scalar.indexCast v508
  let c0_499 : Index := 0#32
  ![v509.toNat, 0]
def k0_dev10 (d0 : Dev nD) : Nat :=
  let c0_i32_518 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_517 : BitVec 32 := 1#32
  let v518 : BitVec 32 := Scalar.muli v99 c1_i32_517
  let v519 : BitVec 32 := Scalar.addi c0_i32_518 v518
  v519.toNat
def k0_cond3 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_523 : BitVec 32 := 0#32
  let v528 : BitVec 1 := Scalar.cmpi .eq v51 c0_i32_523
  let v529 : BitVec 32 := Scalar.extui v528
  let c0_i32_525 : BitVec 32 := 0#32
  let v530 : BitVec 1 := Scalar.cmpi .ne v529 c0_i32_525
  v530

def k0_dev11 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond4 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_526 : BitVec 32 := 1#32
  let v531 : BitVec 1 := Scalar.cmpi .eq v51 c1_i32_526
  let v532 : BitVec 32 := Scalar.extui v531
  let c0_i32_528 : BitVec 32 := 0#32
  let v533 : BitVec 1 := Scalar.cmpi .ne v532 c0_i32_528
  v533

def k0_dev12 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond5 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_529 : BitVec 32 := 3#32
  let v534 : BitVec 1 := Scalar.cmpi .eq v51 c3_i32_529
  let v535 : BitVec 32 := Scalar.extui v534
  let c0_i32_531 : BitVec 32 := 0#32
  let v536 : BitVec 1 := Scalar.cmpi .ne v535 c0_i32_531
  v536

def k0_dev13 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev14 (d0 : Dev nD) : Nat :=
  let c0_i32_550 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_549 : BitVec 32 := 1#32
  let v544 : BitVec 32 := Scalar.muli v147 c1_i32_549
  let v545 : BitVec 32 := Scalar.addi c0_i32_550 v544
  v545.toNat
def k0_cond6 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_555 : BitVec 32 := 0#32
  let v554 : BitVec 1 := Scalar.cmpi .eq v51 c0_i32_555
  let v555 : BitVec 32 := Scalar.extui v554
  let c0_i32_557 : BitVec 32 := 0#32
  let v556 : BitVec 1 := Scalar.cmpi .ne v555 c0_i32_557
  v556

def k0_dev15 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond7 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_558 : BitVec 32 := 2#32
  let v557 : BitVec 1 := Scalar.cmpi .eq v51 c2_i32_558
  let v558 : BitVec 32 := Scalar.extui v557
  let c0_i32_560 : BitVec 32 := 0#32
  let v559 : BitVec 1 := Scalar.cmpi .ne v558 c0_i32_560
  v559

def k0_dev16 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond8 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_561 : BitVec 32 := 3#32
  let v560 : BitVec 1 := Scalar.cmpi .eq v51 c3_i32_561
  let v561 : BitVec 32 := Scalar.extui v560
  let c0_i32_563 : BitVec 32 := 0#32
  let v562 : BitVec 1 := Scalar.cmpi .ne v561 c0_i32_563
  v562

def k0_dev17 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev18 (d0 : Dev nD) : Nat :=
  let c0_i32_582 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_581 : BitVec 32 := 1#32
  let v570 : BitVec 32 := Scalar.muli v99 c1_i32_581
  let v571 : BitVec 32 := Scalar.addi c0_i32_582 v570
  v571.toNat
def k0_cond9 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_587 : BitVec 32 := 0#32
  let v580 : BitVec 1 := Scalar.cmpi .eq v51 c0_i32_587
  let v581 : BitVec 32 := Scalar.extui v580
  let c0_i32_589 : BitVec 32 := 0#32
  let v582 : BitVec 1 := Scalar.cmpi .ne v581 c0_i32_589
  v582

def k0_dev19 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond10 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_590 : BitVec 32 := 1#32
  let v583 : BitVec 1 := Scalar.cmpi .eq v51 c1_i32_590
  let v584 : BitVec 32 := Scalar.extui v583
  let c0_i32_592 : BitVec 32 := 0#32
  let v585 : BitVec 1 := Scalar.cmpi .ne v584 c0_i32_592
  v585

def k0_dev20 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond11 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_593 : BitVec 32 := 3#32
  let v586 : BitVec 1 := Scalar.cmpi .eq v51 c3_i32_593
  let v587 : BitVec 32 := Scalar.extui v586
  let c0_i32_595 : BitVec 32 := 0#32
  let v588 : BitVec 1 := Scalar.cmpi .ne v587 c0_i32_595
  v588

def k0_dev21 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev22 (d0 : Dev nD) : Nat :=
  let c0_i32_614 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_613 : BitVec 32 := 1#32
  let v596 : BitVec 32 := Scalar.muli v147 c1_i32_613
  let v597 : BitVec 32 := Scalar.addi c0_i32_614 v596
  v597.toNat
def k0_cond12 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_619 : BitVec 32 := 0#32
  let v606 : BitVec 1 := Scalar.cmpi .eq v51 c0_i32_619
  let v607 : BitVec 32 := Scalar.extui v606
  let c0_i32_621 : BitVec 32 := 0#32
  let v608 : BitVec 1 := Scalar.cmpi .ne v607 c0_i32_621
  v608

def k0_dev23 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond13 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_622 : BitVec 32 := 2#32
  let v609 : BitVec 1 := Scalar.cmpi .eq v51 c2_i32_622
  let v610 : BitVec 32 := Scalar.extui v609
  let c0_i32_624 : BitVec 32 := 0#32
  let v611 : BitVec 1 := Scalar.cmpi .ne v610 c0_i32_624
  v611

def k0_dev24 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond14 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_625 : BitVec 32 := 3#32
  let v612 : BitVec 1 := Scalar.cmpi .eq v51 c3_i32_625
  let v613 : BitVec 32 := Scalar.extui v612
  let c0_i32_627 : BitVec 32 := 0#32
  let v614 : BitVec 1 := Scalar.cmpi .ne v613 c0_i32_627
  v614

def k0_dev25 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_off2 (d0 : Dev nD) (c1_i32_629 : BitVec 32) (c0_i32_633 : BitVec 32) (c4_i32_636 : BitVec 32) (c8_i32_639 : BitVec 32) (c12_i32_642 : BitVec 32) (c15_i32_645 : BitVec 32) (c11_i32_648 : BitVec 32) (c7_i32_651 : BitVec 32) (c3_i32_654 : BitVec 32) (c2_i32_657 : BitVec 32) (c6_i32_660 : BitVec 32) (c10_i32_663 : BitVec 32) (c14_i32_666 : BitVec 32) (c13_i32_669 : BitVec 32) (c9_i32_672 : BitVec 32) (c5_i32_675 : BitVec 32) : Fin 2 → Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_628 : BitVec 32 := 0#32
  let v615 : BitVec 1 := Scalar.cmpi .eq v2 c0_i32_628
  let c0_i32_630 : BitVec 32 := 0#32
  let v616 : BitVec 32 := Scalar.select v615 c1_i32_629 c0_i32_630
  let v617 : BitVec 32 := Scalar.addi c0_i32_631 v616
  let c4_i32_632 : BitVec 32 := 4#32
  let v618 : BitVec 1 := Scalar.cmpi .eq v2 c4_i32_632
  let c0_i32_634 : BitVec 32 := 0#32
  let v619 : BitVec 32 := Scalar.select v618 c0_i32_633 c0_i32_634
  let v620 : BitVec 32 := Scalar.addi v617 v619
  let c8_i32_635 : BitVec 32 := 8#32
  let v621 : BitVec 1 := Scalar.cmpi .eq v2 c8_i32_635
  let c0_i32_637 : BitVec 32 := 0#32
  let v622 : BitVec 32 := Scalar.select v621 c4_i32_636 c0_i32_637
  let v623 : BitVec 32 := Scalar.addi v620 v622
  let c12_i32_638 : BitVec 32 := 12#32
  let v624 : BitVec 1 := Scalar.cmpi .eq v2 c12_i32_638
  let c0_i32_640 : BitVec 32 := 0#32
  let v625 : BitVec 32 := Scalar.select v624 c8_i32_639 c0_i32_640
  let v626 : BitVec 32 := Scalar.addi v623 v625
  let c15_i32_641 : BitVec 32 := 15#32
  let v627 : BitVec 1 := Scalar.cmpi .eq v2 c15_i32_641
  let c0_i32_643 : BitVec 32 := 0#32
  let v628 : BitVec 32 := Scalar.select v627 c12_i32_642 c0_i32_643
  let v629 : BitVec 32 := Scalar.addi v626 v628
  let c11_i32_644 : BitVec 32 := 11#32
  let v630 : BitVec 1 := Scalar.cmpi .eq v2 c11_i32_644
  let c0_i32_646 : BitVec 32 := 0#32
  let v631 : BitVec 32 := Scalar.select v630 c15_i32_645 c0_i32_646
  let v632 : BitVec 32 := Scalar.addi v629 v631
  let c7_i32_647 : BitVec 32 := 7#32
  let v633 : BitVec 1 := Scalar.cmpi .eq v2 c7_i32_647
  let c0_i32_649 : BitVec 32 := 0#32
  let v634 : BitVec 32 := Scalar.select v633 c11_i32_648 c0_i32_649
  let v635 : BitVec 32 := Scalar.addi v632 v634
  let c3_i32_650 : BitVec 32 := 3#32
  let v636 : BitVec 1 := Scalar.cmpi .eq v2 c3_i32_650
  let c0_i32_652 : BitVec 32 := 0#32
  let v637 : BitVec 32 := Scalar.select v636 c7_i32_651 c0_i32_652
  let v638 : BitVec 32 := Scalar.addi v635 v637
  let c2_i32_653 : BitVec 32 := 2#32
  let v639 : BitVec 1 := Scalar.cmpi .eq v2 c2_i32_653
  let c0_i32_655 : BitVec 32 := 0#32
  let v640 : BitVec 32 := Scalar.select v639 c3_i32_654 c0_i32_655
  let v641 : BitVec 32 := Scalar.addi v638 v640
  let c6_i32_656 : BitVec 32 := 6#32
  let v642 : BitVec 1 := Scalar.cmpi .eq v2 c6_i32_656
  let c0_i32_658 : BitVec 32 := 0#32
  let v643 : BitVec 32 := Scalar.select v642 c2_i32_657 c0_i32_658
  let v644 : BitVec 32 := Scalar.addi v641 v643
  let c10_i32_659 : BitVec 32 := 10#32
  let v645 : BitVec 1 := Scalar.cmpi .eq v2 c10_i32_659
  let c0_i32_661 : BitVec 32 := 0#32
  let v646 : BitVec 32 := Scalar.select v645 c6_i32_660 c0_i32_661
  let v647 : BitVec 32 := Scalar.addi v644 v646
  let c14_i32_662 : BitVec 32 := 14#32
  let v648 : BitVec 1 := Scalar.cmpi .eq v2 c14_i32_662
  let c0_i32_664 : BitVec 32 := 0#32
  let v649 : BitVec 32 := Scalar.select v648 c10_i32_663 c0_i32_664
  let v650 : BitVec 32 := Scalar.addi v647 v649
  let c13_i32_665 : BitVec 32 := 13#32
  let v651 : BitVec 1 := Scalar.cmpi .eq v2 c13_i32_665
  let c0_i32_667 : BitVec 32 := 0#32
  let v652 : BitVec 32 := Scalar.select v651 c14_i32_666 c0_i32_667
  let v653 : BitVec 32 := Scalar.addi v650 v652
  let c9_i32_668 : BitVec 32 := 9#32
  let v654 : BitVec 1 := Scalar.cmpi .eq v2 c9_i32_668
  let c0_i32_670 : BitVec 32 := 0#32
  let v655 : BitVec 32 := Scalar.select v654 c13_i32_669 c0_i32_670
  let v656 : BitVec 32 := Scalar.addi v653 v655
  let c5_i32_671 : BitVec 32 := 5#32
  let v657 : BitVec 1 := Scalar.cmpi .eq v2 c5_i32_671
  let c0_i32_673 : BitVec 32 := 0#32
  let v658 : BitVec 32 := Scalar.select v657 c9_i32_672 c0_i32_673
  let v659 : BitVec 32 := Scalar.addi v656 v658
  let c1_i32_674 : BitVec 32 := 1#32
  let v660 : BitVec 1 := Scalar.cmpi .eq v2 c1_i32_674
  let c0_i32_676 : BitVec 32 := 0#32
  let v661 : BitVec 32 := Scalar.select v660 c5_i32_675 c0_i32_676
  let v662 : BitVec 32 := Scalar.addi v659 v661
  let c128_i32_682 : BitVec 32 := 128#32
  let v668 : BitVec 32 := Scalar.muli v662 c128_i32_682
  let v669 : Index := Scalar.indexCast v668
  let c0_683 : Index := 0#32
  ![v669.toNat, 0]
def k0_off2_at (r : Fin 10) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 5 then
    if r.val < 2 then
      if r.val < 1 then
        (1#32, 0#32, 4#32, 8#32, 12#32, 15#32, 11#32, 7#32, 3#32, 2#32, 6#32, 10#32, 14#32, 13#32, 9#32, 5#32)
      else
        (4#32, 8#32, 12#32, 15#32, 11#32, 7#32, 3#32, 2#32, 6#32, 10#32, 14#32, 13#32, 9#32, 5#32, 1#32, 0#32)
    else
      if r.val < 3 then
        (5#32, 1#32, 0#32, 4#32, 8#32, 12#32, 15#32, 11#32, 7#32, 3#32, 2#32, 6#32, 10#32, 14#32, 13#32, 9#32)
      else
        if r.val < 4 then
          (8#32, 12#32, 15#32, 11#32, 7#32, 3#32, 2#32, 6#32, 10#32, 14#32, 13#32, 9#32, 5#32, 1#32, 0#32, 4#32)
        else
          (9#32, 5#32, 1#32, 0#32, 4#32, 8#32, 12#32, 15#32, 11#32, 7#32, 3#32, 2#32, 6#32, 10#32, 14#32, 13#32)
  else
    if r.val < 7 then
      if r.val < 6 then
        (12#32, 15#32, 11#32, 7#32, 3#32, 2#32, 6#32, 10#32, 14#32, 13#32, 9#32, 5#32, 1#32, 0#32, 4#32, 8#32)
      else
        (13#32, 9#32, 5#32, 1#32, 0#32, 4#32, 8#32, 12#32, 15#32, 11#32, 7#32, 3#32, 2#32, 6#32, 10#32, 14#32)
    else
      if r.val < 8 then
        (15#32, 11#32, 7#32, 3#32, 2#32, 6#32, 10#32, 14#32, 13#32, 9#32, 5#32, 1#32, 0#32, 4#32, 8#32, 12#32)
      else
        if r.val < 9 then
          (14#32, 13#32, 9#32, 5#32, 1#32, 0#32, 4#32, 8#32, 12#32, 15#32, 11#32, 7#32, 3#32, 2#32, 6#32, 10#32)
        else
          (11#32, 7#32, 3#32, 2#32, 6#32, 10#32, 14#32, 13#32, 9#32, 5#32, 1#32, 0#32, 4#32, 8#32, 12#32, 15#32)
def k0_dev26 (d0 : Dev nD) : Nat :=
  let c0_i32_759 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_758 : BitVec 32 := 1#32
  let v734 : BitVec 32 := Scalar.muli v99 c1_i32_758
  let v735 : BitVec 32 := Scalar.addi c0_i32_759 v734
  v735.toNat
def k0_cond15 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_764 : BitVec 32 := 0#32
  let v744 : BitVec 1 := Scalar.cmpi .eq v51 c0_i32_764
  let v745 : BitVec 32 := Scalar.extui v744
  let c0_i32_766 : BitVec 32 := 0#32
  let v746 : BitVec 1 := Scalar.cmpi .ne v745 c0_i32_766
  v746

def k0_dev27 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond16 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_767 : BitVec 32 := 1#32
  let v747 : BitVec 1 := Scalar.cmpi .eq v51 c1_i32_767
  let v748 : BitVec 32 := Scalar.extui v747
  let c0_i32_769 : BitVec 32 := 0#32
  let v749 : BitVec 1 := Scalar.cmpi .ne v748 c0_i32_769
  v749

def k0_dev28 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev29 (d0 : Dev nD) : Nat :=
  let c0_i32_788 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_787 : BitVec 32 := 1#32
  let v757 : BitVec 32 := Scalar.muli v147 c1_i32_787
  let v758 : BitVec 32 := Scalar.addi c0_i32_788 v757
  v758.toNat
def k0_cond17 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_793 : BitVec 32 := 2#32
  let v767 : BitVec 1 := Scalar.cmpi .eq v51 c2_i32_793
  let v768 : BitVec 32 := Scalar.extui v767
  let c0_i32_795 : BitVec 32 := 0#32
  let v769 : BitVec 1 := Scalar.cmpi .ne v768 c0_i32_795
  v769

def k0_dev30 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond18 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_796 : BitVec 32 := 3#32
  let v770 : BitVec 1 := Scalar.cmpi .eq v51 c3_i32_796
  let v771 : BitVec 32 := Scalar.extui v770
  let c0_i32_798 : BitVec 32 := 0#32
  let v772 : BitVec 1 := Scalar.cmpi .ne v771 c0_i32_798
  v772

def k0_dev31 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev32 (d0 : Dev nD) : Nat :=
  let c0_i32_817 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_816 : BitVec 32 := 1#32
  let v780 : BitVec 32 := Scalar.muli v99 c1_i32_816
  let v781 : BitVec 32 := Scalar.addi c0_i32_817 v780
  v781.toNat
def k0_cond19 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_822 : BitVec 32 := 0#32
  let v790 : BitVec 1 := Scalar.cmpi .eq v51 c0_i32_822
  let v791 : BitVec 32 := Scalar.extui v790
  let c0_i32_824 : BitVec 32 := 0#32
  let v792 : BitVec 1 := Scalar.cmpi .ne v791 c0_i32_824
  v792

def k0_dev33 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond20 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_825 : BitVec 32 := 1#32
  let v793 : BitVec 1 := Scalar.cmpi .eq v51 c1_i32_825
  let v794 : BitVec 32 := Scalar.extui v793
  let c0_i32_827 : BitVec 32 := 0#32
  let v795 : BitVec 1 := Scalar.cmpi .ne v794 c0_i32_827
  v795

def k0_dev34 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev35 (d0 : Dev nD) : Nat :=
  let c0_i32_846 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_845 : BitVec 32 := 1#32
  let v803 : BitVec 32 := Scalar.muli v147 c1_i32_845
  let v804 : BitVec 32 := Scalar.addi c0_i32_846 v803
  v804.toNat
def k0_cond21 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_851 : BitVec 32 := 2#32
  let v813 : BitVec 1 := Scalar.cmpi .eq v51 c2_i32_851
  let v814 : BitVec 32 := Scalar.extui v813
  let c0_i32_853 : BitVec 32 := 0#32
  let v815 : BitVec 1 := Scalar.cmpi .ne v814 c0_i32_853
  v815

def k0_dev36 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond22 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_854 : BitVec 32 := 3#32
  let v816 : BitVec 1 := Scalar.cmpi .eq v51 c3_i32_854
  let v817 : BitVec 32 := Scalar.extui v816
  let c0_i32_856 : BitVec 32 := 0#32
  let v818 : BitVec 1 := Scalar.cmpi .ne v817 c0_i32_856
  v818

def k0_dev37 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev38 (d0 : Dev nD) : Nat :=
  let c0_i32_988 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_987 : BitVec 32 := 1#32
  let v938 : BitVec 32 := Scalar.muli v99 c1_i32_987
  let v939 : BitVec 32 := Scalar.addi c0_i32_988 v938
  v939.toNat
def k0_cond23 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_993 : BitVec 32 := 0#32
  let v948 : BitVec 1 := Scalar.cmpi .eq v51 c0_i32_993
  let v949 : BitVec 32 := Scalar.extui v948
  let c0_i32_995 : BitVec 32 := 0#32
  let v950 : BitVec 1 := Scalar.cmpi .ne v949 c0_i32_995
  v950

def k0_dev39 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond24 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_996 : BitVec 32 := 1#32
  let v951 : BitVec 1 := Scalar.cmpi .eq v51 c1_i32_996
  let v952 : BitVec 32 := Scalar.extui v951
  let c0_i32_998 : BitVec 32 := 0#32
  let v953 : BitVec 1 := Scalar.cmpi .ne v952 c0_i32_998
  v953

def k0_dev40 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond25 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_999 : BitVec 32 := 2#32
  let v954 : BitVec 1 := Scalar.cmpi .eq v51 c2_i32_999
  let v955 : BitVec 32 := Scalar.extui v954
  let c0_i32_1001 : BitVec 32 := 0#32
  let v956 : BitVec 1 := Scalar.cmpi .ne v955 c0_i32_1001
  v956

def k0_dev41 (d0 : Dev nD) : Nat :=
  let c0_i32_3082 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_338 : BitVec 32 := 1#32
  let v352 : BitVec 1 := Scalar.cmpi .eq v51 c1_i32_338
  let c0_i32_342 : BitVec 32 := 0#32
  let c0_i32_339 : BitVec 32 := 0#32
  let v353 : BitVec 1 := Scalar.cmpi .eq v2 c0_i32_339
  let c9_i32_340 : BitVec 32 := 9#32
  let c0_i32_341 : BitVec 32 := 0#32
  let v354 : BitVec 32 := Scalar.select v353 c9_i32_340 c0_i32_341
  let v355 : BitVec 32 := Scalar.addi c0_i32_342 v354
  let c4_i32_343 : BitVec 32 := 4#32
  let v356 : BitVec 1 := Scalar.cmpi .eq v2 c4_i32_343
  let c5_i32_344 : BitVec 32 := 5#32
  let c0_i32_345 : BitVec 32 := 0#32
  let v357 : BitVec 32 := Scalar.select v356 c5_i32_344 c0_i32_345
  let v358 : BitVec 32 := Scalar.addi v355 v357
  let c8_i32_346 : BitVec 32 := 8#32
  let v359 : BitVec 1 := Scalar.cmpi .eq v2 c8_i32_346
  let c1_i32_347 : BitVec 32 := 1#32
  let c0_i32_348 : BitVec 32 := 0#32
  let v360 : BitVec 32 := Scalar.select v359 c1_i32_347 c0_i32_348
  let v361 : BitVec 32 := Scalar.addi v358 v360
  let c12_i32_349 : BitVec 32 := 12#32
  let v362 : BitVec 1 := Scalar.cmpi .eq v2 c12_i32_349
  let c0_i32_350 : BitVec 32 := 0#32
  let c0_i32_351 : BitVec 32 := 0#32
  let v363 : BitVec 32 := Scalar.select v362 c0_i32_350 c0_i32_351
  let v364 : BitVec 32 := Scalar.addi v361 v363
  let c15_i32_352 : BitVec 32 := 15#32
  let v365 : BitVec 1 := Scalar.cmpi .eq v2 c15_i32_352
  let c4_i32_353 : BitVec 32 := 4#32
  let c0_i32_354 : BitVec 32 := 0#32
  let v366 : BitVec 32 := Scalar.select v365 c4_i32_353 c0_i32_354
  let v367 : BitVec 32 := Scalar.addi v364 v366
  let c11_i32_355 : BitVec 32 := 11#32
  let v368 : BitVec 1 := Scalar.cmpi .eq v2 c11_i32_355
  let c8_i32_356 : BitVec 32 := 8#32
  let c0_i32_357 : BitVec 32 := 0#32
  let v369 : BitVec 32 := Scalar.select v368 c8_i32_356 c0_i32_357
  let v370 : BitVec 32 := Scalar.addi v367 v369
  let c7_i32_358 : BitVec 32 := 7#32
  let v371 : BitVec 1 := Scalar.cmpi .eq v2 c7_i32_358
  let c12_i32_359 : BitVec 32 := 12#32
  let c0_i32_360 : BitVec 32 := 0#32
  let v372 : BitVec 32 := Scalar.select v371 c12_i32_359 c0_i32_360
  let v373 : BitVec 32 := Scalar.addi v370 v372
  let c3_i32_361 : BitVec 32 := 3#32
  let v374 : BitVec 1 := Scalar.cmpi .eq v2 c3_i32_361
  let c15_i32_362 : BitVec 32 := 15#32
  let c0_i32_363 : BitVec 32 := 0#32
  let v375 : BitVec 32 := Scalar.select v374 c15_i32_362 c0_i32_363
  let v376 : BitVec 32 := Scalar.addi v373 v375
  let c2_i32_364 : BitVec 32 := 2#32
  let v377 : BitVec 1 := Scalar.cmpi .eq v2 c2_i32_364
  let c11_i32_365 : BitVec 32 := 11#32
  let c0_i32_366 : BitVec 32 := 0#32
  let v378 : BitVec 32 := Scalar.select v377 c11_i32_365 c0_i32_366
  let v379 : BitVec 32 := Scalar.addi v376 v378
  let c6_i32_367 : BitVec 32 := 6#32
  let v380 : BitVec 1 := Scalar.cmpi .eq v2 c6_i32_367
  let c7_i32_368 : BitVec 32 := 7#32
  let c0_i32_369 : BitVec 32 := 0#32
  let v381 : BitVec 32 := Scalar.select v380 c7_i32_368 c0_i32_369
  let v382 : BitVec 32 := Scalar.addi v379 v381
  let c10_i32_370 : BitVec 32 := 10#32
  let v383 : BitVec 1 := Scalar.cmpi .eq v2 c10_i32_370
  let c3_i32_371 : BitVec 32 := 3#32
  let c0_i32_372 : BitVec 32 := 0#32
  let v384 : BitVec 32 := Scalar.select v383 c3_i32_371 c0_i32_372
  let v385 : BitVec 32 := Scalar.addi v382 v384
  let c14_i32_373 : BitVec 32 := 14#32
  let v386 : BitVec 1 := Scalar.cmpi .eq v2 c14_i32_373
  let c2_i32_374 : BitVec 32 := 2#32
  let c0_i32_375 : BitVec 32 := 0#32
  let v387 : BitVec 32 := Scalar.select v386 c2_i32_374 c0_i32_375
  let v388 : BitVec 32 := Scalar.addi v385 v387
  let c13_i32_376 : BitVec 32 := 13#32
  let v389 : BitVec 1 := Scalar.cmpi .eq v2 c13_i32_376
  let c6_i32_377 : BitVec 32 := 6#32
  let c0_i32_378 : BitVec 32 := 0#32
  let v390 : BitVec 32 := Scalar.select v389 c6_i32_377 c0_i32_378
  let v391 : BitVec 32 := Scalar.addi v388 v390
  let c9_i32_379 : BitVec 32 := 9#32
  let v392 : BitVec 1 := Scalar.cmpi .eq v2 c9_i32_379
  let c10_i32_380 : BitVec 32 := 10#32
  let c0_i32_381 : BitVec 32 := 0#32
  let v393 : BitVec 32 := Scalar.select v392 c10_i32_380 c0_i32_381
  let v394 : BitVec 32 := Scalar.addi v391 v393
  let c5_i32_382 : BitVec 32 := 5#32
  let v395 : BitVec 1 := Scalar.cmpi .eq v2 c5_i32_382
  let c14_i32_383 : BitVec 32 := 14#32
  let c0_i32_384 : BitVec 32 := 0#32
  let v396 : BitVec 32 := Scalar.select v395 c14_i32_383 c0_i32_384
  let v397 : BitVec 32 := Scalar.addi v394 v396
  let c1_i32_385 : BitVec 32 := 1#32
  let v398 : BitVec 1 := Scalar.cmpi .eq v2 c1_i32_385
  let c13_i32_386 : BitVec 32 := 13#32
  let c0_i32_387 : BitVec 32 := 0#32
  let v399 : BitVec 32 := Scalar.select v398 c13_i32_386 c0_i32_387
  let v400 : BitVec 32 := Scalar.addi v397 v399
  let c0_i32_391 : BitVec 32 := 0#32
  let c0_i32_388 : BitVec 32 := 0#32
  let v401 : BitVec 1 := Scalar.cmpi .eq v2 c0_i32_388
  let c12_i32_389 : BitVec 32 := 12#32
  let c0_i32_390 : BitVec 32 := 0#32
  let v402 : BitVec 32 := Scalar.select v401 c12_i32_389 c0_i32_390
  let v403 : BitVec 32 := Scalar.addi c0_i32_391 v402
  let c4_i32_392 : BitVec 32 := 4#32
  let v404 : BitVec 1 := Scalar.cmpi .eq v2 c4_i32_392
  let c15_i32_393 : BitVec 32 := 15#32
  let c0_i32_394 : BitVec 32 := 0#32
  let v405 : BitVec 32 := Scalar.select v404 c15_i32_393 c0_i32_394
  let v406 : BitVec 32 := Scalar.addi v403 v405
  let c8_i32_395 : BitVec 32 := 8#32
  let v407 : BitVec 1 := Scalar.cmpi .eq v2 c8_i32_395
  let c11_i32_396 : BitVec 32 := 11#32
  let c0_i32_397 : BitVec 32 := 0#32
  let v408 : BitVec 32 := Scalar.select v407 c11_i32_396 c0_i32_397
  let v409 : BitVec 32 := Scalar.addi v406 v408
  let c12_i32_398 : BitVec 32 := 12#32
  let v410 : BitVec 1 := Scalar.cmpi .eq v2 c12_i32_398
  let c7_i32_399 : BitVec 32 := 7#32
  let c0_i32_400 : BitVec 32 := 0#32
  let v411 : BitVec 32 := Scalar.select v410 c7_i32_399 c0_i32_400
  let v412 : BitVec 32 := Scalar.addi v409 v411
  let c15_i32_401 : BitVec 32 := 15#32
  let v413 : BitVec 1 := Scalar.cmpi .eq v2 c15_i32_401
  let c3_i32_402 : BitVec 32 := 3#32
  let c0_i32_403 : BitVec 32 := 0#32
  let v414 : BitVec 32 := Scalar.select v413 c3_i32_402 c0_i32_403
  let v415 : BitVec 32 := Scalar.addi v412 v414
  let c11_i32_404 : BitVec 32 := 11#32
  let v416 : BitVec 1 := Scalar.cmpi .eq v2 c11_i32_404
  let c2_i32_405 : BitVec 32 := 2#32
  let c0_i32_406 : BitVec 32 := 0#32
  let v417 : BitVec 32 := Scalar.select v416 c2_i32_405 c0_i32_406
  let v418 : BitVec 32 := Scalar.addi v415 v417
  let c7_i32_407 : BitVec 32 := 7#32
  let v419 : BitVec 1 := Scalar.cmpi .eq v2 c7_i32_407
  let c6_i32_408 : BitVec 32 := 6#32
  let c0_i32_409 : BitVec 32 := 0#32
  let v420 : BitVec 32 := Scalar.select v419 c6_i32_408 c0_i32_409
  let v421 : BitVec 32 := Scalar.addi v418 v420
  let c3_i32_410 : BitVec 32 := 3#32
  let v422 : BitVec 1 := Scalar.cmpi .eq v2 c3_i32_410
  let c10_i32_411 : BitVec 32 := 10#32
  let c0_i32_412 : BitVec 32 := 0#32
  let v423 : BitVec 32 := Scalar.select v422 c10_i32_411 c0_i32_412
  let v424 : BitVec 32 := Scalar.addi v421 v423
  let c2_i32_413 : BitVec 32 := 2#32
  let v425 : BitVec 1 := Scalar.cmpi .eq v2 c2_i32_413
  let c14_i32_414 : BitVec 32 := 14#32
  let c0_i32_415 : BitVec 32 := 0#32
  let v426 : BitVec 32 := Scalar.select v425 c14_i32_414 c0_i32_415
  let v427 : BitVec 32 := Scalar.addi v424 v426
  let c6_i32_416 : BitVec 32 := 6#32
  let v428 : BitVec 1 := Scalar.cmpi .eq v2 c6_i32_416
  let c13_i32_417 : BitVec 32 := 13#32
  let c0_i32_418 : BitVec 32 := 0#32
  let v429 : BitVec 32 := Scalar.select v428 c13_i32_417 c0_i32_418
  let v430 : BitVec 32 := Scalar.addi v427 v429
  let c10_i32_419 : BitVec 32 := 10#32
  let v431 : BitVec 1 := Scalar.cmpi .eq v2 c10_i32_419
  let c9_i32_420 : BitVec 32 := 9#32
  let c0_i32_421 : BitVec 32 := 0#32
  let v432 : BitVec 32 := Scalar.select v431 c9_i32_420 c0_i32_421
  let v433 : BitVec 32 := Scalar.addi v430 v432
  let c14_i32_422 : BitVec 32 := 14#32
  let v434 : BitVec 1 := Scalar.cmpi .eq v2 c14_i32_422
  let c5_i32_423 : BitVec 32 := 5#32
  let c0_i32_424 : BitVec 32 := 0#32
  let v435 : BitVec 32 := Scalar.select v434 c5_i32_423 c0_i32_424
  let v436 : BitVec 32 := Scalar.addi v433 v435
  let c13_i32_425 : BitVec 32 := 13#32
  let v437 : BitVec 1 := Scalar.cmpi .eq v2 c13_i32_425
  let c1_i32_426 : BitVec 32 := 1#32
  let c0_i32_427 : BitVec 32 := 0#32
  let v438 : BitVec 32 := Scalar.select v437 c1_i32_426 c0_i32_427
  let v439 : BitVec 32 := Scalar.addi v436 v438
  let c9_i32_428 : BitVec 32 := 9#32
  let v440 : BitVec 1 := Scalar.cmpi .eq v2 c9_i32_428
  let c0_i32_429 : BitVec 32 := 0#32
  let c0_i32_430 : BitVec 32 := 0#32
  let v441 : BitVec 32 := Scalar.select v440 c0_i32_429 c0_i32_430
  let v442 : BitVec 32 := Scalar.addi v439 v441
  let c5_i32_431 : BitVec 32 := 5#32
  let v443 : BitVec 1 := Scalar.cmpi .eq v2 c5_i32_431
  let c4_i32_432 : BitVec 32 := 4#32
  let c0_i32_433 : BitVec 32 := 0#32
  let v444 : BitVec 32 := Scalar.select v443 c4_i32_432 c0_i32_433
  let v445 : BitVec 32 := Scalar.addi v442 v444
  let c1_i32_434 : BitVec 32 := 1#32
  let v446 : BitVec 1 := Scalar.cmpi .eq v2 c1_i32_434
  let c8_i32_435 : BitVec 32 := 8#32
  let c0_i32_436 : BitVec 32 := 0#32
  let v447 : BitVec 32 := Scalar.select v446 c8_i32_435 c0_i32_436
  let v448 : BitVec 32 := Scalar.addi v445 v447
  let v449 : BitVec 32 := Scalar.select v352 v400 v448
  let c1_i32_3081 : BitVec 32 := 1#32
  let v2775 : BitVec 32 := Scalar.muli v449 c1_i32_3081
  let v2776 : BitVec 32 := Scalar.addi c0_i32_3082 v2775
  v2776.toNat
def k0_dev42 (d0 : Dev nD) : Nat :=
  let c0_i32_1020 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_1019 : BitVec 32 := 1#32
  let v964 : BitVec 32 := Scalar.muli v147 c1_i32_1019
  let v965 : BitVec 32 := Scalar.addi c0_i32_1020 v964
  v965.toNat
def k0_cond26 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_1025 : BitVec 32 := 1#32
  let v974 : BitVec 1 := Scalar.cmpi .eq v51 c1_i32_1025
  let v975 : BitVec 32 := Scalar.extui v974
  let c0_i32_1027 : BitVec 32 := 0#32
  let v976 : BitVec 1 := Scalar.cmpi .ne v975 c0_i32_1027
  v976

def k0_dev43 (d0 : Dev nD) : Nat :=
  let c0_i32_3082 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_338 : BitVec 32 := 1#32
  let v352 : BitVec 1 := Scalar.cmpi .eq v51 c1_i32_338
  let c0_i32_342 : BitVec 32 := 0#32
  let c0_i32_339 : BitVec 32 := 0#32
  let v353 : BitVec 1 := Scalar.cmpi .eq v2 c0_i32_339
  let c9_i32_340 : BitVec 32 := 9#32
  let c0_i32_341 : BitVec 32 := 0#32
  let v354 : BitVec 32 := Scalar.select v353 c9_i32_340 c0_i32_341
  let v355 : BitVec 32 := Scalar.addi c0_i32_342 v354
  let c4_i32_343 : BitVec 32 := 4#32
  let v356 : BitVec 1 := Scalar.cmpi .eq v2 c4_i32_343
  let c5_i32_344 : BitVec 32 := 5#32
  let c0_i32_345 : BitVec 32 := 0#32
  let v357 : BitVec 32 := Scalar.select v356 c5_i32_344 c0_i32_345
  let v358 : BitVec 32 := Scalar.addi v355 v357
  let c8_i32_346 : BitVec 32 := 8#32
  let v359 : BitVec 1 := Scalar.cmpi .eq v2 c8_i32_346
  let c1_i32_347 : BitVec 32 := 1#32
  let c0_i32_348 : BitVec 32 := 0#32
  let v360 : BitVec 32 := Scalar.select v359 c1_i32_347 c0_i32_348
  let v361 : BitVec 32 := Scalar.addi v358 v360
  let c12_i32_349 : BitVec 32 := 12#32
  let v362 : BitVec 1 := Scalar.cmpi .eq v2 c12_i32_349
  let c0_i32_350 : BitVec 32 := 0#32
  let c0_i32_351 : BitVec 32 := 0#32
  let v363 : BitVec 32 := Scalar.select v362 c0_i32_350 c0_i32_351
  let v364 : BitVec 32 := Scalar.addi v361 v363
  let c15_i32_352 : BitVec 32 := 15#32
  let v365 : BitVec 1 := Scalar.cmpi .eq v2 c15_i32_352
  let c4_i32_353 : BitVec 32 := 4#32
  let c0_i32_354 : BitVec 32 := 0#32
  let v366 : BitVec 32 := Scalar.select v365 c4_i32_353 c0_i32_354
  let v367 : BitVec 32 := Scalar.addi v364 v366
  let c11_i32_355 : BitVec 32 := 11#32
  let v368 : BitVec 1 := Scalar.cmpi .eq v2 c11_i32_355
  let c8_i32_356 : BitVec 32 := 8#32
  let c0_i32_357 : BitVec 32 := 0#32
  let v369 : BitVec 32 := Scalar.select v368 c8_i32_356 c0_i32_357
  let v370 : BitVec 32 := Scalar.addi v367 v369
  let c7_i32_358 : BitVec 32 := 7#32
  let v371 : BitVec 1 := Scalar.cmpi .eq v2 c7_i32_358
  let c12_i32_359 : BitVec 32 := 12#32
  let c0_i32_360 : BitVec 32 := 0#32
  let v372 : BitVec 32 := Scalar.select v371 c12_i32_359 c0_i32_360
  let v373 : BitVec 32 := Scalar.addi v370 v372
  let c3_i32_361 : BitVec 32 := 3#32
  let v374 : BitVec 1 := Scalar.cmpi .eq v2 c3_i32_361
  let c15_i32_362 : BitVec 32 := 15#32
  let c0_i32_363 : BitVec 32 := 0#32
  let v375 : BitVec 32 := Scalar.select v374 c15_i32_362 c0_i32_363
  let v376 : BitVec 32 := Scalar.addi v373 v375
  let c2_i32_364 : BitVec 32 := 2#32
  let v377 : BitVec 1 := Scalar.cmpi .eq v2 c2_i32_364
  let c11_i32_365 : BitVec 32 := 11#32
  let c0_i32_366 : BitVec 32 := 0#32
  let v378 : BitVec 32 := Scalar.select v377 c11_i32_365 c0_i32_366
  let v379 : BitVec 32 := Scalar.addi v376 v378
  let c6_i32_367 : BitVec 32 := 6#32
  let v380 : BitVec 1 := Scalar.cmpi .eq v2 c6_i32_367
  let c7_i32_368 : BitVec 32 := 7#32
  let c0_i32_369 : BitVec 32 := 0#32
  let v381 : BitVec 32 := Scalar.select v380 c7_i32_368 c0_i32_369
  let v382 : BitVec 32 := Scalar.addi v379 v381
  let c10_i32_370 : BitVec 32 := 10#32
  let v383 : BitVec 1 := Scalar.cmpi .eq v2 c10_i32_370
  let c3_i32_371 : BitVec 32 := 3#32
  let c0_i32_372 : BitVec 32 := 0#32
  let v384 : BitVec 32 := Scalar.select v383 c3_i32_371 c0_i32_372
  let v385 : BitVec 32 := Scalar.addi v382 v384
  let c14_i32_373 : BitVec 32 := 14#32
  let v386 : BitVec 1 := Scalar.cmpi .eq v2 c14_i32_373
  let c2_i32_374 : BitVec 32 := 2#32
  let c0_i32_375 : BitVec 32 := 0#32
  let v387 : BitVec 32 := Scalar.select v386 c2_i32_374 c0_i32_375
  let v388 : BitVec 32 := Scalar.addi v385 v387
  let c13_i32_376 : BitVec 32 := 13#32
  let v389 : BitVec 1 := Scalar.cmpi .eq v2 c13_i32_376
  let c6_i32_377 : BitVec 32 := 6#32
  let c0_i32_378 : BitVec 32 := 0#32
  let v390 : BitVec 32 := Scalar.select v389 c6_i32_377 c0_i32_378
  let v391 : BitVec 32 := Scalar.addi v388 v390
  let c9_i32_379 : BitVec 32 := 9#32
  let v392 : BitVec 1 := Scalar.cmpi .eq v2 c9_i32_379
  let c10_i32_380 : BitVec 32 := 10#32
  let c0_i32_381 : BitVec 32 := 0#32
  let v393 : BitVec 32 := Scalar.select v392 c10_i32_380 c0_i32_381
  let v394 : BitVec 32 := Scalar.addi v391 v393
  let c5_i32_382 : BitVec 32 := 5#32
  let v395 : BitVec 1 := Scalar.cmpi .eq v2 c5_i32_382
  let c14_i32_383 : BitVec 32 := 14#32
  let c0_i32_384 : BitVec 32 := 0#32
  let v396 : BitVec 32 := Scalar.select v395 c14_i32_383 c0_i32_384
  let v397 : BitVec 32 := Scalar.addi v394 v396
  let c1_i32_385 : BitVec 32 := 1#32
  let v398 : BitVec 1 := Scalar.cmpi .eq v2 c1_i32_385
  let c13_i32_386 : BitVec 32 := 13#32
  let c0_i32_387 : BitVec 32 := 0#32
  let v399 : BitVec 32 := Scalar.select v398 c13_i32_386 c0_i32_387
  let v400 : BitVec 32 := Scalar.addi v397 v399
  let c0_i32_391 : BitVec 32 := 0#32
  let c0_i32_388 : BitVec 32 := 0#32
  let v401 : BitVec 1 := Scalar.cmpi .eq v2 c0_i32_388
  let c12_i32_389 : BitVec 32 := 12#32
  let c0_i32_390 : BitVec 32 := 0#32
  let v402 : BitVec 32 := Scalar.select v401 c12_i32_389 c0_i32_390
  let v403 : BitVec 32 := Scalar.addi c0_i32_391 v402
  let c4_i32_392 : BitVec 32 := 4#32
  let v404 : BitVec 1 := Scalar.cmpi .eq v2 c4_i32_392
  let c15_i32_393 : BitVec 32 := 15#32
  let c0_i32_394 : BitVec 32 := 0#32
  let v405 : BitVec 32 := Scalar.select v404 c15_i32_393 c0_i32_394
  let v406 : BitVec 32 := Scalar.addi v403 v405
  let c8_i32_395 : BitVec 32 := 8#32
  let v407 : BitVec 1 := Scalar.cmpi .eq v2 c8_i32_395
  let c11_i32_396 : BitVec 32 := 11#32
  let c0_i32_397 : BitVec 32 := 0#32
  let v408 : BitVec 32 := Scalar.select v407 c11_i32_396 c0_i32_397
  let v409 : BitVec 32 := Scalar.addi v406 v408
  let c12_i32_398 : BitVec 32 := 12#32
  let v410 : BitVec 1 := Scalar.cmpi .eq v2 c12_i32_398
  let c7_i32_399 : BitVec 32 := 7#32
  let c0_i32_400 : BitVec 32 := 0#32
  let v411 : BitVec 32 := Scalar.select v410 c7_i32_399 c0_i32_400
  let v412 : BitVec 32 := Scalar.addi v409 v411
  let c15_i32_401 : BitVec 32 := 15#32
  let v413 : BitVec 1 := Scalar.cmpi .eq v2 c15_i32_401
  let c3_i32_402 : BitVec 32 := 3#32
  let c0_i32_403 : BitVec 32 := 0#32
  let v414 : BitVec 32 := Scalar.select v413 c3_i32_402 c0_i32_403
  let v415 : BitVec 32 := Scalar.addi v412 v414
  let c11_i32_404 : BitVec 32 := 11#32
  let v416 : BitVec 1 := Scalar.cmpi .eq v2 c11_i32_404
  let c2_i32_405 : BitVec 32 := 2#32
  let c0_i32_406 : BitVec 32 := 0#32
  let v417 : BitVec 32 := Scalar.select v416 c2_i32_405 c0_i32_406
  let v418 : BitVec 32 := Scalar.addi v415 v417
  let c7_i32_407 : BitVec 32 := 7#32
  let v419 : BitVec 1 := Scalar.cmpi .eq v2 c7_i32_407
  let c6_i32_408 : BitVec 32 := 6#32
  let c0_i32_409 : BitVec 32 := 0#32
  let v420 : BitVec 32 := Scalar.select v419 c6_i32_408 c0_i32_409
  let v421 : BitVec 32 := Scalar.addi v418 v420
  let c3_i32_410 : BitVec 32 := 3#32
  let v422 : BitVec 1 := Scalar.cmpi .eq v2 c3_i32_410
  let c10_i32_411 : BitVec 32 := 10#32
  let c0_i32_412 : BitVec 32 := 0#32
  let v423 : BitVec 32 := Scalar.select v422 c10_i32_411 c0_i32_412
  let v424 : BitVec 32 := Scalar.addi v421 v423
  let c2_i32_413 : BitVec 32 := 2#32
  let v425 : BitVec 1 := Scalar.cmpi .eq v2 c2_i32_413
  let c14_i32_414 : BitVec 32 := 14#32
  let c0_i32_415 : BitVec 32 := 0#32
  let v426 : BitVec 32 := Scalar.select v425 c14_i32_414 c0_i32_415
  let v427 : BitVec 32 := Scalar.addi v424 v426
  let c6_i32_416 : BitVec 32 := 6#32
  let v428 : BitVec 1 := Scalar.cmpi .eq v2 c6_i32_416
  let c13_i32_417 : BitVec 32 := 13#32
  let c0_i32_418 : BitVec 32 := 0#32
  let v429 : BitVec 32 := Scalar.select v428 c13_i32_417 c0_i32_418
  let v430 : BitVec 32 := Scalar.addi v427 v429
  let c10_i32_419 : BitVec 32 := 10#32
  let v431 : BitVec 1 := Scalar.cmpi .eq v2 c10_i32_419
  let c9_i32_420 : BitVec 32 := 9#32
  let c0_i32_421 : BitVec 32 := 0#32
  let v432 : BitVec 32 := Scalar.select v431 c9_i32_420 c0_i32_421
  let v433 : BitVec 32 := Scalar.addi v430 v432
  let c14_i32_422 : BitVec 32 := 14#32
  let v434 : BitVec 1 := Scalar.cmpi .eq v2 c14_i32_422
  let c5_i32_423 : BitVec 32 := 5#32
  let c0_i32_424 : BitVec 32 := 0#32
  let v435 : BitVec 32 := Scalar.select v434 c5_i32_423 c0_i32_424
  let v436 : BitVec 32 := Scalar.addi v433 v435
  let c13_i32_425 : BitVec 32 := 13#32
  let v437 : BitVec 1 := Scalar.cmpi .eq v2 c13_i32_425
  let c1_i32_426 : BitVec 32 := 1#32
  let c0_i32_427 : BitVec 32 := 0#32
  let v438 : BitVec 32 := Scalar.select v437 c1_i32_426 c0_i32_427
  let v439 : BitVec 32 := Scalar.addi v436 v438
  let c9_i32_428 : BitVec 32 := 9#32
  let v440 : BitVec 1 := Scalar.cmpi .eq v2 c9_i32_428
  let c0_i32_429 : BitVec 32 := 0#32
  let c0_i32_430 : BitVec 32 := 0#32
  let v441 : BitVec 32 := Scalar.select v440 c0_i32_429 c0_i32_430
  let v442 : BitVec 32 := Scalar.addi v439 v441
  let c5_i32_431 : BitVec 32 := 5#32
  let v443 : BitVec 1 := Scalar.cmpi .eq v2 c5_i32_431
  let c4_i32_432 : BitVec 32 := 4#32
  let c0_i32_433 : BitVec 32 := 0#32
  let v444 : BitVec 32 := Scalar.select v443 c4_i32_432 c0_i32_433
  let v445 : BitVec 32 := Scalar.addi v442 v444
  let c1_i32_434 : BitVec 32 := 1#32
  let v446 : BitVec 1 := Scalar.cmpi .eq v2 c1_i32_434
  let c8_i32_435 : BitVec 32 := 8#32
  let c0_i32_436 : BitVec 32 := 0#32
  let v447 : BitVec 32 := Scalar.select v446 c8_i32_435 c0_i32_436
  let v448 : BitVec 32 := Scalar.addi v445 v447
  let v449 : BitVec 32 := Scalar.select v352 v400 v448
  let c1_i32_3081 : BitVec 32 := 1#32
  let v2775 : BitVec 32 := Scalar.muli v449 c1_i32_3081
  let v2776 : BitVec 32 := Scalar.addi c0_i32_3082 v2775
  v2776.toNat
def k0_cond27 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_1028 : BitVec 32 := 2#32
  let v977 : BitVec 1 := Scalar.cmpi .eq v51 c2_i32_1028
  let v978 : BitVec 32 := Scalar.extui v977
  let c0_i32_1030 : BitVec 32 := 0#32
  let v979 : BitVec 1 := Scalar.cmpi .ne v978 c0_i32_1030
  v979

def k0_dev44 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond28 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_1031 : BitVec 32 := 3#32
  let v980 : BitVec 1 := Scalar.cmpi .eq v51 c3_i32_1031
  let v981 : BitVec 32 := Scalar.extui v980
  let c0_i32_1033 : BitVec 32 := 0#32
  let v982 : BitVec 1 := Scalar.cmpi .ne v981 c0_i32_1033
  v982

def k0_dev45 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev46 (d0 : Dev nD) : Nat :=
  let c0_i32_1052 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_1051 : BitVec 32 := 1#32
  let v990 : BitVec 32 := Scalar.muli v99 c1_i32_1051
  let v991 : BitVec 32 := Scalar.addi c0_i32_1052 v990
  v991.toNat
def k0_cond29 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_1057 : BitVec 32 := 0#32
  let v1000 : BitVec 1 := Scalar.cmpi .eq v51 c0_i32_1057
  let v1001 : BitVec 32 := Scalar.extui v1000
  let c0_i32_1059 : BitVec 32 := 0#32
  let v1002 : BitVec 1 := Scalar.cmpi .ne v1001 c0_i32_1059
  v1002

def k0_dev47 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond30 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_1060 : BitVec 32 := 1#32
  let v1003 : BitVec 1 := Scalar.cmpi .eq v51 c1_i32_1060
  let v1004 : BitVec 32 := Scalar.extui v1003
  let c0_i32_1062 : BitVec 32 := 0#32
  let v1005 : BitVec 1 := Scalar.cmpi .ne v1004 c0_i32_1062
  v1005

def k0_dev48 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond31 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_1063 : BitVec 32 := 2#32
  let v1006 : BitVec 1 := Scalar.cmpi .eq v51 c2_i32_1063
  let v1007 : BitVec 32 := Scalar.extui v1006
  let c0_i32_1065 : BitVec 32 := 0#32
  let v1008 : BitVec 1 := Scalar.cmpi .ne v1007 c0_i32_1065
  v1008

def k0_dev49 (d0 : Dev nD) : Nat :=
  let c0_i32_3082 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_338 : BitVec 32 := 1#32
  let v352 : BitVec 1 := Scalar.cmpi .eq v51 c1_i32_338
  let c0_i32_342 : BitVec 32 := 0#32
  let c0_i32_339 : BitVec 32 := 0#32
  let v353 : BitVec 1 := Scalar.cmpi .eq v2 c0_i32_339
  let c9_i32_340 : BitVec 32 := 9#32
  let c0_i32_341 : BitVec 32 := 0#32
  let v354 : BitVec 32 := Scalar.select v353 c9_i32_340 c0_i32_341
  let v355 : BitVec 32 := Scalar.addi c0_i32_342 v354
  let c4_i32_343 : BitVec 32 := 4#32
  let v356 : BitVec 1 := Scalar.cmpi .eq v2 c4_i32_343
  let c5_i32_344 : BitVec 32 := 5#32
  let c0_i32_345 : BitVec 32 := 0#32
  let v357 : BitVec 32 := Scalar.select v356 c5_i32_344 c0_i32_345
  let v358 : BitVec 32 := Scalar.addi v355 v357
  let c8_i32_346 : BitVec 32 := 8#32
  let v359 : BitVec 1 := Scalar.cmpi .eq v2 c8_i32_346
  let c1_i32_347 : BitVec 32 := 1#32
  let c0_i32_348 : BitVec 32 := 0#32
  let v360 : BitVec 32 := Scalar.select v359 c1_i32_347 c0_i32_348
  let v361 : BitVec 32 := Scalar.addi v358 v360
  let c12_i32_349 : BitVec 32 := 12#32
  let v362 : BitVec 1 := Scalar.cmpi .eq v2 c12_i32_349
  let c0_i32_350 : BitVec 32 := 0#32
  let c0_i32_351 : BitVec 32 := 0#32
  let v363 : BitVec 32 := Scalar.select v362 c0_i32_350 c0_i32_351
  let v364 : BitVec 32 := Scalar.addi v361 v363
  let c15_i32_352 : BitVec 32 := 15#32
  let v365 : BitVec 1 := Scalar.cmpi .eq v2 c15_i32_352
  let c4_i32_353 : BitVec 32 := 4#32
  let c0_i32_354 : BitVec 32 := 0#32
  let v366 : BitVec 32 := Scalar.select v365 c4_i32_353 c0_i32_354
  let v367 : BitVec 32 := Scalar.addi v364 v366
  let c11_i32_355 : BitVec 32 := 11#32
  let v368 : BitVec 1 := Scalar.cmpi .eq v2 c11_i32_355
  let c8_i32_356 : BitVec 32 := 8#32
  let c0_i32_357 : BitVec 32 := 0#32
  let v369 : BitVec 32 := Scalar.select v368 c8_i32_356 c0_i32_357
  let v370 : BitVec 32 := Scalar.addi v367 v369
  let c7_i32_358 : BitVec 32 := 7#32
  let v371 : BitVec 1 := Scalar.cmpi .eq v2 c7_i32_358
  let c12_i32_359 : BitVec 32 := 12#32
  let c0_i32_360 : BitVec 32 := 0#32
  let v372 : BitVec 32 := Scalar.select v371 c12_i32_359 c0_i32_360
  let v373 : BitVec 32 := Scalar.addi v370 v372
  let c3_i32_361 : BitVec 32 := 3#32
  let v374 : BitVec 1 := Scalar.cmpi .eq v2 c3_i32_361
  let c15_i32_362 : BitVec 32 := 15#32
  let c0_i32_363 : BitVec 32 := 0#32
  let v375 : BitVec 32 := Scalar.select v374 c15_i32_362 c0_i32_363
  let v376 : BitVec 32 := Scalar.addi v373 v375
  let c2_i32_364 : BitVec 32 := 2#32
  let v377 : BitVec 1 := Scalar.cmpi .eq v2 c2_i32_364
  let c11_i32_365 : BitVec 32 := 11#32
  let c0_i32_366 : BitVec 32 := 0#32
  let v378 : BitVec 32 := Scalar.select v377 c11_i32_365 c0_i32_366
  let v379 : BitVec 32 := Scalar.addi v376 v378
  let c6_i32_367 : BitVec 32 := 6#32
  let v380 : BitVec 1 := Scalar.cmpi .eq v2 c6_i32_367
  let c7_i32_368 : BitVec 32 := 7#32
  let c0_i32_369 : BitVec 32 := 0#32
  let v381 : BitVec 32 := Scalar.select v380 c7_i32_368 c0_i32_369
  let v382 : BitVec 32 := Scalar.addi v379 v381
  let c10_i32_370 : BitVec 32 := 10#32
  let v383 : BitVec 1 := Scalar.cmpi .eq v2 c10_i32_370
  let c3_i32_371 : BitVec 32 := 3#32
  let c0_i32_372 : BitVec 32 := 0#32
  let v384 : BitVec 32 := Scalar.select v383 c3_i32_371 c0_i32_372
  let v385 : BitVec 32 := Scalar.addi v382 v384
  let c14_i32_373 : BitVec 32 := 14#32
  let v386 : BitVec 1 := Scalar.cmpi .eq v2 c14_i32_373
  let c2_i32_374 : BitVec 32 := 2#32
  let c0_i32_375 : BitVec 32 := 0#32
  let v387 : BitVec 32 := Scalar.select v386 c2_i32_374 c0_i32_375
  let v388 : BitVec 32 := Scalar.addi v385 v387
  let c13_i32_376 : BitVec 32 := 13#32
  let v389 : BitVec 1 := Scalar.cmpi .eq v2 c13_i32_376
  let c6_i32_377 : BitVec 32 := 6#32
  let c0_i32_378 : BitVec 32 := 0#32
  let v390 : BitVec 32 := Scalar.select v389 c6_i32_377 c0_i32_378
  let v391 : BitVec 32 := Scalar.addi v388 v390
  let c9_i32_379 : BitVec 32 := 9#32
  let v392 : BitVec 1 := Scalar.cmpi .eq v2 c9_i32_379
  let c10_i32_380 : BitVec 32 := 10#32
  let c0_i32_381 : BitVec 32 := 0#32
  let v393 : BitVec 32 := Scalar.select v392 c10_i32_380 c0_i32_381
  let v394 : BitVec 32 := Scalar.addi v391 v393
  let c5_i32_382 : BitVec 32 := 5#32
  let v395 : BitVec 1 := Scalar.cmpi .eq v2 c5_i32_382
  let c14_i32_383 : BitVec 32 := 14#32
  let c0_i32_384 : BitVec 32 := 0#32
  let v396 : BitVec 32 := Scalar.select v395 c14_i32_383 c0_i32_384
  let v397 : BitVec 32 := Scalar.addi v394 v396
  let c1_i32_385 : BitVec 32 := 1#32
  let v398 : BitVec 1 := Scalar.cmpi .eq v2 c1_i32_385
  let c13_i32_386 : BitVec 32 := 13#32
  let c0_i32_387 : BitVec 32 := 0#32
  let v399 : BitVec 32 := Scalar.select v398 c13_i32_386 c0_i32_387
  let v400 : BitVec 32 := Scalar.addi v397 v399
  let c0_i32_391 : BitVec 32 := 0#32
  let c0_i32_388 : BitVec 32 := 0#32
  let v401 : BitVec 1 := Scalar.cmpi .eq v2 c0_i32_388
  let c12_i32_389 : BitVec 32 := 12#32
  let c0_i32_390 : BitVec 32 := 0#32
  let v402 : BitVec 32 := Scalar.select v401 c12_i32_389 c0_i32_390
  let v403 : BitVec 32 := Scalar.addi c0_i32_391 v402
  let c4_i32_392 : BitVec 32 := 4#32
  let v404 : BitVec 1 := Scalar.cmpi .eq v2 c4_i32_392
  let c15_i32_393 : BitVec 32 := 15#32
  let c0_i32_394 : BitVec 32 := 0#32
  let v405 : BitVec 32 := Scalar.select v404 c15_i32_393 c0_i32_394
  let v406 : BitVec 32 := Scalar.addi v403 v405
  let c8_i32_395 : BitVec 32 := 8#32
  let v407 : BitVec 1 := Scalar.cmpi .eq v2 c8_i32_395
  let c11_i32_396 : BitVec 32 := 11#32
  let c0_i32_397 : BitVec 32 := 0#32
  let v408 : BitVec 32 := Scalar.select v407 c11_i32_396 c0_i32_397
  let v409 : BitVec 32 := Scalar.addi v406 v408
  let c12_i32_398 : BitVec 32 := 12#32
  let v410 : BitVec 1 := Scalar.cmpi .eq v2 c12_i32_398
  let c7_i32_399 : BitVec 32 := 7#32
  let c0_i32_400 : BitVec 32 := 0#32
  let v411 : BitVec 32 := Scalar.select v410 c7_i32_399 c0_i32_400
  let v412 : BitVec 32 := Scalar.addi v409 v411
  let c15_i32_401 : BitVec 32 := 15#32
  let v413 : BitVec 1 := Scalar.cmpi .eq v2 c15_i32_401
  let c3_i32_402 : BitVec 32 := 3#32
  let c0_i32_403 : BitVec 32 := 0#32
  let v414 : BitVec 32 := Scalar.select v413 c3_i32_402 c0_i32_403
  let v415 : BitVec 32 := Scalar.addi v412 v414
  let c11_i32_404 : BitVec 32 := 11#32
  let v416 : BitVec 1 := Scalar.cmpi .eq v2 c11_i32_404
  let c2_i32_405 : BitVec 32 := 2#32
  let c0_i32_406 : BitVec 32 := 0#32
  let v417 : BitVec 32 := Scalar.select v416 c2_i32_405 c0_i32_406
  let v418 : BitVec 32 := Scalar.addi v415 v417
  let c7_i32_407 : BitVec 32 := 7#32
  let v419 : BitVec 1 := Scalar.cmpi .eq v2 c7_i32_407
  let c6_i32_408 : BitVec 32 := 6#32
  let c0_i32_409 : BitVec 32 := 0#32
  let v420 : BitVec 32 := Scalar.select v419 c6_i32_408 c0_i32_409
  let v421 : BitVec 32 := Scalar.addi v418 v420
  let c3_i32_410 : BitVec 32 := 3#32
  let v422 : BitVec 1 := Scalar.cmpi .eq v2 c3_i32_410
  let c10_i32_411 : BitVec 32 := 10#32
  let c0_i32_412 : BitVec 32 := 0#32
  let v423 : BitVec 32 := Scalar.select v422 c10_i32_411 c0_i32_412
  let v424 : BitVec 32 := Scalar.addi v421 v423
  let c2_i32_413 : BitVec 32 := 2#32
  let v425 : BitVec 1 := Scalar.cmpi .eq v2 c2_i32_413
  let c14_i32_414 : BitVec 32 := 14#32
  let c0_i32_415 : BitVec 32 := 0#32
  let v426 : BitVec 32 := Scalar.select v425 c14_i32_414 c0_i32_415
  let v427 : BitVec 32 := Scalar.addi v424 v426
  let c6_i32_416 : BitVec 32 := 6#32
  let v428 : BitVec 1 := Scalar.cmpi .eq v2 c6_i32_416
  let c13_i32_417 : BitVec 32 := 13#32
  let c0_i32_418 : BitVec 32 := 0#32
  let v429 : BitVec 32 := Scalar.select v428 c13_i32_417 c0_i32_418
  let v430 : BitVec 32 := Scalar.addi v427 v429
  let c10_i32_419 : BitVec 32 := 10#32
  let v431 : BitVec 1 := Scalar.cmpi .eq v2 c10_i32_419
  let c9_i32_420 : BitVec 32 := 9#32
  let c0_i32_421 : BitVec 32 := 0#32
  let v432 : BitVec 32 := Scalar.select v431 c9_i32_420 c0_i32_421
  let v433 : BitVec 32 := Scalar.addi v430 v432
  let c14_i32_422 : BitVec 32 := 14#32
  let v434 : BitVec 1 := Scalar.cmpi .eq v2 c14_i32_422
  let c5_i32_423 : BitVec 32 := 5#32
  let c0_i32_424 : BitVec 32 := 0#32
  let v435 : BitVec 32 := Scalar.select v434 c5_i32_423 c0_i32_424
  let v436 : BitVec 32 := Scalar.addi v433 v435
  let c13_i32_425 : BitVec 32 := 13#32
  let v437 : BitVec 1 := Scalar.cmpi .eq v2 c13_i32_425
  let c1_i32_426 : BitVec 32 := 1#32
  let c0_i32_427 : BitVec 32 := 0#32
  let v438 : BitVec 32 := Scalar.select v437 c1_i32_426 c0_i32_427
  let v439 : BitVec 32 := Scalar.addi v436 v438
  let c9_i32_428 : BitVec 32 := 9#32
  let v440 : BitVec 1 := Scalar.cmpi .eq v2 c9_i32_428
  let c0_i32_429 : BitVec 32 := 0#32
  let c0_i32_430 : BitVec 32 := 0#32
  let v441 : BitVec 32 := Scalar.select v440 c0_i32_429 c0_i32_430
  let v442 : BitVec 32 := Scalar.addi v439 v441
  let c5_i32_431 : BitVec 32 := 5#32
  let v443 : BitVec 1 := Scalar.cmpi .eq v2 c5_i32_431
  let c4_i32_432 : BitVec 32 := 4#32
  let c0_i32_433 : BitVec 32 := 0#32
  let v444 : BitVec 32 := Scalar.select v443 c4_i32_432 c0_i32_433
  let v445 : BitVec 32 := Scalar.addi v442 v444
  let c1_i32_434 : BitVec 32 := 1#32
  let v446 : BitVec 1 := Scalar.cmpi .eq v2 c1_i32_434
  let c8_i32_435 : BitVec 32 := 8#32
  let c0_i32_436 : BitVec 32 := 0#32
  let v447 : BitVec 32 := Scalar.select v446 c8_i32_435 c0_i32_436
  let v448 : BitVec 32 := Scalar.addi v445 v447
  let v449 : BitVec 32 := Scalar.select v352 v400 v448
  let c1_i32_3081 : BitVec 32 := 1#32
  let v2775 : BitVec 32 := Scalar.muli v449 c1_i32_3081
  let v2776 : BitVec 32 := Scalar.addi c0_i32_3082 v2775
  v2776.toNat
def k0_dev50 (d0 : Dev nD) : Nat :=
  let c0_i32_1084 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_1083 : BitVec 32 := 1#32
  let v1016 : BitVec 32 := Scalar.muli v147 c1_i32_1083
  let v1017 : BitVec 32 := Scalar.addi c0_i32_1084 v1016
  v1017.toNat
def k0_cond32 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_1089 : BitVec 32 := 1#32
  let v1026 : BitVec 1 := Scalar.cmpi .eq v51 c1_i32_1089
  let v1027 : BitVec 32 := Scalar.extui v1026
  let c0_i32_1091 : BitVec 32 := 0#32
  let v1028 : BitVec 1 := Scalar.cmpi .ne v1027 c0_i32_1091
  v1028

def k0_dev51 (d0 : Dev nD) : Nat :=
  let c0_i32_3082 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_338 : BitVec 32 := 1#32
  let v352 : BitVec 1 := Scalar.cmpi .eq v51 c1_i32_338
  let c0_i32_342 : BitVec 32 := 0#32
  let c0_i32_339 : BitVec 32 := 0#32
  let v353 : BitVec 1 := Scalar.cmpi .eq v2 c0_i32_339
  let c9_i32_340 : BitVec 32 := 9#32
  let c0_i32_341 : BitVec 32 := 0#32
  let v354 : BitVec 32 := Scalar.select v353 c9_i32_340 c0_i32_341
  let v355 : BitVec 32 := Scalar.addi c0_i32_342 v354
  let c4_i32_343 : BitVec 32 := 4#32
  let v356 : BitVec 1 := Scalar.cmpi .eq v2 c4_i32_343
  let c5_i32_344 : BitVec 32 := 5#32
  let c0_i32_345 : BitVec 32 := 0#32
  let v357 : BitVec 32 := Scalar.select v356 c5_i32_344 c0_i32_345
  let v358 : BitVec 32 := Scalar.addi v355 v357
  let c8_i32_346 : BitVec 32 := 8#32
  let v359 : BitVec 1 := Scalar.cmpi .eq v2 c8_i32_346
  let c1_i32_347 : BitVec 32 := 1#32
  let c0_i32_348 : BitVec 32 := 0#32
  let v360 : BitVec 32 := Scalar.select v359 c1_i32_347 c0_i32_348
  let v361 : BitVec 32 := Scalar.addi v358 v360
  let c12_i32_349 : BitVec 32 := 12#32
  let v362 : BitVec 1 := Scalar.cmpi .eq v2 c12_i32_349
  let c0_i32_350 : BitVec 32 := 0#32
  let c0_i32_351 : BitVec 32 := 0#32
  let v363 : BitVec 32 := Scalar.select v362 c0_i32_350 c0_i32_351
  let v364 : BitVec 32 := Scalar.addi v361 v363
  let c15_i32_352 : BitVec 32 := 15#32
  let v365 : BitVec 1 := Scalar.cmpi .eq v2 c15_i32_352
  let c4_i32_353 : BitVec 32 := 4#32
  let c0_i32_354 : BitVec 32 := 0#32
  let v366 : BitVec 32 := Scalar.select v365 c4_i32_353 c0_i32_354
  let v367 : BitVec 32 := Scalar.addi v364 v366
  let c11_i32_355 : BitVec 32 := 11#32
  let v368 : BitVec 1 := Scalar.cmpi .eq v2 c11_i32_355
  let c8_i32_356 : BitVec 32 := 8#32
  let c0_i32_357 : BitVec 32 := 0#32
  let v369 : BitVec 32 := Scalar.select v368 c8_i32_356 c0_i32_357
  let v370 : BitVec 32 := Scalar.addi v367 v369
  let c7_i32_358 : BitVec 32 := 7#32
  let v371 : BitVec 1 := Scalar.cmpi .eq v2 c7_i32_358
  let c12_i32_359 : BitVec 32 := 12#32
  let c0_i32_360 : BitVec 32 := 0#32
  let v372 : BitVec 32 := Scalar.select v371 c12_i32_359 c0_i32_360
  let v373 : BitVec 32 := Scalar.addi v370 v372
  let c3_i32_361 : BitVec 32 := 3#32
  let v374 : BitVec 1 := Scalar.cmpi .eq v2 c3_i32_361
  let c15_i32_362 : BitVec 32 := 15#32
  let c0_i32_363 : BitVec 32 := 0#32
  let v375 : BitVec 32 := Scalar.select v374 c15_i32_362 c0_i32_363
  let v376 : BitVec 32 := Scalar.addi v373 v375
  let c2_i32_364 : BitVec 32 := 2#32
  let v377 : BitVec 1 := Scalar.cmpi .eq v2 c2_i32_364
  let c11_i32_365 : BitVec 32 := 11#32
  let c0_i32_366 : BitVec 32 := 0#32
  let v378 : BitVec 32 := Scalar.select v377 c11_i32_365 c0_i32_366
  let v379 : BitVec 32 := Scalar.addi v376 v378
  let c6_i32_367 : BitVec 32 := 6#32
  let v380 : BitVec 1 := Scalar.cmpi .eq v2 c6_i32_367
  let c7_i32_368 : BitVec 32 := 7#32
  let c0_i32_369 : BitVec 32 := 0#32
  let v381 : BitVec 32 := Scalar.select v380 c7_i32_368 c0_i32_369
  let v382 : BitVec 32 := Scalar.addi v379 v381
  let c10_i32_370 : BitVec 32 := 10#32
  let v383 : BitVec 1 := Scalar.cmpi .eq v2 c10_i32_370
  let c3_i32_371 : BitVec 32 := 3#32
  let c0_i32_372 : BitVec 32 := 0#32
  let v384 : BitVec 32 := Scalar.select v383 c3_i32_371 c0_i32_372
  let v385 : BitVec 32 := Scalar.addi v382 v384
  let c14_i32_373 : BitVec 32 := 14#32
  let v386 : BitVec 1 := Scalar.cmpi .eq v2 c14_i32_373
  let c2_i32_374 : BitVec 32 := 2#32
  let c0_i32_375 : BitVec 32 := 0#32
  let v387 : BitVec 32 := Scalar.select v386 c2_i32_374 c0_i32_375
  let v388 : BitVec 32 := Scalar.addi v385 v387
  let c13_i32_376 : BitVec 32 := 13#32
  let v389 : BitVec 1 := Scalar.cmpi .eq v2 c13_i32_376
  let c6_i32_377 : BitVec 32 := 6#32
  let c0_i32_378 : BitVec 32 := 0#32
  let v390 : BitVec 32 := Scalar.select v389 c6_i32_377 c0_i32_378
  let v391 : BitVec 32 := Scalar.addi v388 v390
  let c9_i32_379 : BitVec 32 := 9#32
  let v392 : BitVec 1 := Scalar.cmpi .eq v2 c9_i32_379
  let c10_i32_380 : BitVec 32 := 10#32
  let c0_i32_381 : BitVec 32 := 0#32
  let v393 : BitVec 32 := Scalar.select v392 c10_i32_380 c0_i32_381
  let v394 : BitVec 32 := Scalar.addi v391 v393
  let c5_i32_382 : BitVec 32 := 5#32
  let v395 : BitVec 1 := Scalar.cmpi .eq v2 c5_i32_382
  let c14_i32_383 : BitVec 32 := 14#32
  let c0_i32_384 : BitVec 32 := 0#32
  let v396 : BitVec 32 := Scalar.select v395 c14_i32_383 c0_i32_384
  let v397 : BitVec 32 := Scalar.addi v394 v396
  let c1_i32_385 : BitVec 32 := 1#32
  let v398 : BitVec 1 := Scalar.cmpi .eq v2 c1_i32_385
  let c13_i32_386 : BitVec 32 := 13#32
  let c0_i32_387 : BitVec 32 := 0#32
  let v399 : BitVec 32 := Scalar.select v398 c13_i32_386 c0_i32_387
  let v400 : BitVec 32 := Scalar.addi v397 v399
  let c0_i32_391 : BitVec 32 := 0#32
  let c0_i32_388 : BitVec 32 := 0#32
  let v401 : BitVec 1 := Scalar.cmpi .eq v2 c0_i32_388
  let c12_i32_389 : BitVec 32 := 12#32
  let c0_i32_390 : BitVec 32 := 0#32
  let v402 : BitVec 32 := Scalar.select v401 c12_i32_389 c0_i32_390
  let v403 : BitVec 32 := Scalar.addi c0_i32_391 v402
  let c4_i32_392 : BitVec 32 := 4#32
  let v404 : BitVec 1 := Scalar.cmpi .eq v2 c4_i32_392
  let c15_i32_393 : BitVec 32 := 15#32
  let c0_i32_394 : BitVec 32 := 0#32
  let v405 : BitVec 32 := Scalar.select v404 c15_i32_393 c0_i32_394
  let v406 : BitVec 32 := Scalar.addi v403 v405
  let c8_i32_395 : BitVec 32 := 8#32
  let v407 : BitVec 1 := Scalar.cmpi .eq v2 c8_i32_395
  let c11_i32_396 : BitVec 32 := 11#32
  let c0_i32_397 : BitVec 32 := 0#32
  let v408 : BitVec 32 := Scalar.select v407 c11_i32_396 c0_i32_397
  let v409 : BitVec 32 := Scalar.addi v406 v408
  let c12_i32_398 : BitVec 32 := 12#32
  let v410 : BitVec 1 := Scalar.cmpi .eq v2 c12_i32_398
  let c7_i32_399 : BitVec 32 := 7#32
  let c0_i32_400 : BitVec 32 := 0#32
  let v411 : BitVec 32 := Scalar.select v410 c7_i32_399 c0_i32_400
  let v412 : BitVec 32 := Scalar.addi v409 v411
  let c15_i32_401 : BitVec 32 := 15#32
  let v413 : BitVec 1 := Scalar.cmpi .eq v2 c15_i32_401
  let c3_i32_402 : BitVec 32 := 3#32
  let c0_i32_403 : BitVec 32 := 0#32
  let v414 : BitVec 32 := Scalar.select v413 c3_i32_402 c0_i32_403
  let v415 : BitVec 32 := Scalar.addi v412 v414
  let c11_i32_404 : BitVec 32 := 11#32
  let v416 : BitVec 1 := Scalar.cmpi .eq v2 c11_i32_404
  let c2_i32_405 : BitVec 32 := 2#32
  let c0_i32_406 : BitVec 32 := 0#32
  let v417 : BitVec 32 := Scalar.select v416 c2_i32_405 c0_i32_406
  let v418 : BitVec 32 := Scalar.addi v415 v417
  let c7_i32_407 : BitVec 32 := 7#32
  let v419 : BitVec 1 := Scalar.cmpi .eq v2 c7_i32_407
  let c6_i32_408 : BitVec 32 := 6#32
  let c0_i32_409 : BitVec 32 := 0#32
  let v420 : BitVec 32 := Scalar.select v419 c6_i32_408 c0_i32_409
  let v421 : BitVec 32 := Scalar.addi v418 v420
  let c3_i32_410 : BitVec 32 := 3#32
  let v422 : BitVec 1 := Scalar.cmpi .eq v2 c3_i32_410
  let c10_i32_411 : BitVec 32 := 10#32
  let c0_i32_412 : BitVec 32 := 0#32
  let v423 : BitVec 32 := Scalar.select v422 c10_i32_411 c0_i32_412
  let v424 : BitVec 32 := Scalar.addi v421 v423
  let c2_i32_413 : BitVec 32 := 2#32
  let v425 : BitVec 1 := Scalar.cmpi .eq v2 c2_i32_413
  let c14_i32_414 : BitVec 32 := 14#32
  let c0_i32_415 : BitVec 32 := 0#32
  let v426 : BitVec 32 := Scalar.select v425 c14_i32_414 c0_i32_415
  let v427 : BitVec 32 := Scalar.addi v424 v426
  let c6_i32_416 : BitVec 32 := 6#32
  let v428 : BitVec 1 := Scalar.cmpi .eq v2 c6_i32_416
  let c13_i32_417 : BitVec 32 := 13#32
  let c0_i32_418 : BitVec 32 := 0#32
  let v429 : BitVec 32 := Scalar.select v428 c13_i32_417 c0_i32_418
  let v430 : BitVec 32 := Scalar.addi v427 v429
  let c10_i32_419 : BitVec 32 := 10#32
  let v431 : BitVec 1 := Scalar.cmpi .eq v2 c10_i32_419
  let c9_i32_420 : BitVec 32 := 9#32
  let c0_i32_421 : BitVec 32 := 0#32
  let v432 : BitVec 32 := Scalar.select v431 c9_i32_420 c0_i32_421
  let v433 : BitVec 32 := Scalar.addi v430 v432
  let c14_i32_422 : BitVec 32 := 14#32
  let v434 : BitVec 1 := Scalar.cmpi .eq v2 c14_i32_422
  let c5_i32_423 : BitVec 32 := 5#32
  let c0_i32_424 : BitVec 32 := 0#32
  let v435 : BitVec 32 := Scalar.select v434 c5_i32_423 c0_i32_424
  let v436 : BitVec 32 := Scalar.addi v433 v435
  let c13_i32_425 : BitVec 32 := 13#32
  let v437 : BitVec 1 := Scalar.cmpi .eq v2 c13_i32_425
  let c1_i32_426 : BitVec 32 := 1#32
  let c0_i32_427 : BitVec 32 := 0#32
  let v438 : BitVec 32 := Scalar.select v437 c1_i32_426 c0_i32_427
  let v439 : BitVec 32 := Scalar.addi v436 v438
  let c9_i32_428 : BitVec 32 := 9#32
  let v440 : BitVec 1 := Scalar.cmpi .eq v2 c9_i32_428
  let c0_i32_429 : BitVec 32 := 0#32
  let c0_i32_430 : BitVec 32 := 0#32
  let v441 : BitVec 32 := Scalar.select v440 c0_i32_429 c0_i32_430
  let v442 : BitVec 32 := Scalar.addi v439 v441
  let c5_i32_431 : BitVec 32 := 5#32
  let v443 : BitVec 1 := Scalar.cmpi .eq v2 c5_i32_431
  let c4_i32_432 : BitVec 32 := 4#32
  let c0_i32_433 : BitVec 32 := 0#32
  let v444 : BitVec 32 := Scalar.select v443 c4_i32_432 c0_i32_433
  let v445 : BitVec 32 := Scalar.addi v442 v444
  let c1_i32_434 : BitVec 32 := 1#32
  let v446 : BitVec 1 := Scalar.cmpi .eq v2 c1_i32_434
  let c8_i32_435 : BitVec 32 := 8#32
  let c0_i32_436 : BitVec 32 := 0#32
  let v447 : BitVec 32 := Scalar.select v446 c8_i32_435 c0_i32_436
  let v448 : BitVec 32 := Scalar.addi v445 v447
  let v449 : BitVec 32 := Scalar.select v352 v400 v448
  let c1_i32_3081 : BitVec 32 := 1#32
  let v2775 : BitVec 32 := Scalar.muli v449 c1_i32_3081
  let v2776 : BitVec 32 := Scalar.addi c0_i32_3082 v2775
  v2776.toNat
def k0_cond33 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_1092 : BitVec 32 := 2#32
  let v1029 : BitVec 1 := Scalar.cmpi .eq v51 c2_i32_1092
  let v1030 : BitVec 32 := Scalar.extui v1029
  let c0_i32_1094 : BitVec 32 := 0#32
  let v1031 : BitVec 1 := Scalar.cmpi .ne v1030 c0_i32_1094
  v1031

def k0_dev52 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_cond34 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c3_i32_1095 : BitVec 32 := 3#32
  let v1032 : BitVec 1 := Scalar.cmpi .eq v51 c3_i32_1095
  let v1033 : BitVec 32 := Scalar.extui v1032
  let c0_i32_1097 : BitVec 32 := 0#32
  let v1034 : BitVec 1 := Scalar.cmpi .ne v1033 c0_i32_1097
  v1034

def k0_dev53 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev54 (d0 : Dev nD) : Nat :=
  let c0_i32_1229 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_1228 : BitVec 32 := 1#32
  let v1154 : BitVec 32 := Scalar.muli v99 c1_i32_1228
  let v1155 : BitVec 32 := Scalar.addi c0_i32_1229 v1154
  v1155.toNat
def k0_cond35 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_1234 : BitVec 32 := 1#32
  let v1164 : BitVec 1 := Scalar.cmpi .eq v51 c1_i32_1234
  let v1165 : BitVec 32 := Scalar.extui v1164
  let c0_i32_1236 : BitVec 32 := 0#32
  let v1166 : BitVec 1 := Scalar.cmpi .ne v1165 c0_i32_1236
  v1166

def k0_dev55 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev56 (d0 : Dev nD) : Nat :=
  let c0_i32_1255 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_1254 : BitVec 32 := 1#32
  let v1174 : BitVec 32 := Scalar.muli v147 c1_i32_1254
  let v1175 : BitVec 32 := Scalar.addi c0_i32_1255 v1174
  v1175.toNat
def k0_cond36 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_1260 : BitVec 32 := 2#32
  let v1184 : BitVec 1 := Scalar.cmpi .eq v51 c2_i32_1260
  let v1185 : BitVec 32 := Scalar.extui v1184
  let c0_i32_1262 : BitVec 32 := 0#32
  let v1186 : BitVec 1 := Scalar.cmpi .ne v1185 c0_i32_1262
  v1186

def k0_dev57 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev58 (d0 : Dev nD) : Nat :=
  let c0_i32_1281 : BitVec 32 := 0#32
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  let v52 : BitVec 1 := Scalar.cmpi .eq v2 c0_i32_35
  let c4_i32_36 : BitVec 32 := 4#32
  let c0_i32_37 : BitVec 32 := 0#32
  let v53 : BitVec 32 := Scalar.select v52 c4_i32_36 c0_i32_37
  let v54 : BitVec 32 := Scalar.addi c0_i32_38 v53
  let c4_i32_39 : BitVec 32 := 4#32
  let v55 : BitVec 1 := Scalar.cmpi .eq v2 c4_i32_39
  let c8_i32_40 : BitVec 32 := 8#32
  let c0_i32_41 : BitVec 32 := 0#32
  let v56 : BitVec 32 := Scalar.select v55 c8_i32_40 c0_i32_41
  let v57 : BitVec 32 := Scalar.addi v54 v56
  let c8_i32_42 : BitVec 32 := 8#32
  let v58 : BitVec 1 := Scalar.cmpi .eq v2 c8_i32_42
  let c12_i32_43 : BitVec 32 := 12#32
  let c0_i32_44 : BitVec 32 := 0#32
  let v59 : BitVec 32 := Scalar.select v58 c12_i32_43 c0_i32_44
  let v60 : BitVec 32 := Scalar.addi v57 v59
  let c12_i32_45 : BitVec 32 := 12#32
  let v61 : BitVec 1 := Scalar.cmpi .eq v2 c12_i32_45
  let c15_i32_46 : BitVec 32 := 15#32
  let c0_i32_47 : BitVec 32 := 0#32
  let v62 : BitVec 32 := Scalar.select v61 c15_i32_46 c0_i32_47
  let v63 : BitVec 32 := Scalar.addi v60 v62
  let c15_i32_48 : BitVec 32 := 15#32
  let v64 : BitVec 1 := Scalar.cmpi .eq v2 c15_i32_48
  let c11_i32_49 : BitVec 32 := 11#32
  let c0_i32_50 : BitVec 32 := 0#32
  let v65 : BitVec 32 := Scalar.select v64 c11_i32_49 c0_i32_50
  let v66 : BitVec 32 := Scalar.addi v63 v65
  let c11_i32_51 : BitVec 32 := 11#32
  let v67 : BitVec 1 := Scalar.cmpi .eq v2 c11_i32_51
  let c7_i32_52 : BitVec 32 := 7#32
  let c0_i32_53 : BitVec 32 := 0#32
  let v68 : BitVec 32 := Scalar.select v67 c7_i32_52 c0_i32_53
  let v69 : BitVec 32 := Scalar.addi v66 v68
  let c7_i32_54 : BitVec 32 := 7#32
  let v70 : BitVec 1 := Scalar.cmpi .eq v2 c7_i32_54
  let c3_i32_55 : BitVec 32 := 3#32
  let c0_i32_56 : BitVec 32 := 0#32
  let v71 : BitVec 32 := Scalar.select v70 c3_i32_55 c0_i32_56
  let v72 : BitVec 32 := Scalar.addi v69 v71
  let c3_i32_57 : BitVec 32 := 3#32
  let v73 : BitVec 1 := Scalar.cmpi .eq v2 c3_i32_57
  let c2_i32_58 : BitVec 32 := 2#32
  let c0_i32_59 : BitVec 32 := 0#32
  let v74 : BitVec 32 := Scalar.select v73 c2_i32_58 c0_i32_59
  let v75 : BitVec 32 := Scalar.addi v72 v74
  let c2_i32_60 : BitVec 32 := 2#32
  let v76 : BitVec 1 := Scalar.cmpi .eq v2 c2_i32_60
  let c6_i32_61 : BitVec 32 := 6#32
  let c0_i32_62 : BitVec 32 := 0#32
  let v77 : BitVec 32 := Scalar.select v76 c6_i32_61 c0_i32_62
  let v78 : BitVec 32 := Scalar.addi v75 v77
  let c6_i32_63 : BitVec 32 := 6#32
  let v79 : BitVec 1 := Scalar.cmpi .eq v2 c6_i32_63
  let c10_i32_64 : BitVec 32 := 10#32
  let c0_i32_65 : BitVec 32 := 0#32
  let v80 : BitVec 32 := Scalar.select v79 c10_i32_64 c0_i32_65
  let v81 : BitVec 32 := Scalar.addi v78 v80
  let c10_i32_66 : BitVec 32 := 10#32
  let v82 : BitVec 1 := Scalar.cmpi .eq v2 c10_i32_66
  let c14_i32_67 : BitVec 32 := 14#32
  let c0_i32_68 : BitVec 32 := 0#32
  let v83 : BitVec 32 := Scalar.select v82 c14_i32_67 c0_i32_68
  let v84 : BitVec 32 := Scalar.addi v81 v83
  let c14_i32_69 : BitVec 32 := 14#32
  let v85 : BitVec 1 := Scalar.cmpi .eq v2 c14_i32_69
  let c13_i32_70 : BitVec 32 := 13#32
  let c0_i32_71 : BitVec 32 := 0#32
  let v86 : BitVec 32 := Scalar.select v85 c13_i32_70 c0_i32_71
  let v87 : BitVec 32 := Scalar.addi v84 v86
  let c13_i32_72 : BitVec 32 := 13#32
  let v88 : BitVec 1 := Scalar.cmpi .eq v2 c13_i32_72
  let c9_i32_73 : BitVec 32 := 9#32
  let c0_i32_74 : BitVec 32 := 0#32
  let v89 : BitVec 32 := Scalar.select v88 c9_i32_73 c0_i32_74
  let v90 : BitVec 32 := Scalar.addi v87 v89
  let c9_i32_75 : BitVec 32 := 9#32
  let v91 : BitVec 1 := Scalar.cmpi .eq v2 c9_i32_75
  let c5_i32_76 : BitVec 32 := 5#32
  let c0_i32_77 : BitVec 32 := 0#32
  let v92 : BitVec 32 := Scalar.select v91 c5_i32_76 c0_i32_77
  let v93 : BitVec 32 := Scalar.addi v90 v92
  let c5_i32_78 : BitVec 32 := 5#32
  let v94 : BitVec 1 := Scalar.cmpi .eq v2 c5_i32_78
  let c1_i32_79 : BitVec 32 := 1#32
  let c0_i32_80 : BitVec 32 := 0#32
  let v95 : BitVec 32 := Scalar.select v94 c1_i32_79 c0_i32_80
  let v96 : BitVec 32 := Scalar.addi v93 v95
  let c1_i32_81 : BitVec 32 := 1#32
  let v97 : BitVec 1 := Scalar.cmpi .eq v2 c1_i32_81
  let c0_i32_82 : BitVec 32 := 0#32
  let c0_i32_83 : BitVec 32 := 0#32
  let v98 : BitVec 32 := Scalar.select v97 c0_i32_82 c0_i32_83
  let v99 : BitVec 32 := Scalar.addi v96 v98
  let c1_i32_1280 : BitVec 32 := 1#32
  let v1194 : BitVec 32 := Scalar.muli v99 c1_i32_1280
  let v1195 : BitVec 32 := Scalar.addi c0_i32_1281 v1194
  v1195.toNat
def k0_cond37 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c1_i32_1286 : BitVec 32 := 1#32
  let v1204 : BitVec 1 := Scalar.cmpi .eq v51 c1_i32_1286
  let v1205 : BitVec 32 := Scalar.extui v1204
  let c0_i32_1288 : BitVec 32 := 0#32
  let v1206 : BitVec 1 := Scalar.cmpi .ne v1205 c0_i32_1288
  v1206

def k0_dev59 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_dev60 (d0 : Dev nD) : Nat :=
  let c0_i32_1307 : BitVec 32 := 0#32
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let v100 : BitVec 1 := Scalar.cmpi .eq v2 c0_i32_84
  let c1_i32_85 : BitVec 32 := 1#32
  let c0_i32_86 : BitVec 32 := 0#32
  let v101 : BitVec 32 := Scalar.select v100 c1_i32_85 c0_i32_86
  let v102 : BitVec 32 := Scalar.addi c0_i32_87 v101
  let c4_i32_88 : BitVec 32 := 4#32
  let v103 : BitVec 1 := Scalar.cmpi .eq v2 c4_i32_88
  let c0_i32_89 : BitVec 32 := 0#32
  let c0_i32_90 : BitVec 32 := 0#32
  let v104 : BitVec 32 := Scalar.select v103 c0_i32_89 c0_i32_90
  let v105 : BitVec 32 := Scalar.addi v102 v104
  let c8_i32_91 : BitVec 32 := 8#32
  let v106 : BitVec 1 := Scalar.cmpi .eq v2 c8_i32_91
  let c4_i32_92 : BitVec 32 := 4#32
  let c0_i32_93 : BitVec 32 := 0#32
  let v107 : BitVec 32 := Scalar.select v106 c4_i32_92 c0_i32_93
  let v108 : BitVec 32 := Scalar.addi v105 v107
  let c12_i32_94 : BitVec 32 := 12#32
  let v109 : BitVec 1 := Scalar.cmpi .eq v2 c12_i32_94
  let c8_i32_95 : BitVec 32 := 8#32
  let c0_i32_96 : BitVec 32 := 0#32
  let v110 : BitVec 32 := Scalar.select v109 c8_i32_95 c0_i32_96
  let v111 : BitVec 32 := Scalar.addi v108 v110
  let c15_i32_97 : BitVec 32 := 15#32
  let v112 : BitVec 1 := Scalar.cmpi .eq v2 c15_i32_97
  let c12_i32_98 : BitVec 32 := 12#32
  let c0_i32_99 : BitVec 32 := 0#32
  let v113 : BitVec 32 := Scalar.select v112 c12_i32_98 c0_i32_99
  let v114 : BitVec 32 := Scalar.addi v111 v113
  let c11_i32_100 : BitVec 32 := 11#32
  let v115 : BitVec 1 := Scalar.cmpi .eq v2 c11_i32_100
  let c15_i32_101 : BitVec 32 := 15#32
  let c0_i32_102 : BitVec 32 := 0#32
  let v116 : BitVec 32 := Scalar.select v115 c15_i32_101 c0_i32_102
  let v117 : BitVec 32 := Scalar.addi v114 v116
  let c7_i32_103 : BitVec 32 := 7#32
  let v118 : BitVec 1 := Scalar.cmpi .eq v2 c7_i32_103
  let c11_i32_104 : BitVec 32 := 11#32
  let c0_i32_105 : BitVec 32 := 0#32
  let v119 : BitVec 32 := Scalar.select v118 c11_i32_104 c0_i32_105
  let v120 : BitVec 32 := Scalar.addi v117 v119
  let c3_i32_106 : BitVec 32 := 3#32
  let v121 : BitVec 1 := Scalar.cmpi .eq v2 c3_i32_106
  let c7_i32_107 : BitVec 32 := 7#32
  let c0_i32_108 : BitVec 32 := 0#32
  let v122 : BitVec 32 := Scalar.select v121 c7_i32_107 c0_i32_108
  let v123 : BitVec 32 := Scalar.addi v120 v122
  let c2_i32_109 : BitVec 32 := 2#32
  let v124 : BitVec 1 := Scalar.cmpi .eq v2 c2_i32_109
  let c3_i32_110 : BitVec 32 := 3#32
  let c0_i32_111 : BitVec 32 := 0#32
  let v125 : BitVec 32 := Scalar.select v124 c3_i32_110 c0_i32_111
  let v126 : BitVec 32 := Scalar.addi v123 v125
  let c6_i32_112 : BitVec 32 := 6#32
  let v127 : BitVec 1 := Scalar.cmpi .eq v2 c6_i32_112
  let c2_i32_113 : BitVec 32 := 2#32
  let c0_i32_114 : BitVec 32 := 0#32
  let v128 : BitVec 32 := Scalar.select v127 c2_i32_113 c0_i32_114
  let v129 : BitVec 32 := Scalar.addi v126 v128
  let c10_i32_115 : BitVec 32 := 10#32
  let v130 : BitVec 1 := Scalar.cmpi .eq v2 c10_i32_115
  let c6_i32_116 : BitVec 32 := 6#32
  let c0_i32_117 : BitVec 32 := 0#32
  let v131 : BitVec 32 := Scalar.select v130 c6_i32_116 c0_i32_117
  let v132 : BitVec 32 := Scalar.addi v129 v131
  let c14_i32_118 : BitVec 32 := 14#32
  let v133 : BitVec 1 := Scalar.cmpi .eq v2 c14_i32_118
  let c10_i32_119 : BitVec 32 := 10#32
  let c0_i32_120 : BitVec 32 := 0#32
  let v134 : BitVec 32 := Scalar.select v133 c10_i32_119 c0_i32_120
  let v135 : BitVec 32 := Scalar.addi v132 v134
  let c13_i32_121 : BitVec 32 := 13#32
  let v136 : BitVec 1 := Scalar.cmpi .eq v2 c13_i32_121
  let c14_i32_122 : BitVec 32 := 14#32
  let c0_i32_123 : BitVec 32 := 0#32
  let v137 : BitVec 32 := Scalar.select v136 c14_i32_122 c0_i32_123
  let v138 : BitVec 32 := Scalar.addi v135 v137
  let c9_i32_124 : BitVec 32 := 9#32
  let v139 : BitVec 1 := Scalar.cmpi .eq v2 c9_i32_124
  let c13_i32_125 : BitVec 32 := 13#32
  let c0_i32_126 : BitVec 32 := 0#32
  let v140 : BitVec 32 := Scalar.select v139 c13_i32_125 c0_i32_126
  let v141 : BitVec 32 := Scalar.addi v138 v140
  let c5_i32_127 : BitVec 32 := 5#32
  let v142 : BitVec 1 := Scalar.cmpi .eq v2 c5_i32_127
  let c9_i32_128 : BitVec 32 := 9#32
  let c0_i32_129 : BitVec 32 := 0#32
  let v143 : BitVec 32 := Scalar.select v142 c9_i32_128 c0_i32_129
  let v144 : BitVec 32 := Scalar.addi v141 v143
  let c1_i32_130 : BitVec 32 := 1#32
  let v145 : BitVec 1 := Scalar.cmpi .eq v2 c1_i32_130
  let c5_i32_131 : BitVec 32 := 5#32
  let c0_i32_132 : BitVec 32 := 0#32
  let v146 : BitVec 32 := Scalar.select v145 c5_i32_131 c0_i32_132
  let v147 : BitVec 32 := Scalar.addi v144 v146
  let c1_i32_1306 : BitVec 32 := 1#32
  let v1214 : BitVec 32 := Scalar.muli v147 c1_i32_1306
  let v1215 : BitVec 32 := Scalar.addi c0_i32_1307 v1214
  v1215.toNat
def k0_cond38 (d0 : Dev nD) : BitVec 1 :=
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c2_i32_1312 : BitVec 32 := 2#32
  let v1224 : BitVec 1 := Scalar.cmpi .eq v51 c2_i32_1312
  let v1225 : BitVec 32 := Scalar.extui v1224
  let c0_i32_1314 : BitVec 32 := 0#32
  let v1226 : BitVec 1 := Scalar.cmpi .ne v1225 c0_i32_1314
  v1226

def k0_dev61 (d0 : Dev nD) : Nat :=
  let c0_i32_3082 : BitVec 32 := 0#32
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_133 : BitVec 32 := 0#32
  let v148 : BitVec 1 := Scalar.cmpi .eq v51 c0_i32_133
  let c0_i32_137 : BitVec 32 := 0#32
  let c0_i32_134 : BitVec 32 := 0#32
  let v149 : BitVec 1 := Scalar.cmpi .eq v2 c0_i32_134
  let c3_i32_135 : BitVec 32 := 3#32
  let c0_i32_136 : BitVec 32 := 0#32
  let v150 : BitVec 32 := Scalar.select v149 c3_i32_135 c0_i32_136
  let v151 : BitVec 32 := Scalar.addi c0_i32_137 v150
  let c4_i32_138 : BitVec 32 := 4#32
  let v152 : BitVec 1 := Scalar.cmpi .eq v2 c4_i32_138
  let c2_i32_139 : BitVec 32 := 2#32
  let c0_i32_140 : BitVec 32 := 0#32
  let v153 : BitVec 32 := Scalar.select v152 c2_i32_139 c0_i32_140
  let v154 : BitVec 32 := Scalar.addi v151 v153
  let c8_i32_141 : BitVec 32 := 8#32
  let v155 : BitVec 1 := Scalar.cmpi .eq v2 c8_i32_141
  let c6_i32_142 : BitVec 32 := 6#32
  let c0_i32_143 : BitVec 32 := 0#32
  let v156 : BitVec 32 := Scalar.select v155 c6_i32_142 c0_i32_143
  let v157 : BitVec 32 := Scalar.addi v154 v156
  let c12_i32_144 : BitVec 32 := 12#32
  let v158 : BitVec 1 := Scalar.cmpi .eq v2 c12_i32_144
  let c10_i32_145 : BitVec 32 := 10#32
  let c0_i32_146 : BitVec 32 := 0#32
  let v159 : BitVec 32 := Scalar.select v158 c10_i32_145 c0_i32_146
  let v160 : BitVec 32 := Scalar.addi v157 v159
  let c15_i32_147 : BitVec 32 := 15#32
  let v161 : BitVec 1 := Scalar.cmpi .eq v2 c15_i32_147
  let c14_i32_148 : BitVec 32 := 14#32
  let c0_i32_149 : BitVec 32 := 0#32
  let v162 : BitVec 32 := Scalar.select v161 c14_i32_148 c0_i32_149
  let v163 : BitVec 32 := Scalar.addi v160 v162
  let c11_i32_150 : BitVec 32 := 11#32
  let v164 : BitVec 1 := Scalar.cmpi .eq v2 c11_i32_150
  let c13_i32_151 : BitVec 32 := 13#32
  let c0_i32_152 : BitVec 32 := 0#32
  let v165 : BitVec 32 := Scalar.select v164 c13_i32_151 c0_i32_152
  let v166 : BitVec 32 := Scalar.addi v163 v165
  let c7_i32_153 : BitVec 32 := 7#32
  let v167 : BitVec 1 := Scalar.cmpi .eq v2 c7_i32_153
  let c9_i32_154 : BitVec 32 := 9#32
  let c0_i32_155 : BitVec 32 := 0#32
  let v168 : BitVec 32 := Scalar.select v167 c9_i32_154 c0_i32_155
  let v169 : BitVec 32 := Scalar.addi v166 v168
  let c3_i32_156 : BitVec 32 := 3#32
  let v170 : BitVec 1 := Scalar.cmpi .eq v2 c3_i32_156
  let c5_i32_157 : BitVec 32 := 5#32
  let c0_i32_158 : BitVec 32 := 0#32
  let v171 : BitVec 32 := Scalar.select v170 c5_i32_157 c0_i32_158
  let v172 : BitVec 32 := Scalar.addi v169 v171
  let c2_i32_159 : BitVec 32 := 2#32
  let v173 : BitVec 1 := Scalar.cmpi .eq v2 c2_i32_159
  let c1_i32_160 : BitVec 32 := 1#32
  let c0_i32_161 : BitVec 32 := 0#32
  let v174 : BitVec 32 := Scalar.select v173 c1_i32_160 c0_i32_161
  let v175 : BitVec 32 := Scalar.addi v172 v174
  let c6_i32_162 : BitVec 32 := 6#32
  let v176 : BitVec 1 := Scalar.cmpi .eq v2 c6_i32_162
  let c0_i32_163 : BitVec 32 := 0#32
  let c0_i32_164 : BitVec 32 := 0#32
  let v177 : BitVec 32 := Scalar.select v176 c0_i32_163 c0_i32_164
  let v178 : BitVec 32 := Scalar.addi v175 v177
  let c10_i32_165 : BitVec 32 := 10#32
  let v179 : BitVec 1 := Scalar.cmpi .eq v2 c10_i32_165
  let c4_i32_166 : BitVec 32 := 4#32
  let c0_i32_167 : BitVec 32 := 0#32
  let v180 : BitVec 32 := Scalar.select v179 c4_i32_166 c0_i32_167
  let v181 : BitVec 32 := Scalar.addi v178 v180
  let c14_i32_168 : BitVec 32 := 14#32
  let v182 : BitVec 1 := Scalar.cmpi .eq v2 c14_i32_168
  let c8_i32_169 : BitVec 32 := 8#32
  let c0_i32_170 : BitVec 32 := 0#32
  let v183 : BitVec 32 := Scalar.select v182 c8_i32_169 c0_i32_170
  let v184 : BitVec 32 := Scalar.addi v181 v183
  let c13_i32_171 : BitVec 32 := 13#32
  let v185 : BitVec 1 := Scalar.cmpi .eq v2 c13_i32_171
  let c12_i32_172 : BitVec 32 := 12#32
  let c0_i32_173 : BitVec 32 := 0#32
  let v186 : BitVec 32 := Scalar.select v185 c12_i32_172 c0_i32_173
  let v187 : BitVec 32 := Scalar.addi v184 v186
  let c9_i32_174 : BitVec 32 := 9#32
  let v188 : BitVec 1 := Scalar.cmpi .eq v2 c9_i32_174
  let c15_i32_175 : BitVec 32 := 15#32
  let c0_i32_176 : BitVec 32 := 0#32
  let v189 : BitVec 32 := Scalar.select v188 c15_i32_175 c0_i32_176
  let v190 : BitVec 32 := Scalar.addi v187 v189
  let c5_i32_177 : BitVec 32 := 5#32
  let v191 : BitVec 1 := Scalar.cmpi .eq v2 c5_i32_177
  let c11_i32_178 : BitVec 32 := 11#32
  let c0_i32_179 : BitVec 32 := 0#32
  let v192 : BitVec 32 := Scalar.select v191 c11_i32_178 c0_i32_179
  let v193 : BitVec 32 := Scalar.addi v190 v192
  let c1_i32_180 : BitVec 32 := 1#32
  let v194 : BitVec 1 := Scalar.cmpi .eq v2 c1_i32_180
  let c7_i32_181 : BitVec 32 := 7#32
  let c0_i32_182 : BitVec 32 := 0#32
  let v195 : BitVec 32 := Scalar.select v194 c7_i32_181 c0_i32_182
  let v196 : BitVec 32 := Scalar.addi v193 v195
  let c0_i32_183 : BitVec 32 := 0#32
  let v197 : BitVec 32 := Scalar.select v148 v196 c0_i32_183
  let v198 : BitVec 32 := Scalar.addi c0_i32_184 v197
  let c1_i32_185 : BitVec 32 := 1#32
  let v199 : BitVec 1 := Scalar.cmpi .eq v51 c1_i32_185
  let c0_i32_189 : BitVec 32 := 0#32
  let c0_i32_186 : BitVec 32 := 0#32
  let v200 : BitVec 1 := Scalar.cmpi .eq v2 c0_i32_186
  let c11_i32_187 : BitVec 32 := 11#32
  let c0_i32_188 : BitVec 32 := 0#32
  let v201 : BitVec 32 := Scalar.select v200 c11_i32_187 c0_i32_188
  let v202 : BitVec 32 := Scalar.addi c0_i32_189 v201
  let c4_i32_190 : BitVec 32 := 4#32
  let v203 : BitVec 1 := Scalar.cmpi .eq v2 c4_i32_190
  let c7_i32_191 : BitVec 32 := 7#32
  let c0_i32_192 : BitVec 32 := 0#32
  let v204 : BitVec 32 := Scalar.select v203 c7_i32_191 c0_i32_192
  let v205 : BitVec 32 := Scalar.addi v202 v204
  let c8_i32_193 : BitVec 32 := 8#32
  let v206 : BitVec 1 := Scalar.cmpi .eq v2 c8_i32_193
  let c3_i32_194 : BitVec 32 := 3#32
  let c0_i32_195 : BitVec 32 := 0#32
  let v207 : BitVec 32 := Scalar.select v206 c3_i32_194 c0_i32_195
  let v208 : BitVec 32 := Scalar.addi v205 v207
  let c12_i32_196 : BitVec 32 := 12#32
  let v209 : BitVec 1 := Scalar.cmpi .eq v2 c12_i32_196
  let c2_i32_197 : BitVec 32 := 2#32
  let c0_i32_198 : BitVec 32 := 0#32
  let v210 : BitVec 32 := Scalar.select v209 c2_i32_197 c0_i32_198
  let v211 : BitVec 32 := Scalar.addi v208 v210
  let c15_i32_199 : BitVec 32 := 15#32
  let v212 : BitVec 1 := Scalar.cmpi .eq v2 c15_i32_199
  let c6_i32_200 : BitVec 32 := 6#32
  let c0_i32_201 : BitVec 32 := 0#32
  let v213 : BitVec 32 := Scalar.select v212 c6_i32_200 c0_i32_201
  let v214 : BitVec 32 := Scalar.addi v211 v213
  let c11_i32_202 : BitVec 32 := 11#32
  let v215 : BitVec 1 := Scalar.cmpi .eq v2 c11_i32_202
  let c10_i32_203 : BitVec 32 := 10#32
  let c0_i32_204 : BitVec 32 := 0#32
  let v216 : BitVec 32 := Scalar.select v215 c10_i32_203 c0_i32_204
  let v217 : BitVec 32 := Scalar.addi v214 v216
  let c7_i32_205 : BitVec 32 := 7#32
  let v218 : BitVec 1 := Scalar.cmpi .eq v2 c7_i32_205
  let c14_i32_206 : BitVec 32 := 14#32
  let c0_i32_207 : BitVec 32 := 0#32
  let v219 : BitVec 32 := Scalar.select v218 c14_i32_206 c0_i32_207
  let v220 : BitVec 32 := Scalar.addi v217 v219
  let c3_i32_208 : BitVec 32 := 3#32
  let v221 : BitVec 1 := Scalar.cmpi .eq v2 c3_i32_208
  let c13_i32_209 : BitVec 32 := 13#32
  let c0_i32_210 : BitVec 32 := 0#32
  let v222 : BitVec 32 := Scalar.select v221 c13_i32_209 c0_i32_210
  let v223 : BitVec 32 := Scalar.addi v220 v222
  let c2_i32_211 : BitVec 32 := 2#32
  let v224 : BitVec 1 := Scalar.cmpi .eq v2 c2_i32_211
  let c9_i32_212 : BitVec 32 := 9#32
  let c0_i32_213 : BitVec 32 := 0#32
  let v225 : BitVec 32 := Scalar.select v224 c9_i32_212 c0_i32_213
  let v226 : BitVec 32 := Scalar.addi v223 v225
  let c6_i32_214 : BitVec 32 := 6#32
  let v227 : BitVec 1 := Scalar.cmpi .eq v2 c6_i32_214
  let c5_i32_215 : BitVec 32 := 5#32
  let c0_i32_216 : BitVec 32 := 0#32
  let v228 : BitVec 32 := Scalar.select v227 c5_i32_215 c0_i32_216
  let v229 : BitVec 32 := Scalar.addi v226 v228
  let c10_i32_217 : BitVec 32 := 10#32
  let v230 : BitVec 1 := Scalar.cmpi .eq v2 c10_i32_217
  let c1_i32_218 : BitVec 32 := 1#32
  let c0_i32_219 : BitVec 32 := 0#32
  let v231 : BitVec 32 := Scalar.select v230 c1_i32_218 c0_i32_219
  let v232 : BitVec 32 := Scalar.addi v229 v231
  let c14_i32_220 : BitVec 32 := 14#32
  let v233 : BitVec 1 := Scalar.cmpi .eq v2 c14_i32_220
  let c0_i32_221 : BitVec 32 := 0#32
  let c0_i32_222 : BitVec 32 := 0#32
  let v234 : BitVec 32 := Scalar.select v233 c0_i32_221 c0_i32_222
  let v235 : BitVec 32 := Scalar.addi v232 v234
  let c13_i32_223 : BitVec 32 := 13#32
  let v236 : BitVec 1 := Scalar.cmpi .eq v2 c13_i32_223
  let c4_i32_224 : BitVec 32 := 4#32
  let c0_i32_225 : BitVec 32 := 0#32
  let v237 : BitVec 32 := Scalar.select v236 c4_i32_224 c0_i32_225
  let v238 : BitVec 32 := Scalar.addi v235 v237
  let c9_i32_226 : BitVec 32 := 9#32
  let v239 : BitVec 1 := Scalar.cmpi .eq v2 c9_i32_226
  let c8_i32_227 : BitVec 32 := 8#32
  let c0_i32_228 : BitVec 32 := 0#32
  let v240 : BitVec 32 := Scalar.select v239 c8_i32_227 c0_i32_228
  let v241 : BitVec 32 := Scalar.addi v238 v240
  let c5_i32_229 : BitVec 32 := 5#32
  let v242 : BitVec 1 := Scalar.cmpi .eq v2 c5_i32_229
  let c12_i32_230 : BitVec 32 := 12#32
  let c0_i32_231 : BitVec 32 := 0#32
  let v243 : BitVec 32 := Scalar.select v242 c12_i32_230 c0_i32_231
  let v244 : BitVec 32 := Scalar.addi v241 v243
  let c1_i32_232 : BitVec 32 := 1#32
  let v245 : BitVec 1 := Scalar.cmpi .eq v2 c1_i32_232
  let c15_i32_233 : BitVec 32 := 15#32
  let c0_i32_234 : BitVec 32 := 0#32
  let v246 : BitVec 32 := Scalar.select v245 c15_i32_233 c0_i32_234
  let v247 : BitVec 32 := Scalar.addi v244 v246
  let c0_i32_235 : BitVec 32 := 0#32
  let v248 : BitVec 32 := Scalar.select v199 v247 c0_i32_235
  let v249 : BitVec 32 := Scalar.addi v198 v248
  let c2_i32_236 : BitVec 32 := 2#32
  let v250 : BitVec 1 := Scalar.cmpi .eq v51 c2_i32_236
  let c0_i32_240 : BitVec 32 := 0#32
  let c0_i32_237 : BitVec 32 := 0#32
  let v251 : BitVec 1 := Scalar.cmpi .eq v2 c0_i32_237
  let c14_i32_238 : BitVec 32 := 14#32
  let c0_i32_239 : BitVec 32 := 0#32
  let v252 : BitVec 32 := Scalar.select v251 c14_i32_238 c0_i32_239
  let v253 : BitVec 32 := Scalar.addi c0_i32_240 v252
  let c4_i32_241 : BitVec 32 := 4#32
  let v254 : BitVec 1 := Scalar.cmpi .eq v2 c4_i32_241
  let c13_i32_242 : BitVec 32 := 13#32
  let c0_i32_243 : BitVec 32 := 0#32
  let v255 : BitVec 32 := Scalar.select v254 c13_i32_242 c0_i32_243
  let v256 : BitVec 32 := Scalar.addi v253 v255
  let c8_i32_244 : BitVec 32 := 8#32
  let v257 : BitVec 1 := Scalar.cmpi .eq v2 c8_i32_244
  let c9_i32_245 : BitVec 32 := 9#32
  let c0_i32_246 : BitVec 32 := 0#32
  let v258 : BitVec 32 := Scalar.select v257 c9_i32_245 c0_i32_246
  let v259 : BitVec 32 := Scalar.addi v256 v258
  let c12_i32_247 : BitVec 32 := 12#32
  let v260 : BitVec 1 := Scalar.cmpi .eq v2 c12_i32_247
  let c5_i32_248 : BitVec 32 := 5#32
  let c0_i32_249 : BitVec 32 := 0#32
  let v261 : BitVec 32 := Scalar.select v260 c5_i32_248 c0_i32_249
  let v262 : BitVec 32 := Scalar.addi v259 v261
  let c15_i32_250 : BitVec 32 := 15#32
  let v263 : BitVec 1 := Scalar.cmpi .eq v2 c15_i32_250
  let c1_i32_251 : BitVec 32 := 1#32
  let c0_i32_252 : BitVec 32 := 0#32
  let v264 : BitVec 32 := Scalar.select v263 c1_i32_251 c0_i32_252
  let v265 : BitVec 32 := Scalar.addi v262 v264
  let c11_i32_253 : BitVec 32 := 11#32
  let v266 : BitVec 1 := Scalar.cmpi .eq v2 c11_i32_253
  let c0_i32_254 : BitVec 32 := 0#32
  let c0_i32_255 : BitVec 32 := 0#32
  let v267 : BitVec 32 := Scalar.select v266 c0_i32_254 c0_i32_255
  let v268 : BitVec 32 := Scalar.addi v265 v267
  let c7_i32_256 : BitVec 32 := 7#32
  let v269 : BitVec 1 := Scalar.cmpi .eq v2 c7_i32_256
  let c4_i32_257 : BitVec 32 := 4#32
  let c0_i32_258 : BitVec 32 := 0#32
  let v270 : BitVec 32 := Scalar.select v269 c4_i32_257 c0_i32_258
  let v271 : BitVec 32 := Scalar.addi v268 v270
  let c3_i32_259 : BitVec 32 := 3#32
  let v272 : BitVec 1 := Scalar.cmpi .eq v2 c3_i32_259
  let c8_i32_260 : BitVec 32 := 8#32
  let c0_i32_261 : BitVec 32 := 0#32
  let v273 : BitVec 32 := Scalar.select v272 c8_i32_260 c0_i32_261
  let v274 : BitVec 32 := Scalar.addi v271 v273
  let c2_i32_262 : BitVec 32 := 2#32
  let v275 : BitVec 1 := Scalar.cmpi .eq v2 c2_i32_262
  let c12_i32_263 : BitVec 32 := 12#32
  let c0_i32_264 : BitVec 32 := 0#32
  let v276 : BitVec 32 := Scalar.select v275 c12_i32_263 c0_i32_264
  let v277 : BitVec 32 := Scalar.addi v274 v276
  let c6_i32_265 : BitVec 32 := 6#32
  let v278 : BitVec 1 := Scalar.cmpi .eq v2 c6_i32_265
  let c15_i32_266 : BitVec 32 := 15#32
  let c0_i32_267 : BitVec 32 := 0#32
  let v279 : BitVec 32 := Scalar.select v278 c15_i32_266 c0_i32_267
  let v280 : BitVec 32 := Scalar.addi v277 v279
  let c10_i32_268 : BitVec 32 := 10#32
  let v281 : BitVec 1 := Scalar.cmpi .eq v2 c10_i32_268
  let c11_i32_269 : BitVec 32 := 11#32
  let c0_i32_270 : BitVec 32 := 0#32
  let v282 : BitVec 32 := Scalar.select v281 c11_i32_269 c0_i32_270
  let v283 : BitVec 32 := Scalar.addi v280 v282
  let c14_i32_271 : BitVec 32 := 14#32
  let v284 : BitVec 1 := Scalar.cmpi .eq v2 c14_i32_271
  let c7_i32_272 : BitVec 32 := 7#32
  let c0_i32_273 : BitVec 32 := 0#32
  let v285 : BitVec 32 := Scalar.select v284 c7_i32_272 c0_i32_273
  let v286 : BitVec 32 := Scalar.addi v283 v285
  let c13_i32_274 : BitVec 32 := 13#32
  let v287 : BitVec 1 := Scalar.cmpi .eq v2 c13_i32_274
  let c3_i32_275 : BitVec 32 := 3#32
  let c0_i32_276 : BitVec 32 := 0#32
  let v288 : BitVec 32 := Scalar.select v287 c3_i32_275 c0_i32_276
  let v289 : BitVec 32 := Scalar.addi v286 v288
  let c9_i32_277 : BitVec 32 := 9#32
  let v290 : BitVec 1 := Scalar.cmpi .eq v2 c9_i32_277
  let c2_i32_278 : BitVec 32 := 2#32
  let c0_i32_279 : BitVec 32 := 0#32
  let v291 : BitVec 32 := Scalar.select v290 c2_i32_278 c0_i32_279
  let v292 : BitVec 32 := Scalar.addi v289 v291
  let c5_i32_280 : BitVec 32 := 5#32
  let v293 : BitVec 1 := Scalar.cmpi .eq v2 c5_i32_280
  let c6_i32_281 : BitVec 32 := 6#32
  let c0_i32_282 : BitVec 32 := 0#32
  let v294 : BitVec 32 := Scalar.select v293 c6_i32_281 c0_i32_282
  let v295 : BitVec 32 := Scalar.addi v292 v294
  let c1_i32_283 : BitVec 32 := 1#32
  let v296 : BitVec 1 := Scalar.cmpi .eq v2 c1_i32_283
  let c10_i32_284 : BitVec 32 := 10#32
  let c0_i32_285 : BitVec 32 := 0#32
  let v297 : BitVec 32 := Scalar.select v296 c10_i32_284 c0_i32_285
  let v298 : BitVec 32 := Scalar.addi v295 v297
  let c0_i32_286 : BitVec 32 := 0#32
  let v299 : BitVec 32 := Scalar.select v250 v298 c0_i32_286
  let v300 : BitVec 32 := Scalar.addi v249 v299
  let c3_i32_287 : BitVec 32 := 3#32
  let v301 : BitVec 1 := Scalar.cmpi .eq v51 c3_i32_287
  let c0_i32_291 : BitVec 32 := 0#32
  let c0_i32_288 : BitVec 32 := 0#32
  let v302 : BitVec 1 := Scalar.cmpi .eq v2 c0_i32_288
  let c6_i32_289 : BitVec 32 := 6#32
  let c0_i32_290 : BitVec 32 := 0#32
  let v303 : BitVec 32 := Scalar.select v302 c6_i32_289 c0_i32_290
  let v304 : BitVec 32 := Scalar.addi c0_i32_291 v303
  let c4_i32_292 : BitVec 32 := 4#32
  let v305 : BitVec 1 := Scalar.cmpi .eq v2 c4_i32_292
  let c10_i32_293 : BitVec 32 := 10#32
  let c0_i32_294 : BitVec 32 := 0#32
  let v306 : BitVec 32 := Scalar.select v305 c10_i32_293 c0_i32_294
  let v307 : BitVec 32 := Scalar.addi v304 v306
  let c8_i32_295 : BitVec 32 := 8#32
  let v308 : BitVec 1 := Scalar.cmpi .eq v2 c8_i32_295
  let c14_i32_296 : BitVec 32 := 14#32
  let c0_i32_297 : BitVec 32 := 0#32
  let v309 : BitVec 32 := Scalar.select v308 c14_i32_296 c0_i32_297
  let v310 : BitVec 32 := Scalar.addi v307 v309
  let c12_i32_298 : BitVec 32 := 12#32
  let v311 : BitVec 1 := Scalar.cmpi .eq v2 c12_i32_298
  let c13_i32_299 : BitVec 32 := 13#32
  let c0_i32_300 : BitVec 32 := 0#32
  let v312 : BitVec 32 := Scalar.select v311 c13_i32_299 c0_i32_300
  let v313 : BitVec 32 := Scalar.addi v310 v312
  let c15_i32_301 : BitVec 32 := 15#32
  let v314 : BitVec 1 := Scalar.cmpi .eq v2 c15_i32_301
  let c9_i32_302 : BitVec 32 := 9#32
  let c0_i32_303 : BitVec 32 := 0#32
  let v315 : BitVec 32 := Scalar.select v314 c9_i32_302 c0_i32_303
  let v316 : BitVec 32 := Scalar.addi v313 v315
  let c11_i32_304 : BitVec 32 := 11#32
  let v317 : BitVec 1 := Scalar.cmpi .eq v2 c11_i32_304
  let c5_i32_305 : BitVec 32 := 5#32
  let c0_i32_306 : BitVec 32 := 0#32
  let v318 : BitVec 32 := Scalar.select v317 c5_i32_305 c0_i32_306
  let v319 : BitVec 32 := Scalar.addi v316 v318
  let c7_i32_307 : BitVec 32 := 7#32
  let v320 : BitVec 1 := Scalar.cmpi .eq v2 c7_i32_307
  let c1_i32_308 : BitVec 32 := 1#32
  let c0_i32_309 : BitVec 32 := 0#32
  let v321 : BitVec 32 := Scalar.select v320 c1_i32_308 c0_i32_309
  let v322 : BitVec 32 := Scalar.addi v319 v321
  let c3_i32_310 : BitVec 32 := 3#32
  let v323 : BitVec 1 := Scalar.cmpi .eq v2 c3_i32_310
  let c0_i32_311 : BitVec 32 := 0#32
  let c0_i32_312 : BitVec 32 := 0#32
  let v324 : BitVec 32 := Scalar.select v323 c0_i32_311 c0_i32_312
  let v325 : BitVec 32 := Scalar.addi v322 v324
  let c2_i32_313 : BitVec 32 := 2#32
  let v326 : BitVec 1 := Scalar.cmpi .eq v2 c2_i32_313
  let c4_i32_314 : BitVec 32 := 4#32
  let c0_i32_315 : BitVec 32 := 0#32
  let v327 : BitVec 32 := Scalar.select v326 c4_i32_314 c0_i32_315
  let v328 : BitVec 32 := Scalar.addi v325 v327
  let c6_i32_316 : BitVec 32 := 6#32
  let v329 : BitVec 1 := Scalar.cmpi .eq v2 c6_i32_316
  let c8_i32_317 : BitVec 32 := 8#32
  let c0_i32_318 : BitVec 32 := 0#32
  let v330 : BitVec 32 := Scalar.select v329 c8_i32_317 c0_i32_318
  let v331 : BitVec 32 := Scalar.addi v328 v330
  let c10_i32_319 : BitVec 32 := 10#32
  let v332 : BitVec 1 := Scalar.cmpi .eq v2 c10_i32_319
  let c12_i32_320 : BitVec 32 := 12#32
  let c0_i32_321 : BitVec 32 := 0#32
  let v333 : BitVec 32 := Scalar.select v332 c12_i32_320 c0_i32_321
  let v334 : BitVec 32 := Scalar.addi v331 v333
  let c14_i32_322 : BitVec 32 := 14#32
  let v335 : BitVec 1 := Scalar.cmpi .eq v2 c14_i32_322
  let c15_i32_323 : BitVec 32 := 15#32
  let c0_i32_324 : BitVec 32 := 0#32
  let v336 : BitVec 32 := Scalar.select v335 c15_i32_323 c0_i32_324
  let v337 : BitVec 32 := Scalar.addi v334 v336
  let c13_i32_325 : BitVec 32 := 13#32
  let v338 : BitVec 1 := Scalar.cmpi .eq v2 c13_i32_325
  let c11_i32_326 : BitVec 32 := 11#32
  let c0_i32_327 : BitVec 32 := 0#32
  let v339 : BitVec 32 := Scalar.select v338 c11_i32_326 c0_i32_327
  let v340 : BitVec 32 := Scalar.addi v337 v339
  let c9_i32_328 : BitVec 32 := 9#32
  let v341 : BitVec 1 := Scalar.cmpi .eq v2 c9_i32_328
  let c7_i32_329 : BitVec 32 := 7#32
  let c0_i32_330 : BitVec 32 := 0#32
  let v342 : BitVec 32 := Scalar.select v341 c7_i32_329 c0_i32_330
  let v343 : BitVec 32 := Scalar.addi v340 v342
  let c5_i32_331 : BitVec 32 := 5#32
  let v344 : BitVec 1 := Scalar.cmpi .eq v2 c5_i32_331
  let c3_i32_332 : BitVec 32 := 3#32
  let c0_i32_333 : BitVec 32 := 0#32
  let v345 : BitVec 32 := Scalar.select v344 c3_i32_332 c0_i32_333
  let v346 : BitVec 32 := Scalar.addi v343 v345
  let c1_i32_334 : BitVec 32 := 1#32
  let v347 : BitVec 1 := Scalar.cmpi .eq v2 c1_i32_334
  let c2_i32_335 : BitVec 32 := 2#32
  let c0_i32_336 : BitVec 32 := 0#32
  let v348 : BitVec 32 := Scalar.select v347 c2_i32_335 c0_i32_336
  let v349 : BitVec 32 := Scalar.addi v346 v348
  let c0_i32_337 : BitVec 32 := 0#32
  let v350 : BitVec 32 := Scalar.select v301 v349 c0_i32_337
  let v351 : BitVec 32 := Scalar.addi v300 v350
  let c1_i32_3081 : BitVec 32 := 1#32
  let v2775 : BitVec 32 := Scalar.muli v351 c1_i32_3081
  let v2776 : BitVec 32 := Scalar.addi c0_i32_3082 v2775
  v2776.toNat
def k0_off3 (d0 : Dev nD) (c3_i32_1609 : BitVec 32) (c2_i32_1613 : BitVec 32) (c6_i32_1616 : BitVec 32) (c10_i32_1619 : BitVec 32) (c14_i32_1622 : BitVec 32) (c13_i32_1625 : BitVec 32) (c9_i32_1628 : BitVec 32) (c5_i32_1631 : BitVec 32) (c1_i32_1634 : BitVec 32) (c0_i32_1637 : BitVec 32) (c4_i32_1640 : BitVec 32) (c8_i32_1643 : BitVec 32) (c12_i32_1646 : BitVec 32) (c15_i32_1649 : BitVec 32) (c11_i32_1652 : BitVec 32) (c7_i32_1655 : BitVec 32) (c7_i32_1661 : BitVec 32) (c3_i32_1665 : BitVec 32) (c2_i32_1668 : BitVec 32) (c6_i32_1671 : BitVec 32) (c10_i32_1674 : BitVec 32) (c14_i32_1677 : BitVec 32) (c13_i32_1680 : BitVec 32) (c9_i32_1683 : BitVec 32) (c5_i32_1686 : BitVec 32) (c1_i32_1689 : BitVec 32) (c0_i32_1692 : BitVec 32) (c4_i32_1695 : BitVec 32) (c8_i32_1698 : BitVec 32) (c12_i32_1701 : BitVec 32) (c15_i32_1704 : BitVec 32) (c11_i32_1707 : BitVec 32) (c10_i32_1712 : BitVec 32) (c14_i32_1716 : BitVec 32) (c13_i32_1719 : BitVec 32) (c9_i32_1722 : BitVec 32) (c5_i32_1725 : BitVec 32) (c1_i32_1728 : BitVec 32) (c0_i32_1731 : BitVec 32) (c4_i32_1734 : BitVec 32) (c8_i32_1737 : BitVec 32) (c12_i32_1740 : BitVec 32) (c15_i32_1743 : BitVec 32) (c11_i32_1746 : BitVec 32) (c7_i32_1749 : BitVec 32) (c3_i32_1752 : BitVec 32) (c2_i32_1755 : BitVec 32) (c6_i32_1758 : BitVec 32) (c6_i32_1763 : BitVec 32) (c10_i32_1767 : BitVec 32) (c14_i32_1770 : BitVec 32) (c13_i32_1773 : BitVec 32) (c9_i32_1776 : BitVec 32) (c5_i32_1779 : BitVec 32) (c1_i32_1782 : BitVec 32) (c0_i32_1785 : BitVec 32) (c4_i32_1788 : BitVec 32) (c8_i32_1791 : BitVec 32) (c12_i32_1794 : BitVec 32) (c15_i32_1797 : BitVec 32) (c11_i32_1800 : BitVec 32) (c7_i32_1803 : BitVec 32) (c3_i32_1806 : BitVec 32) (c2_i32_1809 : BitVec 32) : Fin 2 → Nat :=
  let c0_i32_1658 : BitVec 32 := 0#32
  let c0_i32_2 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v5 : BitVec 32 := Scalar.addi c0_i32_2 v4
  let c4_i32 : BitVec 32 := 4#32
  let v6 : BitVec 1 := Scalar.cmpi .eq v2 c4_i32
  let c1_i32_3 : BitVec 32 := 1#32
  let c0_i32_4 : BitVec 32 := 0#32
  let v7 : BitVec 32 := Scalar.select v6 c1_i32_3 c0_i32_4
  let v8 : BitVec 32 := Scalar.addi v5 v7
  let c8_i32 : BitVec 32 := 8#32
  let v9 : BitVec 1 := Scalar.cmpi .eq v2 c8_i32
  let c2_i32 : BitVec 32 := 2#32
  let c0_i32_5 : BitVec 32 := 0#32
  let v10 : BitVec 32 := Scalar.select v9 c2_i32 c0_i32_5
  let v11 : BitVec 32 := Scalar.addi v8 v10
  let c12_i32 : BitVec 32 := 12#32
  let v12 : BitVec 1 := Scalar.cmpi .eq v2 c12_i32
  let c3_i32 : BitVec 32 := 3#32
  let c0_i32_6 : BitVec 32 := 0#32
  let v13 : BitVec 32 := Scalar.select v12 c3_i32 c0_i32_6
  let v14 : BitVec 32 := Scalar.addi v11 v13
  let c15_i32 : BitVec 32 := 15#32
  let v15 : BitVec 1 := Scalar.cmpi .eq v2 c15_i32
  let c4_i32_7 : BitVec 32 := 4#32
  let c0_i32_8 : BitVec 32 := 0#32
  let v16 : BitVec 32 := Scalar.select v15 c4_i32_7 c0_i32_8
  let v17 : BitVec 32 := Scalar.addi v14 v16
  let c11_i32 : BitVec 32 := 11#32
  let v18 : BitVec 1 := Scalar.cmpi .eq v2 c11_i32
  let c5_i32 : BitVec 32 := 5#32
  let c0_i32_9 : BitVec 32 := 0#32
  let v19 : BitVec 32 := Scalar.select v18 c5_i32 c0_i32_9
  let v20 : BitVec 32 := Scalar.addi v17 v19
  let c7_i32 : BitVec 32 := 7#32
  let v21 : BitVec 1 := Scalar.cmpi .eq v2 c7_i32
  let c6_i32 : BitVec 32 := 6#32
  let c0_i32_10 : BitVec 32 := 0#32
  let v22 : BitVec 32 := Scalar.select v21 c6_i32 c0_i32_10
  let v23 : BitVec 32 := Scalar.addi v20 v22
  let c3_i32_11 : BitVec 32 := 3#32
  let v24 : BitVec 1 := Scalar.cmpi .eq v2 c3_i32_11
  let c7_i32_12 : BitVec 32 := 7#32
  let c0_i32_13 : BitVec 32 := 0#32
  let v25 : BitVec 32 := Scalar.select v24 c7_i32_12 c0_i32_13
  let v26 : BitVec 32 := Scalar.addi v23 v25
  let c2_i32_14 : BitVec 32 := 2#32
  let v27 : BitVec 1 := Scalar.cmpi .eq v2 c2_i32_14
  let c8_i32_15 : BitVec 32 := 8#32
  let c0_i32_16 : BitVec 32 := 0#32
  let v28 : BitVec 32 := Scalar.select v27 c8_i32_15 c0_i32_16
  let v29 : BitVec 32 := Scalar.addi v26 v28
  let c6_i32_17 : BitVec 32 := 6#32
  let v30 : BitVec 1 := Scalar.cmpi .eq v2 c6_i32_17
  let c9_i32 : BitVec 32 := 9#32
  let c0_i32_18 : BitVec 32 := 0#32
  let v31 : BitVec 32 := Scalar.select v30 c9_i32 c0_i32_18
  let v32 : BitVec 32 := Scalar.addi v29 v31
  let c10_i32 : BitVec 32 := 10#32
  let v33 : BitVec 1 := Scalar.cmpi .eq v2 c10_i32
  let c10_i32_19 : BitVec 32 := 10#32
  let c0_i32_20 : BitVec 32 := 0#32
  let v34 : BitVec 32 := Scalar.select v33 c10_i32_19 c0_i32_20
  let v35 : BitVec 32 := Scalar.addi v32 v34
  let c14_i32 : BitVec 32 := 14#32
  let v36 : BitVec 1 := Scalar.cmpi .eq v2 c14_i32
  let c11_i32_21 : BitVec 32 := 11#32
  let c0_i32_22 : BitVec 32 := 0#32
  let v37 : BitVec 32 := Scalar.select v36 c11_i32_21 c0_i32_22
  let v38 : BitVec 32 := Scalar.addi v35 v37
  let c13_i32 : BitVec 32 := 13#32
  let v39 : BitVec 1 := Scalar.cmpi .eq v2 c13_i32
  let c12_i32_23 : BitVec 32 := 12#32
  let c0_i32_24 : BitVec 32 := 0#32
  let v40 : BitVec 32 := Scalar.select v39 c12_i32_23 c0_i32_24
  let v41 : BitVec 32 := Scalar.addi v38 v40
  let c9_i32_25 : BitVec 32 := 9#32
  let v42 : BitVec 1 := Scalar.cmpi .eq v2 c9_i32_25
  let c13_i32_26 : BitVec 32 := 13#32
  let c0_i32_27 : BitVec 32 := 0#32
  let v43 : BitVec 32 := Scalar.select v42 c13_i32_26 c0_i32_27
  let v44 : BitVec 32 := Scalar.addi v41 v43
  let c5_i32_28 : BitVec 32 := 5#32
  let v45 : BitVec 1 := Scalar.cmpi .eq v2 c5_i32_28
  let c14_i32_29 : BitVec 32 := 14#32
  let c0_i32_30 : BitVec 32 := 0#32
  let v46 : BitVec 32 := Scalar.select v45 c14_i32_29 c0_i32_30
  let v47 : BitVec 32 := Scalar.addi v44 v46
  let c1_i32_31 : BitVec 32 := 1#32
  let v48 : BitVec 1 := Scalar.cmpi .eq v2 c1_i32_31
  let c15_i32_32 : BitVec 32 := 15#32
  let c0_i32_33 : BitVec 32 := 0#32
  let v49 : BitVec 32 := Scalar.select v48 c15_i32_32 c0_i32_33
  let v50 : BitVec 32 := Scalar.addi v47 v49
  let c4_i32_34 : BitVec 32 := 4#32
  let v51 : BitVec 32 := Scalar.remsi v50 c4_i32_34
  let c0_i32_1607 : BitVec 32 := 0#32
  let v1493 : BitVec 1 := Scalar.cmpi .eq v51 c0_i32_1607
  let c0_i32_1611 : BitVec 32 := 0#32
  let c0_i32_1608 : BitVec 32 := 0#32
  let v1494 : BitVec 1 := Scalar.cmpi .eq v2 c0_i32_1608
  let c0_i32_1610 : BitVec 32 := 0#32
  let v1495 : BitVec 32 := Scalar.select v1494 c3_i32_1609 c0_i32_1610
  let v1496 : BitVec 32 := Scalar.addi c0_i32_1611 v1495
  let c4_i32_1612 : BitVec 32 := 4#32
  let v1497 : BitVec 1 := Scalar.cmpi .eq v2 c4_i32_1612
  let c0_i32_1614 : BitVec 32 := 0#32
  let v1498 : BitVec 32 := Scalar.select v1497 c2_i32_1613 c0_i32_1614
  let v1499 : BitVec 32 := Scalar.addi v1496 v1498
  let c8_i32_1615 : BitVec 32 := 8#32
  let v1500 : BitVec 1 := Scalar.cmpi .eq v2 c8_i32_1615
  let c0_i32_1617 : BitVec 32 := 0#32
  let v1501 : BitVec 32 := Scalar.select v1500 c6_i32_1616 c0_i32_1617
  let v1502 : BitVec 32 := Scalar.addi v1499 v1501
  let c12_i32_1618 : BitVec 32 := 12#32
  let v1503 : BitVec 1 := Scalar.cmpi .eq v2 c12_i32_1618
  let c0_i32_1620 : BitVec 32 := 0#32
  let v1504 : BitVec 32 := Scalar.select v1503 c10_i32_1619 c0_i32_1620
  let v1505 : BitVec 32 := Scalar.addi v1502 v1504
  let c15_i32_1621 : BitVec 32 := 15#32
  let v1506 : BitVec 1 := Scalar.cmpi .eq v2 c15_i32_1621
  let c0_i32_1623 : BitVec 32 := 0#32
  let v1507 : BitVec 32 := Scalar.select v1506 c14_i32_1622 c0_i32_1623
  let v1508 : BitVec 32 := Scalar.addi v1505 v1507
  let c11_i32_1624 : BitVec 32 := 11#32
  let v1509 : BitVec 1 := Scalar.cmpi .eq v2 c11_i32_1624
  let c0_i32_1626 : BitVec 32 := 0#32
  let v1510 : BitVec 32 := Scalar.select v1509 c13_i32_1625 c0_i32_1626
  let v1511 : BitVec 32 := Scalar.addi v1508 v1510
  let c7_i32_1627 : BitVec 32 := 7#32
  let v1512 : BitVec 1 := Scalar.cmpi .eq v2 c7_i32_1627
  let c0_i32_1629 : BitVec 32 := 0#32
  let v1513 : BitVec 32 := Scalar.select v1512 c9_i32_1628 c0_i32_1629
  let v1514 : BitVec 32 := Scalar.addi v1511 v1513
  let c3_i32_1630 : BitVec 32 := 3#32
  let v1515 : BitVec 1 := Scalar.cmpi .eq v2 c3_i32_1630
  let c0_i32_1632 : BitVec 32 := 0#32
  let v1516 : BitVec 32 := Scalar.select v1515 c5_i32_1631 c0_i32_1632
  let v1517 : BitVec 32 := Scalar.addi v1514 v1516
  let c2_i32_1633 : BitVec 32 := 2#32
  let v1518 : BitVec 1 := Scalar.cmpi .eq v2 c2_i32_1633
  let c0_i32_1635 : BitVec 32 := 0#32
  let v1519 : BitVec 32 := Scalar.select v1518 c1_i32_1634 c0_i32_1635
  let v1520 : BitVec 32 := Scalar.addi v1517 v1519
  let c6_i32_1636 : BitVec 32 := 6#32
  let v1521 : BitVec 1 := Scalar.cmpi .eq v2 c6_i32_1636
  let c0_i32_1638 : BitVec 32 := 0#32
  let v1522 : BitVec 32 := Scalar.select v1521 c0_i32_1637 c0_i32_1638
  let v1523 : BitVec 32 := Scalar.addi v1520 v1522
  let c10_i32_1639 : BitVec 32 := 10#32
  let v1524 : BitVec 1 := Scalar.cmpi .eq v2 c10_i32_1639
  let c0_i32_1641 : BitVec 32 := 0#32
  let v1525 : BitVec 32 := Scalar.select v1524 c4_i32_1640 c0_i32_1641
  let v1526 : BitVec 32 := Scalar.addi v1523 v1525
  let c14_i32_1642 : BitVec 32 := 14#32
  let v1527 : BitVec 1 := Scalar.cmpi .eq v2 c14_i32_1642
  let c0_i32_1644 : BitVec 32 := 0#32
  let v1528 : BitVec 32 := Scalar.select v1527 c8_i32_1643 c0_i32_1644
  let v1529 : BitVec 32 := Scalar.addi v1526 v1528
  let c13_i32_1645 : BitVec 32 := 13#32
  let v1530 : BitVec 1 := Scalar.cmpi .eq v2 c13_i32_1645
  let c0_i32_1647 : BitVec 32 := 0#32
  let v1531 : BitVec 32 := Scalar.select v1530 c12_i32_1646 c0_i32_1647
  let v1532 : BitVec 32 := Scalar.addi v1529 v1531
  let c9_i32_1648 : BitVec 32 := 9#32
  let v1533 : BitVec 1 := Scalar.cmpi .eq v2 c9_i32_1648
  let c0_i32_1650 : BitVec 32 := 0#32
  let v1534 : BitVec 32 := Scalar.select v1533 c15_i32_1649 c0_i32_1650
  let v1535 : BitVec 32 := Scalar.addi v1532 v1534
  let c5_i32_1651 : BitVec 32 := 5#32
  let v1536 : BitVec 1 := Scalar.cmpi .eq v2 c5_i32_1651
  let c0_i32_1653 : BitVec 32 := 0#32
  let v1537 : BitVec 32 := Scalar.select v1536 c11_i32_1652 c0_i32_1653
  let v1538 : BitVec 32 := Scalar.addi v1535 v1537
  let c1_i32_1654 : BitVec 32 := 1#32
  let v1539 : BitVec 1 := Scalar.cmpi .eq v2 c1_i32_1654
  let c0_i32_1656 : BitVec 32 := 0#32
  let v1540 : BitVec 32 := Scalar.select v1539 c7_i32_1655 c0_i32_1656
  let v1541 : BitVec 32 := Scalar.addi v1538 v1540
  let c0_i32_1657 : BitVec 32 := 0#32
  let v1542 : BitVec 32 := Scalar.select v1493 v1541 c0_i32_1657
  let v1543 : BitVec 32 := Scalar.addi c0_i32_1658 v1542
  let c1_i32_1659 : BitVec 32 := 1#32
  let v1544 : BitVec 1 := Scalar.cmpi .eq v51 c1_i32_1659
  let c0_i32_1663 : BitVec 32 := 0#32
  let c0_i32_1660 : BitVec 32 := 0#32
  let v1545 : BitVec 1 := Scalar.cmpi .eq v2 c0_i32_1660
  let c0_i32_1662 : BitVec 32 := 0#32
  let v1546 : BitVec 32 := Scalar.select v1545 c7_i32_1661 c0_i32_1662
  let v1547 : BitVec 32 := Scalar.addi c0_i32_1663 v1546
  let c4_i32_1664 : BitVec 32 := 4#32
  let v1548 : BitVec 1 := Scalar.cmpi .eq v2 c4_i32_1664
  let c0_i32_1666 : BitVec 32 := 0#32
  let v1549 : BitVec 32 := Scalar.select v1548 c3_i32_1665 c0_i32_1666
  let v1550 : BitVec 32 := Scalar.addi v1547 v1549
  let c8_i32_1667 : BitVec 32 := 8#32
  let v1551 : BitVec 1 := Scalar.cmpi .eq v2 c8_i32_1667
  let c0_i32_1669 : BitVec 32 := 0#32
  let v1552 : BitVec 32 := Scalar.select v1551 c2_i32_1668 c0_i32_1669
  let v1553 : BitVec 32 := Scalar.addi v1550 v1552
  let c12_i32_1670 : BitVec 32 := 12#32
  let v1554 : BitVec 1 := Scalar.cmpi .eq v2 c12_i32_1670
  let c0_i32_1672 : BitVec 32 := 0#32
  let v1555 : BitVec 32 := Scalar.select v1554 c6_i32_1671 c0_i32_1672
  let v1556 : BitVec 32 := Scalar.addi v1553 v1555
  let c15_i32_1673 : BitVec 32 := 15#32
  let v1557 : BitVec 1 := Scalar.cmpi .eq v2 c15_i32_1673
  let c0_i32_1675 : BitVec 32 := 0#32
  let v1558 : BitVec 32 := Scalar.select v1557 c10_i32_1674 c0_i32_1675
  let v1559 : BitVec 32 := Scalar.addi v1556 v1558
  let c11_i32_1676 : BitVec 32 := 11#32
  let v1560 : BitVec 1 := Scalar.cmpi .eq v2 c11_i32_1676
  let c0_i32_1678 : BitVec 32 := 0#32
  let v1561 : BitVec 32 := Scalar.select v1560 c14_i32_1677 c0_i32_1678
  let v1562 : BitVec 32 := Scalar.addi v1559 v1561
  let c7_i32_1679 : BitVec 32 := 7#32
  let v1563 : BitVec 1 := Scalar.cmpi .eq v2 c7_i32_1679
  let c0_i32_1681 : BitVec 32 := 0#32
  let v1564 : BitVec 32 := Scalar.select v1563 c13_i32_1680 c0_i32_1681
  let v1565 : BitVec 32 := Scalar.addi v1562 v1564
  let c3_i32_1682 : BitVec 32 := 3#32
  let v1566 : BitVec 1 := Scalar.cmpi .eq v2 c3_i32_1682
  let c0_i32_1684 : BitVec 32 := 0#32
  let v1567 : BitVec 32 := Scalar.select v1566 c9_i32_1683 c0_i32_1684
  let v1568 : BitVec 32 := Scalar.addi v1565 v1567
  let c2_i32_1685 : BitVec 32 := 2#32
  let v1569 : BitVec 1 := Scalar.cmpi .eq v2 c2_i32_1685
  let c0_i32_1687 : BitVec 32 := 0#32
  let v1570 : BitVec 32 := Scalar.select v1569 c5_i32_1686 c0_i32_1687
  let v1571 : BitVec 32 := Scalar.addi v1568 v1570
  let c6_i32_1688 : BitVec 32 := 6#32
  let v1572 : BitVec 1 := Scalar.cmpi .eq v2 c6_i32_1688
  let c0_i32_1690 : BitVec 32 := 0#32
  let v1573 : BitVec 32 := Scalar.select v1572 c1_i32_1689 c0_i32_1690
  let v1574 : BitVec 32 := Scalar.addi v1571 v1573
  let c10_i32_1691 : BitVec 32 := 10#32
  let v1575 : BitVec 1 := Scalar.cmpi .eq v2 c10_i32_1691
  let c0_i32_1693 : BitVec 32 := 0#32
  let v1576 : BitVec 32 := Scalar.select v1575 c0_i32_1692 c0_i32_1693
  let v1577 : BitVec 32 := Scalar.addi v1574 v1576
  let c14_i32_1694 : BitVec 32 := 14#32
  let v1578 : BitVec 1 := Scalar.cmpi .eq v2 c14_i32_1694
  let c0_i32_1696 : BitVec 32 := 0#32
  let v1579 : BitVec 32 := Scalar.select v1578 c4_i32_1695 c0_i32_1696
  let v1580 : BitVec 32 := Scalar.addi v1577 v1579
  let c13_i32_1697 : BitVec 32 := 13#32
  let v1581 : BitVec 1 := Scalar.cmpi .eq v2 c13_i32_1697
  let c0_i32_1699 : BitVec 32 := 0#32
  let v1582 : BitVec 32 := Scalar.select v1581 c8_i32_1698 c0_i32_1699
  let v1583 : BitVec 32 := Scalar.addi v1580 v1582
  let c9_i32_1700 : BitVec 32 := 9#32
  let v1584 : BitVec 1 := Scalar.cmpi .eq v2 c9_i32_1700
  let c0_i32_1702 : BitVec 32 := 0#32
  let v1585 : BitVec 32 := Scalar.select v1584 c12_i32_1701 c0_i32_1702
  let v1586 : BitVec 32 := Scalar.addi v1583 v1585
  let c5_i32_1703 : BitVec 32 := 5#32
  let v1587 : BitVec 1 := Scalar.cmpi .eq v2 c5_i32_1703
  let c0_i32_1705 : BitVec 32 := 0#32
  let v1588 : BitVec 32 := Scalar.select v1587 c15_i32_1704 c0_i32_1705
  let v1589 : BitVec 32 := Scalar.addi v1586 v1588
  let c1_i32_1706 : BitVec 32 := 1#32
  let v1590 : BitVec 1 := Scalar.cmpi .eq v2 c1_i32_1706
  let c0_i32_1708 : BitVec 32 := 0#32
  let v1591 : BitVec 32 := Scalar.select v1590 c11_i32_1707 c0_i32_1708
  let v1592 : BitVec 32 := Scalar.addi v1589 v1591
  let c0_i32_1709 : BitVec 32 := 0#32
  let v1593 : BitVec 32 := Scalar.select v1544 v1592 c0_i32_1709
  let v1594 : BitVec 32 := Scalar.addi v1543 v1593
  let c2_i32_1710 : BitVec 32 := 2#32
  let v1595 : BitVec 1 := Scalar.cmpi .eq v51 c2_i32_1710
  let c0_i32_1714 : BitVec 32 := 0#32
  let c0_i32_1711 : BitVec 32 := 0#32
  let v1596 : BitVec 1 := Scalar.cmpi .eq v2 c0_i32_1711
  let c0_i32_1713 : BitVec 32 := 0#32
  let v1597 : BitVec 32 := Scalar.select v1596 c10_i32_1712 c0_i32_1713
  let v1598 : BitVec 32 := Scalar.addi c0_i32_1714 v1597
  let c4_i32_1715 : BitVec 32 := 4#32
  let v1599 : BitVec 1 := Scalar.cmpi .eq v2 c4_i32_1715
  let c0_i32_1717 : BitVec 32 := 0#32
  let v1600 : BitVec 32 := Scalar.select v1599 c14_i32_1716 c0_i32_1717
  let v1601 : BitVec 32 := Scalar.addi v1598 v1600
  let c8_i32_1718 : BitVec 32 := 8#32
  let v1602 : BitVec 1 := Scalar.cmpi .eq v2 c8_i32_1718
  let c0_i32_1720 : BitVec 32 := 0#32
  let v1603 : BitVec 32 := Scalar.select v1602 c13_i32_1719 c0_i32_1720
  let v1604 : BitVec 32 := Scalar.addi v1601 v1603
  let c12_i32_1721 : BitVec 32 := 12#32
  let v1605 : BitVec 1 := Scalar.cmpi .eq v2 c12_i32_1721
  let c0_i32_1723 : BitVec 32 := 0#32
  let v1606 : BitVec 32 := Scalar.select v1605 c9_i32_1722 c0_i32_1723
  let v1607 : BitVec 32 := Scalar.addi v1604 v1606
  let c15_i32_1724 : BitVec 32 := 15#32
  let v1608 : BitVec 1 := Scalar.cmpi .eq v2 c15_i32_1724
  let c0_i32_1726 : BitVec 32 := 0#32
  let v1609 : BitVec 32 := Scalar.select v1608 c5_i32_1725 c0_i32_1726
  let v1610 : BitVec 32 := Scalar.addi v1607 v1609
  let c11_i32_1727 : BitVec 32 := 11#32
  let v1611 : BitVec 1 := Scalar.cmpi .eq v2 c11_i32_1727
  let c0_i32_1729 : BitVec 32 := 0#32
  let v1612 : BitVec 32 := Scalar.select v1611 c1_i32_1728 c0_i32_1729
  let v1613 : BitVec 32 := Scalar.addi v1610 v1612
  let c7_i32_1730 : BitVec 32 := 7#32
  let v1614 : BitVec 1 := Scalar.cmpi .eq v2 c7_i32_1730
  let c0_i32_1732 : BitVec 32 := 0#32
  let v1615 : BitVec 32 := Scalar.select v1614 c0_i32_1731 c0_i32_1732
  let v1616 : BitVec 32 := Scalar.addi v1613 v1615
  let c3_i32_1733 : BitVec 32 := 3#32
  let v1617 : BitVec 1 := Scalar.cmpi .eq v2 c3_i32_1733
  let c0_i32_1735 : BitVec 32 := 0#32
  let v1618 : BitVec 32 := Scalar.select v1617 c4_i32_1734 c0_i32_1735
  let v1619 : BitVec 32 := Scalar.addi v1616 v1618
  let c2_i32_1736 : BitVec 32 := 2#32
  let v1620 : BitVec 1 := Scalar.cmpi .eq v2 c2_i32_1736
  let c0_i32_1738 : BitVec 32 := 0#32
  let v1621 : BitVec 32 := Scalar.select v1620 c8_i32_1737 c0_i32_1738
  let v1622 : BitVec 32 := Scalar.addi v1619 v1621
  let c6_i32_1739 : BitVec 32 := 6#32
  let v1623 : BitVec 1 := Scalar.cmpi .eq v2 c6_i32_1739
  let c0_i32_1741 : BitVec 32 := 0#32
  let v1624 : BitVec 32 := Scalar.select v1623 c12_i32_1740 c0_i32_1741
  let v1625 : BitVec 32 := Scalar.addi v1622 v1624
  let c10_i32_1742 : BitVec 32 := 10#32
  let v1626 : BitVec 1 := Scalar.cmpi .eq v2 c10_i32_1742
  let c0_i32_1744 : BitVec 32 := 0#32
  let v1627 : BitVec 32 := Scalar.select v1626 c15_i32_1743 c0_i32_1744
  let v1628 : BitVec 32 := Scalar.addi v1625 v1627
  let c14_i32_1745 : BitVec 32 := 14#32
  let v1629 : BitVec 1 := Scalar.cmpi .eq v2 c14_i32_1745
  let c0_i32_1747 : BitVec 32 := 0#32
  let v1630 : BitVec 32 := Scalar.select v1629 c11_i32_1746 c0_i32_1747
  let v1631 : BitVec 32 := Scalar.addi v1628 v1630
  let c13_i32_1748 : BitVec 32 := 13#32
  let v1632 : BitVec 1 := Scalar.cmpi .eq v2 c13_i32_1748
  let c0_i32_1750 : BitVec 32 := 0#32
  let v1633 : BitVec 32 := Scalar.select v1632 c7_i32_1749 c0_i32_1750
  let v1634 : BitVec 32 := Scalar.addi v1631 v1633
  let c9_i32_1751 : BitVec 32 := 9#32
  let v1635 : BitVec 1 := Scalar.cmpi .eq v2 c9_i32_1751
  let c0_i32_1753 : BitVec 32 := 0#32
  let v1636 : BitVec 32 := Scalar.select v1635 c3_i32_1752 c0_i32_1753
  let v1637 : BitVec 32 := Scalar.addi v1634 v1636
  let c5_i32_1754 : BitVec 32 := 5#32
  let v1638 : BitVec 1 := Scalar.cmpi .eq v2 c5_i32_1754
  let c0_i32_1756 : BitVec 32 := 0#32
  let v1639 : BitVec 32 := Scalar.select v1638 c2_i32_1755 c0_i32_1756
  let v1640 : BitVec 32 := Scalar.addi v1637 v1639
  let c1_i32_1757 : BitVec 32 := 1#32
  let v1641 : BitVec 1 := Scalar.cmpi .eq v2 c1_i32_1757
  let c0_i32_1759 : BitVec 32 := 0#32
  let v1642 : BitVec 32 := Scalar.select v1641 c6_i32_1758 c0_i32_1759
  let v1643 : BitVec 32 := Scalar.addi v1640 v1642
  let c0_i32_1760 : BitVec 32 := 0#32
  let v1644 : BitVec 32 := Scalar.select v1595 v1643 c0_i32_1760
  let v1645 : BitVec 32 := Scalar.addi v1594 v1644
  let c3_i32_1761 : BitVec 32 := 3#32
  let v1646 : BitVec 1 := Scalar.cmpi .eq v51 c3_i32_1761
  let c0_i32_1765 : BitVec 32 := 0#32
  let c0_i32_1762 : BitVec 32 := 0#32
  let v1647 : BitVec 1 := Scalar.cmpi .eq v2 c0_i32_1762
  let c0_i32_1764 : BitVec 32 := 0#32
  let v1648 : BitVec 32 := Scalar.select v1647 c6_i32_1763 c0_i32_1764
  let v1649 : BitVec 32 := Scalar.addi c0_i32_1765 v1648
  let c4_i32_1766 : BitVec 32 := 4#32
  let v1650 : BitVec 1 := Scalar.cmpi .eq v2 c4_i32_1766
  let c0_i32_1768 : BitVec 32 := 0#32
  let v1651 : BitVec 32 := Scalar.select v1650 c10_i32_1767 c0_i32_1768
  let v1652 : BitVec 32 := Scalar.addi v1649 v1651
  let c8_i32_1769 : BitVec 32 := 8#32
  let v1653 : BitVec 1 := Scalar.cmpi .eq v2 c8_i32_1769
  let c0_i32_1771 : BitVec 32 := 0#32
  let v1654 : BitVec 32 := Scalar.select v1653 c14_i32_1770 c0_i32_1771
  let v1655 : BitVec 32 := Scalar.addi v1652 v1654
  let c12_i32_1772 : BitVec 32 := 12#32
  let v1656 : BitVec 1 := Scalar.cmpi .eq v2 c12_i32_1772
  let c0_i32_1774 : BitVec 32 := 0#32
  let v1657 : BitVec 32 := Scalar.select v1656 c13_i32_1773 c0_i32_1774
  let v1658 : BitVec 32 := Scalar.addi v1655 v1657
  let c15_i32_1775 : BitVec 32 := 15#32
  let v1659 : BitVec 1 := Scalar.cmpi .eq v2 c15_i32_1775
  let c0_i32_1777 : BitVec 32 := 0#32
  let v1660 : BitVec 32 := Scalar.select v1659 c9_i32_1776 c0_i32_1777
  let v1661 : BitVec 32 := Scalar.addi v1658 v1660
  let c11_i32_1778 : BitVec 32 := 11#32
  let v1662 : BitVec 1 := Scalar.cmpi .eq v2 c11_i32_1778
  let c0_i32_1780 : BitVec 32 := 0#32
  let v1663 : BitVec 32 := Scalar.select v1662 c5_i32_1779 c0_i32_1780
  let v1664 : BitVec 32 := Scalar.addi v1661 v1663
  let c7_i32_1781 : BitVec 32 := 7#32
  let v1665 : BitVec 1 := Scalar.cmpi .eq v2 c7_i32_1781
  let c0_i32_1783 : BitVec 32 := 0#32
  let v1666 : BitVec 32 := Scalar.select v1665 c1_i32_1782 c0_i32_1783
  let v1667 : BitVec 32 := Scalar.addi v1664 v1666
  let c3_i32_1784 : BitVec 32 := 3#32
  let v1668 : BitVec 1 := Scalar.cmpi .eq v2 c3_i32_1784
  let c0_i32_1786 : BitVec 32 := 0#32
  let v1669 : BitVec 32 := Scalar.select v1668 c0_i32_1785 c0_i32_1786
  let v1670 : BitVec 32 := Scalar.addi v1667 v1669
  let c2_i32_1787 : BitVec 32 := 2#32
  let v1671 : BitVec 1 := Scalar.cmpi .eq v2 c2_i32_1787
  let c0_i32_1789 : BitVec 32 := 0#32
  let v1672 : BitVec 32 := Scalar.select v1671 c4_i32_1788 c0_i32_1789
  let v1673 : BitVec 32 := Scalar.addi v1670 v1672
  let c6_i32_1790 : BitVec 32 := 6#32
  let v1674 : BitVec 1 := Scalar.cmpi .eq v2 c6_i32_1790
  let c0_i32_1792 : BitVec 32 := 0#32
  let v1675 : BitVec 32 := Scalar.select v1674 c8_i32_1791 c0_i32_1792
  let v1676 : BitVec 32 := Scalar.addi v1673 v1675
  let c10_i32_1793 : BitVec 32 := 10#32
  let v1677 : BitVec 1 := Scalar.cmpi .eq v2 c10_i32_1793
  let c0_i32_1795 : BitVec 32 := 0#32
  let v1678 : BitVec 32 := Scalar.select v1677 c12_i32_1794 c0_i32_1795
  let v1679 : BitVec 32 := Scalar.addi v1676 v1678
  let c14_i32_1796 : BitVec 32 := 14#32
  let v1680 : BitVec 1 := Scalar.cmpi .eq v2 c14_i32_1796
  let c0_i32_1798 : BitVec 32 := 0#32
  let v1681 : BitVec 32 := Scalar.select v1680 c15_i32_1797 c0_i32_1798
  let v1682 : BitVec 32 := Scalar.addi v1679 v1681
  let c13_i32_1799 : BitVec 32 := 13#32
  let v1683 : BitVec 1 := Scalar.cmpi .eq v2 c13_i32_1799
  let c0_i32_1801 : BitVec 32 := 0#32
  let v1684 : BitVec 32 := Scalar.select v1683 c11_i32_1800 c0_i32_1801
  let v1685 : BitVec 32 := Scalar.addi v1682 v1684
  let c9_i32_1802 : BitVec 32 := 9#32
  let v1686 : BitVec 1 := Scalar.cmpi .eq v2 c9_i32_1802
  let c0_i32_1804 : BitVec 32 := 0#32
  let v1687 : BitVec 32 := Scalar.select v1686 c7_i32_1803 c0_i32_1804
  let v1688 : BitVec 32 := Scalar.addi v1685 v1687
  let c5_i32_1805 : BitVec 32 := 5#32
  let v1689 : BitVec 1 := Scalar.cmpi .eq v2 c5_i32_1805
  let c0_i32_1807 : BitVec 32 := 0#32
  let v1690 : BitVec 32 := Scalar.select v1689 c3_i32_1806 c0_i32_1807
  let v1691 : BitVec 32 := Scalar.addi v1688 v1690
  let c1_i32_1808 : BitVec 32 := 1#32
  let v1692 : BitVec 1 := Scalar.cmpi .eq v2 c1_i32_1808
  let c0_i32_1810 : BitVec 32 := 0#32
  let v1693 : BitVec 32 := Scalar.select v1692 c2_i32_1809 c0_i32_1810
  let v1694 : BitVec 32 := Scalar.addi v1691 v1693
  let c0_i32_1811 : BitVec 32 := 0#32
  let v1695 : BitVec 32 := Scalar.select v1646 v1694 c0_i32_1811
  let v1696 : BitVec 32 := Scalar.addi v1645 v1695
  let c128_i32_1818 : BitVec 32 := 128#32
  let v1702 : BitVec 32 := Scalar.muli v1696 c128_i32_1818
  let v1703 : Index := Scalar.indexCast v1702
  let c0_1819 : Index := 0#32
  ![v1703.toNat, 0]
def k0_off3_at (r : Fin 5) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 2 then
    if r.val < 1 then
      (3#32, 2#32, 6#32, 10#32, 14#32, 13#32, 9#32, 5#32, 1#32, 0#32, 4#32, 8#32, 12#32, 15#32, 11#32, 7#32, 7#32, 3#32, 2#32, 6#32, 10#32, 14#32, 13#32, 9#32, 5#32, 1#32, 0#32, 4#32, 8#32, 12#32, 15#32, 11#32, 10#32, 14#32, 13#32, 9#32, 5#32, 1#32, 0#32, 4#32, 8#32, 12#32, 15#32, 11#32, 7#32, 3#32, 2#32, 6#32, 6#32, 10#32, 14#32, 13#32, 9#32, 5#32, 1#32, 0#32, 4#32, 8#32, 12#32, 15#32, 11#32, 7#32, 3#32, 2#32)
    else
      (7#32, 3#32, 2#32, 6#32, 10#32, 14#32, 13#32, 9#32, 5#32, 1#32, 0#32, 4#32, 8#32, 12#32, 15#32, 11#32, 3#32, 2#32, 6#32, 10#32, 14#32, 13#32, 9#32, 5#32, 1#32, 0#32, 4#32, 8#32, 12#32, 15#32, 11#32, 7#32, 6#32, 10#32, 14#32, 13#32, 9#32, 5#32, 1#32, 0#32, 4#32, 8#32, 12#32, 15#32, 11#32, 7#32, 3#32, 2#32, 10#32, 14#32, 13#32, 9#32, 5#32, 1#32, 0#32, 4#32, 8#32, 12#32, 15#32, 11#32, 7#32, 3#32, 2#32, 6#32)
  else
    if r.val < 3 then
      (2#32, 6#32, 10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32, 7#32, 3#32)
    else
      if r.val < 4 then
        (6#32, 10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32, 7#32, 3#32, 2#32, 3#32, 2#32, 6#32, 10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32, 7#32)
      else
        (10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32, 7#32, 3#32, 2#32, 6#32, 7#32, 3#32, 2#32, 6#32, 10#32, 14#32, 13#32, 9#32, 5#32, 1#32, 0#32, 4#32, 8#32, 12#32, 15#32, 11#32, 7#32, 3#32, 2#32, 6#32, 10#32, 14#32, 13#32, 9#32, 5#32, 1#32, 0#32, 4#32, 8#32, 12#32, 15#32, 11#32)
abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Net.lean ====
/-
  The exchange, as a net of moves: who sits where on the ring, which rows each transfer carries, and — per device — in
  which order the program waits, sends, reads and stores, with what every move takes and what it hands back.

  Nothing here speaks of memory. A device's holdings at one moment are a set of `Atom`s, written as the bits of one number;
  a move (`Op`) takes some atoms away and adds others. Only the device's FLAVOUR (its ring index modulo 4) matters, and
  that all four flavours can play the whole list of moves is decided at the end of the file.
-/
module

public import Idealize.ShloMosaic.Lib.Tactic

@[expose] public section

set_option maxRecDepth 16384

namespace Cert.Proof.Net

/-! ## The ring -/

/-- The device at ring index `r` (taken modulo 16): the ring walks the 4×4 torus along its edges. -/
def ringAt (r : ℕ) : Fin 16 :=
  (#[0, 4, 8, 12, 15, 11, 7, 3, 2, 6, 10, 14, 13, 9, 5, 1] : Array (Fin 16)).getD (r % 16) 0

/-- The ring index of a device. -/
def ringIdx (c : Fin 16) : ℕ :=
  (#[0, 15, 8, 7, 1, 14, 9, 6, 2, 13, 10, 5, 3, 12, 11, 4] : Array ℕ).getD c.val 0

/-- The device `δ` places further along the ring. -/
def shift (c : Fin 16) (δ : ℕ) : Fin 16 := ringAt (ringIdx c + δ)

/-- The flavour of a device: its ring index modulo 4. -/
def fl (c : Fin 16) : ℕ := ringIdx c % 4

/-- How far along the ring the partner of a device of flavour `f` sits. -/
def partnerOff (f : ℕ) : ℕ := (#[7, 5, 11, 9] : Array ℕ).getD f 0

/-! ## The thirty transfers

A device sends each of them once and receives each of them once. Number `10 d + 2 s + u` with `d < 2` is the ring hop from
slot `s` to slot `s + 1` in direction `d` (0 to the right neighbour, 1 to the left), of the half `u` of the rows; number
`20 + 2 j + u` is the chord transfer `j`, of the half `u`. -/

/-- Transfer numbers. -/
abbrev Xfer := Fin 30

/-- The half of the rows a transfer carries. -/
def half (t : Xfer) : Fin 2 := ⟨t.val % 2, Nat.mod_lt _ (by decide)⟩

/-- The chord transfer 4 of half `u`, the one that goes to the spare partner in flavours 1 and 2. -/
def spareX (u : Fin 2) : Xfer := ⟨28 + u.val, by omega⟩

/-- How far along the ring the receiver of transfer `t` sits, for a sender of flavour `f`. -/
def dstOff (f : ℕ) (t : Xfer) : ℕ :=
  if t.val < 10 then 1 else if t.val < 20 then 15
  else if t.val < 28 then partnerOff f
  else if f = 1 then 13 else if f = 2 then 3 else partnerOff f

/-- How far along the ring the device sits whose rows transfer `t` brings to a receiver of flavour `f`. -/
def orgOff (f : ℕ) (t : Xfer) : ℕ :=
  if t.val < 10 then 16 - (t.val / 2 + 1) else if t.val < 20 then (t.val - 10) / 2 + 1
  else (#[#[7, 6, 8, 9, 10], #[6, 7, 8, 9, 10], #[10, 9, 8, 7, 6], #[9, 10, 8, 7, 6]] : Array (Array ℕ)).getD f #[]
    |>.getD ((t.val - 20) / 2) 0

/-- The receiver of transfer `t` of device `c`. -/
def dst (c : Fin 16) (t : Xfer) : Fin 16 := shift c (dstOff (fl c) t)

/-- The device whose rows transfer `t` brings to device `c`. -/
def org (c : Fin 16) (t : Xfer) : Fin 16 := shift c (orgOff (fl c) t)

/-- Where the sender of chord transfer `j` reads: `none` its own rows, else the slot a ring hop (of half 0) landed in. -/
def chordFrom (f j : ℕ) : Option ℕ :=
  (#[#[none, some 10, some 0, some 2, some 4], #[some 0, some 2, some 4, some 6, some 14],
     #[some 10, some 12, some 14, some 16, some 4], #[none, some 0, some 10, some 12, some 14]] : Array (Array (Option ℕ))).getD f #[]
    |>.getD j none

/-- Where the sender of transfer `t` reads: `none` its own rows, `some r` the place transfer `r` landed in. -/
def srcOf (f : ℕ) (t : Xfer) : Option Xfer :=
  if t.val < 20 then
    if t.val % 10 < 2 then none else some (Fin.ofNat 30 (t.val - 2))
  else (chordFrom f ((t.val - 20) / 2)).map fun r => Fin.ofNat 30 (r + t.val % 2)

/-- Two transfers of one number never meet: a device receives transfer `t` from one sender. -/
theorem dst_inj : ∀ t c c', dst c t = dst c' t → c = c' := by decide +kernel

/-- Sent rows are rows the sender holds: its own, or those an earlier transfer brought it. -/
theorem org_dst : ∀ c t, org (dst c t) t = match srcOf (fl c) t with | none => c | some r => org c r := by decide +kernel

/-- A relayed transfer carries the half it received. -/
theorem half_src : ∀ f : Fin 4, ∀ t r, srcOf f t = some r → half r = half t := by decide +kernel

theorem fl_lt (c : Fin 16) : fl c < 4 := Nat.mod_lt _ (by decide)

/-! ## What a device holds -/

/-- One thing a device may hold.

* `sig b`: the right to signal neighbour `b`'s barrier (0 the left neighbour, 1 the right one, 2 the partner);
* `bpos`, `bdone`: the barrier not yet waited for, and done with;
* `own t`: the place in its own memory where transfer `t` will land;
* `perm t`: the place at the receiver where its own transfer `t` will land;
* `spare d k u`: the place for chord transfer 4, half `u`, of the device `k + 1` places further in direction `d` (0 back,
  1 ahead), passed along the ring;
* `tok t`: the right to send transfer `t`; `cred t`: transfer `t` sent, and not yet waited for; `sdone t`: waited for;
* `rpos t`, `rdone t`: the arrival of transfer `t` not yet waited for, and waited for;
* `keep t`, `pa t`, `pb t`: three shares of the rows transfer `t` brought (kept, lent to the ring hop, lent to the chord);
* `xk u`, `xc d u`, `xb u`: four shares of the half `u` of its own rows (kept, lent to either ring hop, lent to the chord);
* `wv`: its block of the second operand;
* `outp δ`, `outq δ`: the rows of the result that belong to the device `δ` places further, not yet written and written. -/
inductive Atom
  | sig (b : Fin 3) | bpos | bdone | wv
  | xk (u : Fin 2) | xb (u : Fin 2) | xc (d u : Fin 2) | spare (d k u : Fin 2)
  | outp (δ : Fin 16) | outq (δ : Fin 16)
  | own (t : Xfer) | tok (t : Xfer) | perm (t : Xfer) | cred (t : Xfer) | sdone (t : Xfer)
  | rpos (t : Xfer) | rdone (t : Xfer) | keep (t : Xfer) | pa (t : Xfer) | pb (t : Xfer)
deriving DecidableEq

/-- The number of an atom. -/
def code : Atom → ℕ
  | .sig b => b.val | .bpos => 3 | .bdone => 4 | .wv => 5
  | .xk u => 6 + u.val | .xb u => 8 + u.val | .xc d u => 10 + 2 * d.val + u.val
  | .spare d k u => 14 + 4 * d.val + 2 * k.val + u.val
  | .outp δ => 24 + δ.val | .outq δ => 40 + δ.val
  | .own t => 64 + t.val | .tok t => 96 + t.val | .perm t => 128 + t.val | .cred t => 160 + t.val
  | .sdone t => 192 + t.val | .rpos t => 224 + t.val | .rdone t => 256 + t.val | .keep t => 288 + t.val
  | .pa t => 320 + t.val | .pb t => 352 + t.val

/-- The atom of a number (of one above the last, the last kind's). -/
def decode (n : ℕ) : Atom :=
  if n < 64 then
    if n < 3 then .sig (Fin.ofNat 3 n) else if n = 3 then .bpos else if n = 4 then .bdone else if n = 5 then .wv
    else if n < 8 then .xk (Fin.ofNat 2 (n - 6)) else if n < 10 then .xb (Fin.ofNat 2 (n - 8))
    else if n < 14 then .xc (Fin.ofNat 2 ((n - 10) / 2)) (Fin.ofNat 2 (n - 10))
    else if n < 24 then .spare (Fin.ofNat 2 ((n - 14) / 4)) (Fin.ofNat 2 ((n - 14) / 2)) (Fin.ofNat 2 (n - 14))
    else if n < 40 then .outp (Fin.ofNat 16 (n - 24)) else .outq (Fin.ofNat 16 (n - 40))
  else
    if n < 96 then .own (Fin.ofNat 30 (n - 64)) else if n < 128 then .tok (Fin.ofNat 30 (n - 96))
    else if n < 160 then .perm (Fin.ofNat 30 (n - 128)) else if n < 192 then .cred (Fin.ofNat 30 (n - 160))
    else if n < 224 then .sdone (Fin.ofNat 30 (n - 192)) else if n < 256 then .rpos (Fin.ofNat 30 (n - 224))
    else if n < 288 then .rdone (Fin.ofNat 30 (n - 256)) else if n < 320 then .keep (Fin.ofNat 30 (n - 288))
    else if n < 352 then .pa (Fin.ofNat 30 (n - 320)) else .pb (Fin.ofNat 30 (n - 352))

theorem decode_code (a : Atom) : decode (code a) = a := by
  cases a with
  | bpos | bdone | wv => rfl
  | sig x | xk x | xb x | outp x | outq x | own x | tok x | perm x | cred x | sdone x | rpos x | rdone x | keep x | pa x | pb x =>
    revert x; decide +kernel
  | xc x y => revert x y; decide +kernel
  | spare x y z => revert x y z; decide +kernel

theorem code_lt (a : Atom) : code a < 384 := by
  cases a <;> simp only [code] <;> omega

/-! ## The moves -/

/-- One move of the program.

* `sig b`: signal neighbour `b`; `bar`: wait for the three signals;
* `snd t`: start transfer `t`; `site f g t`: start it if the device is of flavour `f` or `g`;
* `rcv t`: wait for the arrival of transfer `t`; `swait t`: wait until transfer `t` has left;
* `ldx`, `ldw`: read the own rows, the own block of the second operand; `lds t`: read the slot in which the transfers `t` and
  `t + 1` landed;
* `ldo o`, `sto o`: read, and write, the block of the result made of the own rows (`none`) or of the rows transfer `t`
  brought (`some t`). -/
inductive Op
  | sig (b : Fin 3) | bar | snd (t : Xfer) | site (f g : ℕ) (t : Xfer) | rcv (t : Xfer) | swait (t : Xfer)
  | ldx | ldw | lds (t : Xfer) | ldo (o : Option Xfer) | sto (o : Option Xfer)

/-- Which block of the result, counted from the own one along the ring. -/
def outOff (f : ℕ) : Option Xfer → Fin 16
  | none => 0
  | some t => Fin.ofNat 16 (orgOff f t)

/-- The other half of a slot. -/
def mate (t : Xfer) : Xfer := Fin.ofNat 30 (t.val + 1)

/-- The share of the rows that transfer `t` is sent from. -/
def srcAtom (f : ℕ) (t : Xfer) : Atom :=
  match srcOf f t with
  | none => if t.val < 20 then .xc (Fin.ofNat 2 (t.val / 10)) (half t) else .xb (half t)
  | some r => if t.val < 20 then .pa r else .pb r

/-- The places transfers number `a`, …, `a + n - 1` land in. -/
def run (mk : Xfer → Atom) (a n : ℕ) : List Atom := (List.range n).map fun i => mk (Fin.ofNat 30 (a + i))

/-- What the signal to neighbour `b` hands over: the places that neighbour, or a device beyond it, writes at the sender. -/
def barOut (f : ℕ) (b : Fin 3) : List Atom :=
  if b = 0 then run .own 0 10 ++ (if f = 1 then run .own 28 2 else [])
  else if b = 1 then run .own 10 10 ++ (if f = 2 then run .own 28 2 else [])
  else run .own 20 8 ++ (if f = 0 ∨ f = 3 then run .own 28 2 else [])

/-- The same, as the device that is signalled counts them; `b` is the number the sender gives this neighbour. -/
def barIn (f : ℕ) (b : Fin 3) : List Atom :=
  if b = 0 then run .perm 0 10 ++ (if f = 0 then [.spare 1 0 0, .spare 1 0 1] else [])
  else if b = 1 then run .perm 10 10 ++ (if f = 3 then [.spare 0 0 0, .spare 0 0 1] else [])
  else run .perm 20 8 ++ (if f = 0 ∨ f = 3 then run .perm 28 2 else [])

/-- The place for another device's transfer that rides along with transfer `t`, as the sender counts it. -/
def cargoOut (f : ℕ) (t : Xfer) : List Atom :=
  if t.val < 2 then (if f = 3 then [.spare 0 0 (half t)] else [])
  else if t.val < 4 then (if f = 0 then [.spare 0 1 (half t)] else [])
  else if t.val = 10 ∨ t.val = 11 then (if f = 0 then [.spare 1 0 (half t)] else [])
  else if t.val = 12 ∨ t.val = 13 then (if f = 3 then [.spare 1 1 (half t)] else [])
  else []

/-- The same, as the receiver counts it. -/
def cargoIn (f : ℕ) (t : Xfer) : List Atom :=
  if t.val < 2 then (if f = 0 then [.spare 0 1 (half t)] else [])
  else if t.val < 4 then (if f = 1 then [.perm (spareX (half t))] else [])
  else if t.val = 10 ∨ t.val = 11 then (if f = 3 then [.spare 1 1 (half t)] else [])
  else if t.val = 12 ∨ t.val = 13 then (if f = 2 then [.perm (spareX (half t))] else [])
  else []

/-- What starting transfer `t` takes. -/
def sndPre (f : ℕ) (t : Xfer) : List Atom := .tok t :: .perm t :: srcAtom f t :: cargoOut f t

/-- What a move takes. -/
def pre (f : ℕ) : Op → List Atom
  | .sig b => .sig b :: barOut f b
  | .bar => [.bpos]
  | .snd t => sndPre f t
  | .site g h t => if f = g ∨ f = h then sndPre f t else []
  | .rcv t => [.rpos t]
  | .swait t => [.cred t]
  | .ldx => [.xk 0, .xk 1]
  | .ldw => [.wv]
  | .lds t => [.keep t, .keep (mate t)]
  | .ldo o => [.outp (outOff f o)]
  | .sto o => [.outp (outOff f o)]

/-- What a move hands back. -/
def post (f : ℕ) : Op → List Atom
  | .sig _ => []
  | .bar => .bdone :: (barIn f 0 ++ (barIn f 1 ++ barIn f 2))
  | .snd t => [.cred t]
  | .site g h t => if f = g ∨ f = h then [.cred t] else []
  | .rcv t => .rdone t :: .keep t :: .pa t :: .pb t :: cargoIn f t
  | .swait t => [.sdone t, srcAtom f t]
  | .ldx => [.xk 0, .xk 1]
  | .ldw => [.wv]
  | .lds t => [.keep t, .keep (mate t)]
  | .ldo o => [.outp (outOff f o)]
  | .sto o => [.outq (outOff f o)]

/-! ## Levels: what may still be owed while waiting -/

/-- The level of the arrival of transfer `t`: ring hops in the order they are waited for, chord transfers above them. -/
def xlev (t : Xfer) : ℕ := if t.val < 20 then 2 + (2 * (t.val % 10) + t.val / 10) else 100

/-- The level of what an atom still owes (0: nothing owed). -/
def olev : Atom → ℕ
  | .sig _ => 1
  | .tok t => xlev t
  | _ => 0

/-- The level a move waits at (0: everything may be owed). -/
def wlev : Op → ℕ
  | .bar => 1
  | .rcv t => xlev t
  | _ => 0

/-! ## Sets of atoms as numbers -/

/-- The number whose bits are the atoms of a list. -/
def mask : List Atom → ℕ
  | [] => 0
  | a :: l => 1 <<< code a ||| mask l

/-- No atom twice. -/
def nodup : List Atom → Bool
  | [] => true
  | a :: l => (1 <<< code a &&& mask l == 0) && nodup l

/-- The atoms that owe something. -/
def owing : List Atom := [.sig 0, .sig 1, .sig 2] ++ run .tok 0 30

/-- The atoms that owe something at level at most `ℓ`. -/
def lowMask (ℓ : ℕ) : ℕ := mask (owing.filter fun a => olev a ≤ ℓ)

/-- The holdings left over, once a move has taken what it takes. -/
def rest (f : ℕ) (op : Op) (A : ℕ) : ℕ := A ^^^ mask (pre f op)

/-- The holdings after a move. -/
def next (f : ℕ) (op : Op) (A : ℕ) : ℕ := rest f op A ||| mask (post f op)

/-- A move can be played: what it takes is there, what it hands back is new, and nothing at or below its level is owed. -/
def ok (f : ℕ) (op : Op) (A : ℕ) : Bool :=
  (A &&& mask (pre f op) == mask (pre f op)) && nodup (pre f op) && nodup (post f op)
    && (rest f op A &&& mask (post f op) == 0) && (rest f op A &&& lowMask (wlev op) == 0)

/-- The holdings after a list of moves. -/
def nexts (f : ℕ) : List Op → ℕ → ℕ
  | [], A => A
  | op :: l, A => nexts f l (next f op A)

/-- A list of moves can be played. -/
def oks (f : ℕ) : List Op → ℕ → Bool
  | [], _ => true
  | op :: l, A => ok f op A && oks f l (next f op A)

theorem nexts_append (f : ℕ) (l l' : List Op) (A : ℕ) : nexts f (l ++ l') A = nexts f l' (nexts f l A) := by
  induction l generalizing A with
  | nil => rfl
  | cons op l ih => exact ih _

theorem oks_append (f : ℕ) (l l' : List Op) (A : ℕ) : oks f (l ++ l') A = (oks f l A && oks f l' (nexts f l A)) := by
  induction l generalizing A with
  | nil => simp [oks, nexts]
  | cons op l ih => simp only [List.cons_append, oks, nexts, ih, Bool.and_assoc]

/-! ## The whole program -/

/-- The moves of the printed part 16. -/
def ops16 : List Op := [.sig 0, .sig 1, .sig 2, .bar, .snd 0]
/-- The moves of the printed part 17. -/
def ops17 : List Op := [.snd 10, .site 0 3 20, .snd 1, .snd 11]
/-- The moves of the printed part 18. -/
def ops18 : List Op := [.site 0 3 21, .ldx, .ldw, .ldo none, .sto none, .rcv 0]
/-- The moves of the printed part 19. -/
def ops19 : List Op := [.snd 2, .site 0 0 24, .site 1 1 20, .site 3 3 22, .rcv 10]
/-- The moves of the printed part 20. -/
def ops20 : List Op := [.snd 12, .site 0 0 22, .site 2 2 20, .site 3 3 24, .rcv 1]
/-- The moves of the printed part 21. -/
def ops21 : List Op := [.snd 3, .site 0 0 25, .site 1 1 21, .site 3 3 23, .rcv 11]
/-- The moves of the printed part 22. -/
def ops22 : List Op := [.snd 13, .site 0 0 23, .site 2 2 21, .site 3 3 25]
/-- The moves of the printed part 24. -/
def ops24 : List Op := [.lds 0, .ldw, .ldo (some 0), .sto (some 0)]
/-- The moves of the printed part 26. -/
def ops26 : List Op := [.lds 10, .ldw, .ldo (some 10), .sto (some 10), .rcv 2]
/-- The moves of the printed part 27. -/
def ops27 : List Op := [.snd 4, .site 0 0 26, .site 1 1 22, .rcv 12]
/-- The moves of the printed part 28. -/
def ops28 : List Op := [.snd 14, .site 2 2 22, .site 3 3 26, .rcv 3, .snd 5]
/-- The moves of the printed part 29. -/
def ops29 : List Op := [.site 0 0 27, .site 1 1 23, .rcv 13, .snd 15]
/-- The moves of the printed part 30. -/
def ops30 : List Op := [.site 2 2 23, .site 3 3 27]
/-- The moves of the printed part 31. -/
def ops31 : List Op := [.lds 2, .ldw]
/-- The moves of the printed part 32. -/
def ops32 : List Op := [.ldo (some 2), .sto (some 2)]
/-- The moves of the printed part 33. -/
def ops33 : List Op := [.lds 12, .ldw, .ldo (some 12), .sto (some 12)]
/-- The moves of the printed part 34. -/
def ops34 : List Op := [.rcv 4, .snd 6, .site 0 0 28, .site 1 1 24, .site 2 2 28]
/-- The moves of the printed part 35. -/
def ops35 : List Op := [.rcv 14, .snd 16, .site 1 1 28, .site 2 2 24]
/-- The moves of the printed part 36. -/
def ops36 : List Op := [.site 3 3 28, .rcv 5, .snd 7, .site 0 0 29, .site 1 1 25]
/-- The moves of the printed part 37. -/
def ops37 : List Op := [.site 2 2 29, .rcv 15, .snd 17, .site 1 1 29]
/-- The moves of the printed part 38. -/
def ops38 : List Op := [.site 2 2 25, .site 3 3 29]
/-- The moves of the printed part 39. -/
def ops39 : List Op := [.lds 4, .ldw]
/-- The moves of the printed part 40. -/
def ops40 : List Op := [.ldo (some 4), .sto (some 4)]
/-- The moves of the printed part 41. -/
def ops41 : List Op := [.lds 14, .ldw, .ldo (some 14), .sto (some 14)]
/-- The moves of the printed part 42. -/
def ops42 : List Op := [.rcv 6, .snd 8, .site 1 1 26]
/-- The moves of the printed part 43. -/
def ops43 : List Op := [.rcv 16, .snd 18, .site 2 2 26, .rcv 7]
/-- The moves of the printed part 44. -/
def ops44 : List Op := [.snd 9, .site 1 1 27, .rcv 17]
/-- The moves of the printed part 45. -/
def ops45 : List Op := [.snd 19, .site 2 2 27]
/-- The moves of the printed part 46. -/
def ops46 : List Op := [.lds 6, .ldw]
/-- The moves of the printed part 47. -/
def ops47 : List Op := [.ldo (some 6), .sto (some 6)]
/-- The moves of the printed part 48. -/
def ops48 : List Op := [.lds 16, .ldw, .ldo (some 16)]
/-- The moves of the printed part 49. -/
def ops49 : List Op := [.sto (some 16), .rcv 8, .rcv 18, .rcv 9]
/-- The moves of the printed part 50. -/
def ops50 : List Op := [.rcv 19]
/-- The moves of the printed part 51. -/
def ops51 : List Op := [.lds 8]
/-- The moves of the printed part 52. -/
def ops52 : List Op := [.ldw, .ldo (some 8), .sto (some 8)]
/-- The moves of the printed part 53. -/
def ops53 : List Op := [.lds 18, .ldw]
/-- The moves of the printed part 54. -/
def ops54 : List Op := [.ldo (some 18), .sto (some 18), .rcv 20, .rcv 21]
/-- The moves of the printed part 61. -/
def ops61 : List Op := [.lds 20, .ldw, .ldo (some 20), .sto (some 20)]
/-- The moves of the printed part 62. -/
def ops62 : List Op := [.rcv 22, .rcv 23]
/-- The moves of the printed part 69. -/
def ops69 : List Op := [.lds 22, .ldw, .ldo (some 22), .sto (some 22), .rcv 24]
/-- The moves of the printed part 70. -/
def ops70 : List Op := [.rcv 25]
/-- The moves of the printed part 77. -/
def ops77 : List Op := [.lds 24, .ldw, .ldo (some 24), .sto (some 24), .rcv 26, .rcv 27]
/-- The moves of the printed part 84. -/
def ops84 : List Op := [.lds 26, .ldw, .ldo (some 26)]
/-- The moves of the printed part 85. -/
def ops85 : List Op := [.sto (some 26), .rcv 28, .rcv 29]
/-- The moves of the printed part 92. -/
def ops92 : List Op := [.lds 28, .ldw, .ldo (some 28), .sto (some 28)]
/-- The moves of the printed part 93. -/
def ops93 : List Op := [.swait 0, .swait 10, .swait 1, .swait 11]
/-- The moves of the printed part 94. -/
def ops94 : List Op := [.swait 2, .swait 12, .swait 3]
/-- The moves of the printed part 95. -/
def ops95 : List Op := [.swait 13, .swait 4, .swait 14, .swait 5]
/-- The moves of the printed part 96. -/
def ops96 : List Op := [.swait 15, .swait 6, .swait 16]
/-- The moves of the printed part 97. -/
def ops97 : List Op := [.swait 7, .swait 17, .swait 8]
/-- The moves of the printed part 98. -/
def ops98 : List Op := [.swait 18, .swait 9, .swait 19, .swait 20]
/-- The moves of the printed part 99. -/
def ops99 : List Op := [.swait 21, .swait 22, .swait 23, .swait 24]
/-- The moves of the printed part 100. -/
def ops100 : List Op := [.swait 25, .swait 26, .swait 27]

/-- The moves of the program, in order: the parts', and the last two waits. -/
def opsAll : List Op :=
  ops16 ++ ops17 ++ ops18 ++ ops19 ++ ops20 ++ ops21 ++ ops22 ++ ops24 ++ ops26 ++ ops27 ++ ops28 ++ ops29 ++
    ops30 ++ ops31 ++ ops32 ++ ops33 ++ ops34 ++ ops35 ++ ops36 ++ ops37 ++ ops38 ++ ops39 ++ ops40 ++ ops41 ++
    ops42 ++ ops43 ++ ops44 ++ ops45 ++ ops46 ++ ops47 ++ ops48 ++ ops49 ++ ops50 ++ ops51 ++ ops52 ++ ops53 ++
    ops54 ++ ops61 ++ ops62 ++ ops69 ++ ops70 ++ ops77 ++ ops84 ++ ops85 ++ ops92 ++ ops93 ++ ops94 ++ ops95 ++
    ops96 ++ ops97 ++ ops98 ++ ops99 ++ ops100 ++ [.swait 28, .swait 29]

/-- What every device starts with. -/
def start : List Atom :=
  [.sig 0, .sig 1, .sig 2, .bpos, .wv, .xk 0, .xk 1, .xb 0, .xb 1, .xc 0 0, .xc 0 1, .xc 1 0, .xc 1 1]
    ++ (List.finRange 16).map .outp ++ (List.finRange 30).map .own ++ (List.finRange 30).map .tok ++ (List.finRange 30).map .rpos

/-- What every device ends with. -/
def finish : List Atom :=
  [.bdone, .wv, .xk 0, .xk 1, .xb 0, .xb 1, .xc 0 0, .xc 0 1, .xc 1 0, .xc 1 1]
    ++ (List.finRange 16).map .outq ++ (List.finRange 30).map .sdone ++ (List.finRange 30).map .rdone
    ++ (List.finRange 30).map .keep ++ (List.finRange 30).map .pa ++ (List.finRange 30).map .pb

/-- The program can be played on every device, whatever its flavour. -/
theorem oks_all : ∀ f : Fin 4, oks f opsAll (mask start) = true := by decide +kernel

/-- And it ends with everything written and everything handed back. -/
theorem nexts_all : ∀ f : Fin 4, nexts f opsAll (mask start) = mask finish := by decide +kernel

theorem nodup_start : nodup start = true := by decide +kernel

theorem nodup_finish : nodup finish = true := by decide +kernel

end Cert.Proof.Net

end
-- ==== Proof.Cells.lean ====
/-
  The memory and the semaphores of the exchange: the places each transfer lands in and is sent from, the cells with their
  schedule of one round, what each `Atom` of the net means on a device, and what a device owes.
-/
module

public import proofs.«01_k».proof.Proof.Net
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Memref
public import Idealize.ShloMosaic.Lib.StableHlo.CollectiveRules
public import Idealize.ShloMosaic.Lib.Tactic

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's copy of the cells (at most three duties a cell), -/
abbrev UB : Type := URounds (GSem nD τ sig) (Fin 3)
/-- beside the pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Places -/

/-- The own rows, the own block of the second operand, the own columns of the result, and the three arrays of slots. -/
abbrev xM : Memref sig .tc .vmem S128x2048 .f32 := Memref.whole cc0_stg0_0
abbrev wM : Memref sig .tc .vmem S2048x128 .f32 := Memref.whole cc0_stg1_0
abbrev oM : Memref sig .tc .vmem S2048x128 .f32 := Memref.whole cc0_stg2_0
abbrev cwM : Memref sig .tc .vmem S6x128x2048 .f32 := Memref.whole cc0_scratch0
abbrev ccwM : Memref sig .tc .vmem S6x128x2048 .f32 := Memref.whole cc0_scratch1
abbrev chM : Memref sig .tc .vmem S5x128x2048 .f32 := Memref.whole cc0_scratch2

theorem xRect_inb (u : Fin 2) : ∀ a, (![64 * u.val, 0] : Fin 2 → ℕ) a + S64x2048.size a ≤ S128x2048.size a := by
  revert u; decide

/-- Half `u` of 128 rows. -/
abbrev xRect (u : Fin 2) : Rect S128x2048 := Rect.unit (s := S128x2048) ![64 * u.val, 0] S64x2048.size (xRect_inb u)

/-- Half `u` of the own rows. -/
abbrev xH (u : Fin 2) : Memref sig .tc .vmem S64x2048 .f32 := xM.slice (xRect u) (fun _ => rfl)

theorem rect6_inb (s : Fin 6) (u : Fin 2) : ∀ a, (![s.val, 64 * u.val, 0] : Fin 3 → ℕ) a + S1x64x2048.size a ≤ S6x128x2048.size a := by
  revert s u; decide
theorem rect5_inb (s : Fin 5) (u : Fin 2) : ∀ a, (![s.val, 64 * u.val, 0] : Fin 3 → ℕ) a + S1x64x2048.size a ≤ S5x128x2048.size a := by
  revert s u; decide

/-- Half `u` of slot `s`, of an array of six and of one of five. -/
abbrev rect6 (s : Fin 6) (u : Fin 2) : Rect S6x128x2048 := Rect.unit (s := S6x128x2048) ![s.val, 64 * u.val, 0] S1x64x2048.size (rect6_inb s u)
abbrev rect5 (s : Fin 5) (u : Fin 2) : Rect S5x128x2048 := Rect.unit (s := S5x128x2048) ![s.val, 64 * u.val, 0] S1x64x2048.size (rect5_inb s u)

/-- The slot transfer `t` lands in, for a ring hop and for a chord transfer. -/
def slot6 (t : Xfer) : Fin 6 := Fin.ofNat 6 (t.val % 10 / 2 + 1)
def slot5 (t : Xfer) : Fin 5 := Fin.ofNat 5 (t.val % 10 / 2)

/-- The place transfer `t` lands in, on its receiver. -/
def dstM (t : Xfer) : Memref sig .tc .vmem S64x2048 .f32 :=
  if t.val < 10 then (cwM.slice (rect6 (slot6 t) (half t)) (fun _ => rfl)).squeeze S64x2048 squeezes_S1x64x2048_S64x2048
  else if t.val < 20 then (ccwM.slice (rect6 (slot6 t) (half t)) (fun _ => rfl)).squeeze S64x2048 squeezes_S1x64x2048_S64x2048
  else (chM.slice (rect5 (slot5 t) (half t)) (fun _ => rfl)).squeeze S64x2048 squeezes_S1x64x2048_S64x2048

/-- The place transfer `t` is sent from, on a device of flavour `f`. -/
def srcM (f : ℕ) (t : Xfer) : Memref sig .tc .vmem S64x2048 .f32 :=
  match srcOf f t with
  | none => xH (half t)
  | some r => dstM r

theorem oRect_inb (d : Dev nD) : ∀ a, (![128 * d.val, 0] : Fin 2 → ℕ) a + S128x128.size a ≤ S2048x128.size a := by
  revert d; decide

/-- The rows of the result made of device `d`'s rows. -/
abbrev oRect (d : Dev nD) : Rect S2048x128 := Rect.unit (s := S2048x128) ![128 * d.val, 0] S128x128.size (oRect_inb d)
abbrev oH (d : Dev nD) : Memref sig .tc .vmem S128x128 .f32 := oM.slice (oRect d) (fun _ => rfl)

/-! ## Cells -/

/-- The runtime's barrier semaphore, and the DMA semaphores transfer `t` signals when it has left and when it has arrived. -/
abbrev barS : Sem sig := (SemArray.scalar (sig.barrier 0 rfl) : Sems sig S_).sem
def sndS (t : Xfer) : DmaSem sig := ⟨if t.val < 10 then 3 + t.val else if t.val < 20 then 15 + t.val else 27 + t.val, by
  show _ < 67; split <;> (try split) <;> omega⟩
def rcvS (t : Xfer) : DmaSem sig := ⟨if t.val < 10 then 15 + t.val else if t.val < 20 then 27 + t.val else 37 + t.val, by
  show _ < 67; split <;> (try split) <;> omega⟩

/-- Which transfer's departure, and whose arrival, a DMA semaphore counts. -/
def sndOf (q : DmaSem sig) : Option Xfer :=
  if 3 ≤ q.val ∧ q.val < 13 then some (Fin.ofNat 30 (q.val - 3)) else if 25 ≤ q.val ∧ q.val < 35 then some (Fin.ofNat 30 (q.val - 15))
  else if 47 ≤ q.val ∧ q.val < 57 then some (Fin.ofNat 30 (q.val - 27)) else none
def rcvOf (q : DmaSem sig) : Option Xfer :=
  if 15 ≤ q.val ∧ q.val < 25 then some (Fin.ofNat 30 (q.val - 15)) else if 37 ≤ q.val ∧ q.val < 47 then some (Fin.ofNat 30 (q.val - 27))
  else if 57 ≤ q.val ∧ q.val < 67 then some (Fin.ofNat 30 (q.val - 37)) else none

theorem sndOf_sndS : ∀ t, sndOf (sndS t) = some t := by decide
theorem sndOf_rcvS : ∀ t, sndOf (rcvS t) = none := by decide
theorem rcvOf_rcvS : ∀ t, rcvOf (rcvS t) = some t := by decide
theorem rcvOf_sndS : ∀ t, rcvOf (sndS t) = none := by decide

abbrev barCell (c : Dev nD) : GSem nD τ sig := ((c : Thread nD τ), .reg barS)
abbrev sndCell (c : Dev nD) (t : Xfer) : GSem nD τ sig := ((c : Thread nD τ), .dma (sndS t))
abbrev rcvCell (c : Dev nD) (t : Xfer) : GSem nD τ sig := ((c : Thread nD τ), .dma (rcvS t))

/-- What one transfer pays: the credit of 64 rows. -/
def N : ℕ := (dstM 0).view.dmaCredit
theorem N_pos : 0 < N := View.dmaCredit_pos _ (by decide)
theorem N_dst : ∀ t, (dstM t).view.dmaCredit = N := by
  intro t; revert t; decide +kernel

/-! ## Contents -/

variable (X : Dev nD → Vec F S128x2048 .f32) (Wv : Dev nD → Vec F S2048x128 .f32)

/-- Half `u` of 128 rows, as contents. -/
def rowsOf (u : Fin 2) (x : Vec F S128x2048 .f32) : Vec F S64x2048 .f32 := fun j => x ((xRect u).emb j)

/-- The rows transfer `t` brings to device `c`. -/
def got (c : Dev nD) (t : Xfer) : Vec F S64x2048 .f32 := rowsOf (half t) (X (org c t))

/-- The rows device `c` sends with transfer `t`. -/
def sent (c : Dev nD) (t : Xfer) : Vec F S64x2048 .f32 := got X (dst c t) t

/-! ## Places that change hands -/

/-- Where the atom's place lies, for the atoms that are a place: the device, and the transfer that will land there. -/
def place (c : Dev nD) : Atom → Option (Dev nD × Xfer)
  | .own t => some (c, t)
  | .perm t => some (Net.dst c t, t)
  | .spare d k u => some (shift c (if d = 1 then k.val + 1 else 15 - k.val), spareX u)
  | _ => none

/-- The place, whatever it holds. -/
def land (p : Dev nD × Xfer) : sProp 𝕄 := iprop(∃ Y, ownsTc p.1 (dstM p.2) fullShare Y)

/-- All the places of a list. -/
def lands : List (Dev nD × Xfer) → sProp 𝕄
  | [] => iprop(emp)
  | p :: l => iprop(land p ∗ lands l)

instance lands_storable : ∀ l, BI.Storable (upEmb : UEmb _ 𝕄) (lands (F := F) l)
  | [] => by unfold lands; infer_instance
  | p :: l => by
    have := lands_storable l
    unfold lands land; infer_instance

/-- Neighbour `b`: 0 the left one, 1 the right one, 2 the partner. -/
def nb (c : Dev nD) (b : Fin 3) : Dev nD := shift c (if b = 0 then 15 else if b = 1 then 1 else partnerOff (fl c))

theorem bar_places : ∀ c b, (barOut (fl c) b).map (place c) = (barIn (fl (nb c b)) b).map (place (nb c b)) := by decide +kernel
theorem cargo_places : ∀ c t, (cargoOut (fl c) t).map (place c) = (cargoIn (fl (Net.dst c t)) t).map (place (Net.dst c t)) := by decide +kernel
theorem bar_isPlace : ∀ c b, ((barIn (fl c) b).map (place c)).all Option.isSome := by decide +kernel
theorem cargo_isPlace : ∀ c t, ((cargoIn (fl c) t).map (place c)).all Option.isSome := by decide +kernel

/-! ## The schedule -/

/-- The shares of received rows: kept, lent to the ring hop, lent to the chord; -/
abbrev qk : PosShare TreeShare := fullShare.left
abbrev qa : PosShare TreeShare := fullShare.right.left
abbrev qb : PosShare TreeShare := fullShare.right.right
/-- of the own rows, what is lent to either ring hop. -/
abbrev qc (d : Fin 2) : PosShare TreeShare := if d = 0 then fullShare.right.left.left else fullShare.right.left.right

/-- The share transfer `t` is sent at. -/
def srcShare (f : ℕ) (t : Xfer) : PosShare TreeShare :=
  match srcOf f t with
  | none => if t.val < 20 then qc (Fin.ofNat 2 (t.val / 10)) else qb
  | some _ => if t.val < 20 then qa else qb

/-- What comes back when transfer `t` has left: the share it was sent from. -/
def sndPay (c : Dev nD) (t : Xfer) : sProp 𝕄 := ownsTc c (srcM (fl c) t) (srcShare (fl c) t) (sent X c t)

/-- What the arrival of transfer `t` brings device `c`: the rows landed, and the places that ride along. -/
def rcvPay (c : Dev nD) (t : Xfer) : sProp 𝕄 :=
  iprop(ownsTc c (dstM t) fullShare (got X c t) ∗ lands ((cargoIn (fl c) t).filterMap (place c)))

/-- What signal `b` of the barrier brings device `c`: the places it will write at the device that signals. -/
def barPay (c : Dev nD) (b : Fin 3) : sProp 𝕄 := lands ((barIn (fl c) b).filterMap (place c))

/-- One round: a barrier cell has three duties of one unit, a cell of a transfer one duty of the rows' credit. -/
def Rd : Rounds.Schedule (GSem nD τ sig) (Fin 3) 𝕄 where
  duties g r := if r = 0 ∧ g.1.2 = .tc then
      (match g.2 with
        | .reg s => if s = barS then Finset.univ else ∅
        | .dma q => if (sndOf q).isSome ∨ (rcvOf q).isSome then {0} else ∅)
    else ∅
  unitless _ := False
  amount g _ _ := match g.2 with | .reg _ => 1 | .dma _ => N
  payload g _ d := match g.2 with
    | .reg _ => barPay g.1.1 d
    | .dma q => match sndOf q with
      | some t => sndPay X g.1.1 t
      | none => match rcvOf q with
        | some t => rcvPay X g.1.1 t
        | none => iprop(emp)
  amount_pos g _ _ _ := by
    rcases g with ⟨-, s | q⟩
    · exact Nat.one_pos
    · exact N_pos

instance Rd_storable (g : GSem nD τ sig) (r : ℕ) (d : Fin 3) : BI.Storable (upEmb : UEmb _ 𝕄) ((Rd (F := F) X).payload g r d) := by
  rcases g with ⟨th, s | q⟩
  · show BI.Storable upEmb (barPay th.1 d)
    unfold barPay; infer_instance
  · show BI.Storable upEmb (match sndOf q with
      | some t => sndPay X th.1 t
      | none => match rcvOf q with
        | some t => rcvPay X th.1 t
        | none => iprop(emp))
    split
    · unfold sndPay; infer_instance
    · split
      · unfold rcvPay; infer_instance
      · infer_instance

section Sched
variable (c : Dev nD)

omit [FloatOps F] in
theorem duties_bar : (Rd (F := F) X).duties (barCell c) 0 = Finset.univ := by
  dsimp only [Rd]
  rw [if_pos ⟨rfl, rfl⟩]; exact if_pos rfl
omit [FloatOps F] in
theorem duties_snd (t : Xfer) : (Rd (F := F) X).duties (sndCell c t) 0 = {0} := by
  dsimp only [Rd]
  rw [if_pos (And.intro rfl rfl)]; exact if_pos (.inl (by rw [sndOf_sndS]; rfl))
omit [FloatOps F] in
theorem duties_rcv (t : Xfer) : (Rd (F := F) X).duties (rcvCell c t) 0 = {0} := by
  dsimp only [Rd]
  rw [if_pos (And.intro rfl rfl)]; exact if_pos (.inr (by rw [rcvOf_rcvS]; rfl))
omit [FloatOps F] in
theorem duties_later (g : GSem nD τ sig) : ∀ r, 1 ≤ r → (Rd (F := F) X).duties g r = ∅ :=
  fun r hr => if_neg fun h => by omega
omit [FloatOps F] in
theorem duties_none (q : DmaSem sig) (h₁ : sndOf q = none) (h₂ : rcvOf q = none) (r : ℕ) :
    (Rd (F := F) X).duties ((c : Thread nD τ), .dma q) r = ∅ := by
  dsimp only [Rd]
  rw [h₁, h₂]; split
  · exact if_neg (by decide)
  · rfl

omit [FloatOps F] in
theorem expect_bar : (Rd (F := F) X).expect (barCell c) 0 = 3 := by
  unfold Schedule.expect Schedule.amountOf
  rw [duties_bar]; rfl
omit [FloatOps F] in
theorem expect_snd (t : Xfer) : (Rd (F := F) X).expect (sndCell c t) 0 = N := by
  unfold Schedule.expect Schedule.amountOf
  rw [duties_snd, Finset.sum_singleton]; rfl
omit [FloatOps F] in
theorem expect_rcv (t : Xfer) : (Rd (F := F) X).expect (rcvCell c t) 0 = N := by
  unfold Schedule.expect Schedule.amountOf
  rw [duties_rcv, Finset.sum_singleton]; rfl

omit [FloatOps F] in
theorem payload_snd (t : Xfer) (d : Fin 3) : (Rd (F := F) X).payload (sndCell c t) 0 d = sndPay X c t := by
  show (match sndOf (sndS t) with | some t => sndPay X c t | none => _) = _
  rw [sndOf_sndS]
omit [FloatOps F] in
theorem payload_rcv (t : Xfer) (d : Fin 3) : (Rd (F := F) X).payload (rcvCell c t) 0 d = rcvPay X c t := by
  show (match sndOf (rcvS t) with
      | some t => sndPay X c t
      | none => match rcvOf (rcvS t) with | some t => rcvPay X c t | none => _) = _
  rw [sndOf_rcvS, rcvOf_rcvS]

omit [FloatOps F] in
theorem payload_bar (d : Fin 3) : (Rd (F := F) X).payload (barCell c) 0 d = barPay c d := rfl

omit [FloatOps F] in
/-- Everything the barrier's round brings. -/
theorem rest_bar : bigSep ((Rd (F := F) X).duties (barCell c) 0 \ ∅) (fun d => (Rd (F := F) X).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
omit [FloatOps F] in
theorem rest_snd (t : Xfer) : bigSep ((Rd (F := F) X).duties (sndCell c t) 0 \ ∅) (fun d => (Rd (F := F) X).payload (sndCell c t) 0 d) = sndPay X c t := by
  rw [Finset.sdiff_empty, duties_snd, bigSep_singleton, payload_snd]
omit [FloatOps F] in
theorem rest_rcv (t : Xfer) : bigSep ((Rd (F := F) X).duties (rcvCell c t) 0 \ ∅) (fun d => (Rd (F := F) X).payload (rcvCell c t) 0 d) = rcvPay X c t := by
  rw [Finset.sdiff_empty, duties_rcv, bigSep_singleton, payload_rcv]

end Sched

/-! ## Levels -/

def L (g : GSem nD τ sig) : Finset Unit := if g.1.2 = .tc then {()} else ∅
/-- Barrier cells at 1, arrivals as the net orders them, everything else at 0. -/
def lv (g : GSem nD τ sig) (_ : Unit) : ℕ :=
  match g.2 with
  | .reg _ => 1
  | .dma q => match rcvOf q with | some t => xlev t | none => 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (t : Xfer) (u : Unit) : lv (rcvCell c t) u = xlev t := by
  show (match rcvOf (rcvS t) with | some t => xlev t | none => 0) = _
  rw [rcvOf_rcvS]
theorem lv_snd (c : Dev nD) (t : Xfer) (u : Unit) : lv (sndCell c t) u = 0 := by
  show (match rcvOf (sndS t) with | some t => xlev t | none => 0) = _
  rw [rcvOf_sndS]

/-! ## What the atoms mean -/

/-- The block of the result made of rows `x` and the block `w` of the second operand: their product. -/
abbrev blkOf (x : Vec F S128x2048 .f32) (w : Vec F S2048x128 .f32) : Vec F S128x128 .f32 := k0_pay1 x w

/-- What device `c` holds with an atom. -/
def R (c : Dev nD) (a : Atom) : sProp 𝕄 :=
  match a with
  | .sig b => dutyTok ER (barCell (nb c b)) 0 b
  | .bpos => iprop(atPos ER (barCell c) 0 ∅ 0 ∗ cred (tallyAt (barCell c) () 3))
  | .bdone => semVal (barCell c) 0
  | .wv => ownsTc c wM fullShare (Wv c)
  | .xk u => ownsTc c (xH u) qk (rowsOf u (X c))
  | .xb u => ownsTc c (xH u) qb (rowsOf u (X c))
  | .xc d u => ownsTc c (xH u) (qc d) (rowsOf u (X c))
  | .spare d k u => lands ((place c (.spare d k u)).toList)
  | .outp δ => iprop(∃ Y, ownsTc c (oH (shift c δ.val)) fullShare Y)
  | .outq δ => ownsTc c (oH (shift c δ.val)) fullShare (blkOf (X (shift c δ.val)) (Wv c))
  | .own t => lands ((place c (.own t)).toList)
  | .perm t => lands ((place c (.perm t)).toList)
  | .tok t => iprop(dutyTok ER (sndCell c t) 0 0 ∗ dutyTok ER (rcvCell (Net.dst c t) t) 0 0 ∗ atPos ER (sndCell c t) 0 ∅ 0)
  | .cred t => iprop(atPos ER (sndCell c t) 0 ∅ 0 ∗ cred (tallyAt (sndCell c t) () N))
  | .sdone t => semVal (sndCell c t) 0
  | .rpos t => iprop(atPos ER (rcvCell c t) 0 ∅ 0 ∗ cred (tallyAt (rcvCell c t) () N))
  | .rdone t => semVal (rcvCell c t) 0
  | .keep t => ownsTc c (dstM t) qk (got X c t)
  | .pa t => ownsTc c (dstM t) qa (got X c t)
  | .pb t => ownsTc c (dstM t) qb (got X c t)

/-- What device `c` still owes with an atom. -/
def owed (c : Dev nD) : Atom → CellTallies nD τ sig Unit
  | .sig b => tallyAt (barCell (nb c b)) () 1
  | .tok t => tallyAt (rcvCell (Net.dst c t) t) () N
  | _ => 0

/-- The share transfer `t` is sent from is what its departure gives back. -/
theorem R_srcAtom (c : Dev nD) (t : Xfer) : R X Wv c (srcAtom (fl c) t) = sndPay X c t := by
  have ho := org_dst c t
  unfold sndPay srcAtom srcM srcShare sent got
  cases h : srcOf (fl c) t with
  | none =>
    rw [h] at ho
    dsimp only at ho ⊢
    rw [ho]; split <;> rfl
  | some r =>
    rw [h] at ho
    dsimp only at ho ⊢
    rw [ho, ← half_src ⟨fl c, fl_lt c⟩ t r h]; split <;> rfl

end Cert.Proof

end
-- ==== Proof.Steps.lean ====
/-
  Playing the net: sets of atoms as resources, and what it is for a program to play a list of moves.
-/
module

public import proofs.«01_k».proof.Proof.Cells

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S128x2048 .f32) (Wv : Dev nD → Vec F S2048x128 .f32)

/-! ## Sets of atoms -/

/-- The numbers of the atoms in a set. -/
def bits (A : ℕ) : Finset ℕ := (Finset.range 384).filter fun n => A.testBit n = true ∧ code (decode n) = n

theorem mem_bits {A n : ℕ} : n ∈ bits A ↔ n < 384 ∧ A.testBit n = true ∧ code (decode n) = n := by
  unfold bits; rw [Finset.mem_filter, Finset.mem_range]

theorem bits_or (A B : ℕ) : bits (A ||| B) = bits A ∪ bits B := by
  ext n
  rw [Finset.mem_union, mem_bits, mem_bits, mem_bits, Nat.testBit_or, Bool.or_eq_true]
  constructor
  · rintro ⟨h, h' | h', h''⟩
    · exact .inl ⟨h, h', h''⟩
    · exact .inr ⟨h, h', h''⟩
  · rintro (⟨h, h', h''⟩ | ⟨h, h', h''⟩)
    · exact ⟨h, .inl h', h''⟩
    · exact ⟨h, .inr h', h''⟩

theorem bits_disjoint {A B : ℕ} (h : A &&& B = 0) : Disjoint (bits A) (bits B) := by
  rw [Finset.disjoint_left]
  intro n ha hb
  have : (A &&& B).testBit n = true := by rw [Nat.testBit_and, (mem_bits.mp ha).2.1, (mem_bits.mp hb).2.1]; rfl
  rw [h, Nat.zero_testBit] at this
  exact Bool.noConfusion this

theorem testBit_one (n k : ℕ) : (1 <<< k).testBit n = decide (k = n) := by
  rw [Nat.one_shiftLeft, Nat.testBit_two_pow]

theorem bits_one (a : Atom) : bits (1 <<< code a) = {code a} := by
  ext n
  rw [mem_bits, Finset.mem_singleton, testBit_one, decide_eq_true_iff]
  constructor
  · rintro ⟨-, h, -⟩; exact h.symm
  · rintro rfl; exact ⟨code_lt a, rfl, by rw [decode_code]⟩

theorem bits_zero : bits 0 = ∅ := by
  ext n
  rw [mem_bits, Nat.zero_testBit]
  exact ⟨fun h => Bool.noConfusion h.2.1, fun h => absurd h (Finset.notMem_empty n)⟩

/-- A set that holds the atoms of another one falls apart into the rest and those. -/
theorem split_mask {A M : ℕ} (h : A &&& M = M) : (A ^^^ M) ||| M = A ∧ (A ^^^ M) &&& M = 0 := by
  have hb : ∀ i, (A.testBit i && M.testBit i) = M.testBit i := fun i => by rw [← Nat.testBit_and, h]
  constructor
  · apply Nat.eq_of_testBit_eq; intro i
    rw [Nat.testBit_or, Nat.testBit_xor]
    have := hb i
    revert this; cases A.testBit i <;> cases M.testBit i <;> decide
  · apply Nat.eq_of_testBit_eq; intro i
    rw [Nat.testBit_and, Nat.testBit_xor, Nat.zero_testBit]
    have := hb i
    revert this; cases A.testBit i <;> cases M.testBit i <;> decide

/-! ## What a set of atoms means -/

/-- Everything device `c` holds with a set of atoms, -/
def Hold (c : Dev nD) (A : ℕ) : sProp 𝕄 := bigSep (bits A) fun n => R X Wv c (decode n)
/-- and all it owes. -/
def Owe (c : Dev nD) (A : ℕ) : CellTallies nD τ sig Unit := ∑ n ∈ bits A, owed c (decode n)

/-- The same along a list of atoms. -/
def HoldL (c : Dev nD) : List Atom → sProp 𝕄
  | [] => iprop(emp)
  | a :: l => iprop(R X Wv c a ∗ HoldL c l)
def OweL (c : Dev nD) : List Atom → CellTallies nD τ sig Unit
  | [] => 0
  | a :: l => owed c a + OweL c l

omit [FloatOps F] in
theorem Owe_or {A B : ℕ} (c : Dev nD) (h : A &&& B = 0) : Owe c (A ||| B) = Owe c A + Owe c B := by
  unfold Owe; rw [bits_or, Finset.sum_union (bits_disjoint h)]

theorem Hold_or {A B : ℕ} (c : Dev nD) (h : A &&& B = 0) :
    Hold X Wv c (A ||| B) = iprop(Hold X Wv c A ∗ Hold X Wv c B) := by
  unfold Hold; rw [bits_or, bigSep_union (bits_disjoint h)]; rfl

theorem nodup_cons {a : Atom} {l : List Atom} (h : nodup (a :: l) = true) : 1 <<< code a &&& mask l = 0 ∧ nodup l = true := by
  unfold nodup at h
  rw [Bool.and_eq_true, beq_iff_eq] at h
  exact h

omit [FloatOps F] in
theorem Owe_mask (c : Dev nD) : ∀ l, nodup l = true → Owe c (mask l) = OweL c l
  | [], _ => by unfold Owe OweL mask; rw [bits_zero, Finset.sum_empty]
  | a :: l, h => by
    unfold mask OweL
    rw [Owe_or c (nodup_cons h).1, Owe_mask c l (nodup_cons h).2]
    unfold Owe; rw [bits_one, Finset.sum_singleton, decode_code]

theorem Hold_mask (c : Dev nD) : ∀ l, nodup l = true → Hold X Wv c (mask l) = HoldL X Wv c l
  | [], _ => by unfold Hold HoldL mask; rw [bits_zero, bigSep_empty]; rfl
  | a :: l, h => by
    unfold mask HoldL
    rw [Hold_or X Wv c (nodup_cons h).1, Hold_mask c l (nodup_cons h).2]
    unfold Hold; rw [bits_one, bigSep_singleton, decode_code]

/-! ## Levels of what is owed -/

theorem owing_of_owed (c : Dev nD) (a : Atom) (g : GSem nD τ sig) (u : Unit) (h : 0 < owed c a g u) :
    a ∈ owing ∧ u ∈ L g ∧ lv g u = olev a := by
  cases a with
  | sig b =>
    refine ⟨(show ∀ b, Atom.sig b ∈ owing by decide) b, ?_⟩
    dsimp only [owed] at h
    rw [tallyAt_apply] at h
    by_cases hg : g = barCell (nb c b) ∧ u = ()
    · rw [hg.1, L_tc]; exact ⟨Finset.mem_singleton_self _, rfl⟩
    · rw [if_neg hg] at h; exact absurd h (Nat.lt_irrefl 0)
  | tok t =>
    refine ⟨(show ∀ t, Atom.tok t ∈ owing by decide) t, ?_⟩
    dsimp only [owed] at h
    rw [tallyAt_apply] at h
    by_cases hg : g = rcvCell (Net.dst c t) t ∧ u = ()
    · rw [hg.1, L_tc, lv_rcv]; exact ⟨Finset.mem_singleton_self _, rfl⟩
    · rw [if_neg hg] at h; exact absurd h (Nat.lt_irrefl 0)
  | _ => exact absurd h (Nat.lt_irrefl 0)

theorem testBit_mask {a : Atom} : ∀ {l : List Atom}, a ∈ l → (mask l).testBit (code a) = true
  | b :: l, h => by
    unfold mask
    rw [Nat.testBit_or, Bool.or_eq_true]
    rcases List.mem_cons.mp h with rfl | h
    · left; rw [testBit_one]; exact decide_eq_true rfl
    · right; exact testBit_mask h

/-- With nothing owed at or below a level, all that is owed lies above it. -/
theorem Owe_level (c : Dev nD) {A ℓ : ℕ} (h : A &&& lowMask ℓ = 0) (g : GSem nD τ sig) (u : Unit) (hg : 0 < Owe c A g u) :
    u ∈ L g ∧ ℓ < lv g u := by
  have : ∃ n ∈ bits A, 0 < owed c (decode n) g u := by
    by_contra hn
    have hz : ∀ n ∈ bits A, owed c (decode n) g u = 0 := fun n hb => Nat.eq_zero_of_not_pos fun hp => hn ⟨n, hb, hp⟩
    unfold Owe at hg
    rw [Finset.sum_apply, Finsupp.finset_sum_apply, Finset.sum_eq_zero hz] at hg
    exact Nat.lt_irrefl 0 hg
  obtain ⟨n, hb, hp⟩ := this
  obtain ⟨ho, hL, hl⟩ := owing_of_owed c _ g u hp
  refine ⟨hL, ?_⟩
  rw [hl]
  by_contra hle
  have hm : (lowMask ℓ).testBit (code (decode n)) = true := by
    unfold lowMask
    exact testBit_mask (List.mem_filter.mpr ⟨ho, decide_eq_true (Nat.le_of_not_lt hle)⟩)
  rw [(mem_bits.mp hb).2.2] at hm
  have : (A &&& lowMask ℓ).testBit n = true := by rw [Nat.testBit_and, (mem_bits.mp hb).2.1, hm]; rfl
  rw [h, Nat.zero_testBit] at this
  exact Bool.noConfusion this

/-- Everything owed lies above level `ℓ`. -/
def Above (ℓ : ℕ) (O : CellTallies nD τ sig Unit) : Prop := ∀ g u, 0 < O g u → u ∈ L g ∧ ℓ < lv g u

/-- Owing only above a level, a device may wait at it. -/
theorem mayWait (c : Dev nD) (sm : SemLoc sig) {ℓ : ℕ} {O : CellTallies nD τ sig Unit} (hO : Above ℓ O) (h : lv ((c : Thread nD τ), sm) () ≤ ℓ) :
    (levAts L lv : sProp 𝕄) ⊢ MayWait (c : Thread nD τ) sm () O :=
  MayOwe.of_cut (L := L) (lev := lv) ℓ (fun p hp => by rw [Finset.mem_singleton.mp hp, L_tc]; exact Finset.mem_singleton_self _)
    (fun g u hg => (hO g u hg).1) (fun p hp => by rw [Finset.mem_singleton.mp hp]; exact h) (fun g u hg => (hO g u hg).2)

/-! ## Playing moves -/

/-- The semaphores of a device that have a cell: all but the pipeline's three. -/
def csem (k : Fin 65) : SemLoc sig := if h : k.val < 64 then .dma ⟨k.val + 3, by show _ < 67; omega⟩ else .reg barS
abbrev kcell (ck : Dev nD × Fin 65) : GSem nD τ sig := ((ck.1 : Thread nD τ), csem ck.2)

/-- What every device knows throughout: the levels, every cell's invariant, and that every cell has begun. -/
def Know : sProp 𝕄 :=
  iprop(levAts L lv ∗ bigSep (Finset.univ : Finset (Dev nD × Fin 65)) fun ck =>
    iprop((∃ κ, cellInv ER (Rd (F := F) X) κ (kcell ck)) ∗ reached ER (kcell ck) 0))

instance Know_persistent : BI.Persistent (Know (F := F) X) := by
  unfold Know; infer_instance

theorem csem_snd : ∀ t, ∃ k, csem k = .dma (sndS t) := by decide
theorem csem_rcv : ∀ t, ∃ k, csem k = .dma (rcvS t) := by decide
theorem csem_bar : ∃ k, csem k = .reg barS := ⟨64, rfl⟩

theorem Know_cell (c : Dev nD) (sm : SemLoc sig) (h : ∃ k, csem k = sm) :
    Know (F := F) X ⊢ iprop((∃ κ, cellInv ER (Rd (F := F) X) κ ((c : Thread nD τ), sm)) ∗ reached ER ((c : Thread nD τ), sm) 0) := by
  obtain ⟨k, rfl⟩ := h
  unfold Know
  rw [bigSep_univ_at _ ((c, k) : Dev nD × Fin 65)]
  iintro ⟨-, H, -⟩
  iexact H

/-- What device `c` holds and owes with a set of atoms. -/
def St (c : Dev nD) (A : ℕ) : sProp 𝕄 := iprop(Hold X Wv c A ∗ ∃ W, owes (c : Thread nD τ) (Owe c A) W)

/-- The program `p` plays the moves `l` on device `c`, and hands back a value that satisfies `Q`: from any set of atoms from which
the moves can be played, it is safe, and leaves what the moves leave. -/
def Plays {α : Type} (c : Dev nD) (p : Prog (TpuEff nD τ sig (Elt F) Λ₀ .tc) α) (l : List Op) (Q : α → Prop) : Prop :=
  ∀ A, oks (fl c) l A = true →
    iprop(Know X ∗ St X Wv c A) ⊢ wp frame (wpE (defs₀ (F := F)) 𝒱₀ (c : Thread nD τ) none) Set.univ p
      (fun r => iprop(⌜Q r⌝ ∗ St X Wv c (nexts (fl c) l A)))

variable {X Wv}

theorem Plays.ret {α : Type} {c : Dev nD} {a : α} {Q : α → Prop} (h : Q a) : Plays X Wv c (.ret a) [] Q := fun A _ => by
  rw [wp_ret]
  iintro ⟨-, H⟩
  imodintro
  isplitr
  · ipureintro; exact h
  · iexact H

theorem Plays.mono {α : Type} {c : Dev nD} {p : Prog (TpuEff nD τ sig (Elt F) Λ₀ .tc) α} {l : List Op} {Q Q' : α → Prop}
    (h : Plays X Wv c p l Q) (hQ : ∀ a, Q a → Q' a) : Plays X Wv c p l Q' := fun A hA =>
  (h A hA).trans (wp_mono _ _ _ fun a => by
    iintro ⟨%ha, H⟩
    isplitr
    · ipureintro; exact hQ a ha
    · iexact H)

/-- What a program does not touch stays beside it. -/
theorem wp_beside {α : Type} (c : Dev nD) (p : Prog (TpuEff nD τ sig (Elt F) Λ₀ .tc) α) (P : sProp 𝕄) (Q : α → sProp 𝕄) :
    iprop(P ∗ wp frame (wpE (defs₀ (F := F)) 𝒱₀ (c : Thread nD τ) none) Set.univ p Q)
      ⊢ wp frame (wpE (defs₀ (F := F)) 𝒱₀ (c : Thread nD τ) none) Set.univ p (fun a => iprop(P ∗ Q a)) :=
  wp_frame_l _ _ _

/-- One program after another. -/
theorem Plays.bind {α β : Type} {c : Dev nD} {p : Prog (TpuEff nD τ sig (Elt F) Λ₀ .tc) α} {k : α → Prog (TpuEff nD τ sig (Elt F) Λ₀ .tc) β}
    {l l' : List Op} {Q : α → Prop} {Q' : β → Prop} (h : Plays X Wv c p l Q) (h' : ∀ a, Q a → Plays X Wv c (k a) l' Q') :
    Plays X Wv c (p >>= k) (l ++ l') Q' := fun A hA => by
  rw [oks_append, Bool.and_eq_true] at hA
  rw [wp_bind, nexts_append]
  iintro ⟨#HK, HS⟩
  ihave Hw := (h A hA.1) $$ [HS]
  · isplitr
    · iexact HK
    · iexact HS
  ihave Hw' := (wp_beside c p (Know X) _) $$ [Hw]
  · isplitr
    · iexact HK
    · iexact Hw
  iapply (wp_mono _ _ _ (fun a => ?_)) $$ Hw'
  iintro ⟨#HK, %ha, HS⟩
  iapply (h' a ha _ hA.2)
  isplitr
  · iexact HK
  · iexact HS

/-- One move, then the others. -/
theorem Plays.cons {α β : Type} {c : Dev nD} {p : Prog (TpuEff nD τ sig (Elt F) Λ₀ .tc) α} {k : α → Prog (TpuEff nD τ sig (Elt F) Λ₀ .tc) β}
    {op : Op} {l : List Op} {Q : α → Prop} {Q' : β → Prop} (h : Plays X Wv c p [op] Q) (h' : ∀ a, Q a → Plays X Wv c (k a) l Q') :
    Plays X Wv c (p >>= k) (op :: l) Q' := Plays.bind (l := [op]) h h'

/-- A program that moves nothing, then the moves. -/
theorem Plays.skip {α β : Type} {c : Dev nD} {p : Prog (TpuEff nD τ sig (Elt F) Λ₀ .tc) α} {k : α → Prog (TpuEff nD τ sig (Elt F) Λ₀ .tc) β}
    {l : List Op} {Q : α → Prop} {Q' : β → Prop} (h : Plays X Wv c p [] Q) (h' : ∀ a, Q a → Plays X Wv c (k a) l Q') :
    Plays X Wv c (p >>= k) l Q' := Plays.bind (l := []) h h'

theorem OweL_low (c : Dev nD) (l : List Atom) (h : ∀ a ∈ l, olev a = 0) : OweL c l = 0 := by
  induction l with
  | nil => rfl
  | cons a l ih =>
    unfold OweL
    rw [ih fun b hb => h b (List.mem_cons_of_mem _ hb)]
    have ha := h a List.mem_cons_self
    cases a with
    | sig b => exact absurd ha Nat.one_ne_zero
    | tok t => exact absurd ha ((show ∀ t, olev (.tok t) ≠ 0 by decide) t)
    | _ => exact zero_add 0

/-- A program plays a move that turns what the move takes into what it hands back, next to all else. -/
theorem Plays.move {α : Type} {c : Dev nD} {p : Prog (TpuEff nD τ sig (Elt F) Λ₀ .tc) α} {op : Op} {Q : α → Prop}
    (hpost : ∀ a ∈ post (fl c) op, olev a = 0)
    (h : ∀ O W, Above (wlev op) O → iprop(Know X ∗ HoldL X Wv c (pre (fl c) op) ∗ owes (c : Thread nD τ) (O + OweL c (pre (fl c) op)) W)
      ⊢ wp frame (wpE (defs₀ (F := F)) 𝒱₀ (c : Thread nD τ) none) Set.univ p
        (fun r => iprop(⌜Q r⌝ ∗ HoldL X Wv c (post (fl c) op) ∗ ∃ W', owes (c : Thread nD τ) O W'))) :
    Plays X Wv c p [op] Q := fun A hA => by
  unfold oks oks ok at hA
  simp only [Bool.and_true, Bool.and_eq_true, beq_iff_eq] at hA
  obtain ⟨⟨⟨⟨h₁, h₂⟩, h₃⟩, h₄⟩, h₅⟩ := hA
  have hs := split_mask h₁
  unfold nexts nexts next St
  rw [Hold_or X Wv c h₄, Owe_or c h₄, Hold_mask X Wv c _ h₃, Owe_mask c _ h₃, OweL_low c _ hpost, add_zero]
  conv_lhs => rw [← hs.1]
  rw [Hold_or X Wv c hs.2, Owe_or c hs.2, Hold_mask X Wv c _ h₂, Owe_mask c _ h₂]
  iintro ⟨HK, ⟨HR, HP⟩, %W, HO⟩
  ihave Hw := (h (Owe c (rest (fl c) op A)) W (fun g u => Owe_level c h₅ g u)) $$ [HK HP HO]
  · isplitl [HK]
    · iexact HK
    isplitl [HP]
    · iexact HP
    · iexact HO
  ihave Hw' := (wp_beside c p (Hold X Wv c (rest (fl c) op A)) _) $$ [HR Hw]
  · isplitl [HR]
    · iexact HR
    · iexact Hw
  iapply (wp_mono _ _ _ (fun a => ?_)) $$ Hw'
  iintro ⟨HR, %ha, HP, HO⟩
  isplitr
  · ipureintro; exact ha
  isplitl [HR HP]
  · isplitl [HR]
    · iexact HR
    · iexact HP
  · iexact HO

end Cert.Proof

end
-- ==== Proof.Moves.lean ====
/-
  What each kind of move does: the barrier, the transfers and the waits, each proved once for every device and transfer.
-/
module

public import proofs.«01_k».proof.Proof.Steps

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

/-! ## Places -/

omit [FloatOps F] in
theorem drop_emp (P : sProp 𝕄) : iprop(P ∗ emp) = P := equiv_iff.mp sep_emp
omit [FloatOps F] in
theorem drop_emp_left (P : sProp 𝕄) : iprop(emp ∗ P) = P := equiv_iff.mp emp_sep
omit [FloatOps F] in
theorem regroup (P Q S : sProp 𝕄) : iprop((P ∗ Q) ∗ S) = iprop(P ∗ Q ∗ S) := equiv_iff.mp ⟨BI.sep_assoc, BI.sep_assoc'⟩

theorem olev_place {c : Dev nD} {a : Atom} (h : (place c a).isSome = true) : olev a = 0 := by
  cases a <;> first | rfl | exact absurd h Bool.false_ne_true

/-- A list of places is what its places are. -/
theorem HoldL_places (c : Dev nD) : ∀ l : List Atom, ((l.map (place c)).all Option.isSome) = true →
    HoldL X Wv c l = lands (l.filterMap (place c))
  | [], _ => rfl
  | a :: l, h => by
    rw [List.map_cons, List.all_cons, Bool.and_eq_true] at h
    obtain ⟨p, hp⟩ := Option.isSome_iff_exists.mp h.1
    have ha : R X Wv c a = lands [p] := by
      cases a <;> first | (exact absurd h.1 Bool.false_ne_true) | (dsimp only [R]; rw [hp]; rfl)
    unfold HoldL
    rw [HoldL_places c l h.2, ha, List.filterMap_cons_some hp]
    show iprop((land p ∗ emp) ∗ _) = iprop(land p ∗ _)
    rw [drop_emp]

theorem HoldL_append (c : Dev nD) : ∀ l l' : List Atom, HoldL X Wv c (l ++ l') = iprop(HoldL X Wv c l ∗ HoldL X Wv c l')
  | [], l' => (drop_emp_left _).symm
  | a :: l, l' => by
    show iprop(_ ∗ HoldL X Wv c (l ++ l')) = iprop((_ ∗ _) ∗ _)
    rw [HoldL_append c l l']; exact (regroup _ _ _).symm

theorem filterMap_of_map {α β γ : Type} {f : α → Option γ} {g : β → Option γ} {l : List α} {l' : List β} (h : l.map f = l'.map g) :
    l.filterMap f = l'.filterMap g := by
  have e {δ : Type} (k : δ → Option γ) (m : List δ) : m.filterMap k = (m.map k).filterMap id := by rw [List.filterMap_map]; rfl
  rw [e f, e g, h]

/-- What a signal of the barrier hands over is what its duty asks for. -/
theorem barOut_pay (c : Dev nD) (b : Fin 3) : HoldL X Wv c (barOut (fl c) b) = barPay (nb c b) b := by
  rw [HoldL_places c _ (by rw [bar_places]; exact bar_isPlace _ _), filterMap_of_map (bar_places c b)]; rfl

/-- What rides along with a transfer is what its arrival brings besides the rows. -/
theorem cargoOut_pay (c : Dev nD) (t : Xfer) : HoldL X Wv c (cargoOut (fl c) t)
    = lands ((cargoIn (fl (Net.dst c t)) t).filterMap (place (Net.dst c t))) := by
  rw [HoldL_places c _ (by rw [cargo_places]; exact cargo_isPlace _ _), filterMap_of_map (cargo_places c t)]

theorem olev_all {c : Dev nD} {l : List Atom} (h : ((l.map (place c)).all Option.isSome) = true) : ∀ a ∈ l, olev a = 0 := fun a ha =>
  olev_place (List.all_eq_true.mp h _ (List.mem_map_of_mem ha))

theorem olev_barOut (c : Dev nD) (b : Fin 3) : ∀ a ∈ barOut (fl c) b, olev a = 0 := olev_all (by rw [bar_places]; exact bar_isPlace _ _)
theorem olev_barIn (c : Dev nD) (b : Fin 3) : ∀ a ∈ barIn (fl c) b, olev a = 0 := olev_all (bar_isPlace c b)
theorem olev_cargoOut (c : Dev nD) (t : Xfer) : ∀ a ∈ cargoOut (fl c) t, olev a = 0 := olev_all (by rw [cargo_places]; exact cargo_isPlace _ _)
theorem olev_cargoIn (c : Dev nD) (t : Xfer) : ∀ a ∈ cargoIn (fl c) t, olev a = 0 := olev_all (cargo_isPlace c t)
theorem olev_src (f : ℕ) (t : Xfer) : olev (srcAtom f t) = 0 := by
  unfold srcAtom; split <;> split <;> rfl

/-! ## The barrier -/

/-- A signal of the barrier. -/
theorem Plays.signal {c : Dev nD} {b : Fin 3} {n : Dev nD} (hn : n = nb c b) :
    Plays X Wv c (semSignalWord n barS 1#32) [.sig b] (fun _ => True) := by
  subst hn
  refine Plays.move (fun a ha => by cases ha) fun O W hO => ?_
  show iprop(Know X ∗ (dutyTok ER (barCell (nb c b)) 0 b ∗ HoldL X Wv c (barOut (fl c) b)) ∗ owes (c : Thread nD τ) (O + (tallyAt (barCell (nb c b)) () 1 + OweL c (barOut (fl c) b))) W) ⊢ _
  rw [OweL_low c _ (olev_barOut c b), add_zero, barOut_pay]
  simp only [semSignalWord]
  iintro ⟨#HK, ⟨Ht, HP⟩, HO⟩
  ihave #HC := (Know_cell X (nb c b) (.reg barS) csem_bar) $$ HK
  icases HC with ⟨⟨%κ, #HI⟩, #HR⟩
  iapply (Rounds.wp_signal 𝒱₀ ER (Rd X) (c : Thread nD τ) none (dst := (nb c b : Thread nD τ)) (κ := κ)
      (d := b) (by rw [duties_bar]; exact Finset.mem_univ _) ((show (Rd (F := F) X).amount (barCell (nb c b)) 0 b = 1 from rfl).trans (by decide)) () O rfl)
    $$ [HO Ht HP]
  · isplitr; · iexact HI
    isplitl [HO]; · iexact HO
    isplitl [Ht]; · iexact Ht
    isplitl [HP]; · rw [payload_bar]; iexact HP
    iexact HR
  iintro HO
  rw [wp_ret]; imodintro
  isplitr; · ipureintro; trivial
  isplitr
  · unfold Net.post HoldL; iempintro
  iexists W; iexact HO

/-- The wait for the barrier. -/
theorem Plays.bar {c : Dev nD} : Plays X Wv c (semWaitWord barS 3#32) [.bar] (fun _ => True) := by
  refine Plays.move (fun a ha => ?_) fun O W hO => ?_
  · rcases List.mem_cons.mp ha with rfl | ha
    · rfl
    rcases List.mem_append.mp ha with ha | ha
    · exact olev_barIn c 0 a ha
    rcases List.mem_append.mp ha with ha | ha
    · exact olev_barIn c 1 a ha
    · exact olev_barIn c 2 a ha
  have hp : HoldL X Wv c (post (fl c) .bar) = iprop(semVal (barCell c) 0 ∗ barPay c 0 ∗ barPay c 1 ∗ barPay c 2) := by
    show iprop(_ ∗ HoldL X Wv c (barIn (fl c) 0 ++ (barIn (fl c) 1 ++ barIn (fl c) 2))) = _
    rw [HoldL_append, HoldL_append, HoldL_places c _ (bar_isPlace c 0), HoldL_places c _ (bar_isPlace c 1), HoldL_places c _ (bar_isPlace c 2)]
    rfl
  rw [hp]
  show iprop(Know X ∗ ((atPos ER (barCell c) 0 ∅ 0 ∗ cred (tallyAt (barCell c) () 3)) ∗ emp) ∗ owes (c : Thread nD τ) (O + (0 + 0)) W) ⊢ _
  rw [add_zero, add_zero]
  simp only [semWaitWord]
  iintro ⟨#HK, ⟨⟨Hat, Hc⟩, -⟩, HO⟩
  ihave #HC := (Know_cell X c (.reg barS) csem_bar) $$ HK
  icases HC with ⟨⟨%κ, #HI⟩, #HR⟩
  iapply (Rounds.wp_wait_rest_token 𝒱₀ ER (Rd X) (c : Thread nD τ) none (κ := κ)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) hO (le_refl _))
      unfold Know; icases HK with ⟨Hl, -⟩; iexact Hl
    iexact Hat
  iintro ⟨HO, Hat, -, Hpay⟩
  ihave Hp := (Entails.of_eq (rest_bar X c)) $$ Hpay
  rw [wp_ret]
  imod (Rounds.cell_close ER (Rd X) (Set.mem_univ κ) (fun h => h) (R := 0 + 1) (duties_later X (barCell c))) $$ [Hat] with Hz
  · isplitr; · iexact HI
    iexact Hat
  imodintro
  isplitr; · ipureintro; trivial
  isplitl [Hz Hp]
  · isplitl [Hz]; · iexact Hz
    iexact Hp
  iexists _; iexact HO

/-! ## Transfers -/

/-- The start of a transfer. -/
theorem Plays.snd {c : Dev nD} {t : Xfer} {n : Dev nD} {src dst : Memref sig .tc .vmem S64x2048 .f32} {sS sR : DmaSem sig}
    {hsc : (dst : Memref sig (Dev.tc n : Thread nD τ).2.kind .vmem S64x2048 .f32).view.ref.isScScratch = false}
    {hsrc : src.view.WordExact} {hdst : dst.view.WordExact}
    {hsem : DmaTarget.Typed .vmem (.dma sR) (.remote (Dev.tc n : Thread nD τ) dst (.dma sS) hsc)}
    (h₁ : src = srcM (fl c) t) (h₂ : dst = dstM t) (h₃ : sS = sndS t) (h₄ : sR = rcvS t) (hn : n = Net.dst c t) :
    Plays X Wv c (Prog.lift (.enqueueDma src (.remote (Dev.tc n : Thread nD τ) dst (.dma sS) hsc) (.dma sR) hsrc hdst hsem)) [.snd t] (fun _ => True) := by
  subst h₁ h₂ h₃ h₄ hn
  refine Plays.move (fun a ha => by rcases List.mem_singleton.mp ha with rfl; rfl) fun O W hO => ?_
  show iprop(Know X ∗ ((dutyTok ER (sndCell c t) 0 0 ∗ dutyTok ER (rcvCell (Net.dst c t) t) 0 0 ∗ atPos ER (sndCell c t) 0 ∅ 0)
      ∗ ((∃ Y, ownsTc (Net.dst c t) (dstM t) fullShare Y) ∗ emp) ∗ R X Wv c (srcAtom (fl c) t) ∗ HoldL X Wv c (cargoOut (fl c) t))
      ∗ owes (c : Thread nD τ) (O + (tallyAt (rcvCell (Net.dst c t) t) () N + (0 + OweL c (srcAtom (fl c) t :: cargoOut (fl c) t)))) W)
    ⊢ wp _ _ _ _ (fun r => iprop(_ ∗ ((atPos ER (sndCell c t) 0 ∅ 0 ∗ cred (tallyAt (sndCell c t) () N)) ∗ emp) ∗ _))
  rw [OweL_low c (srcAtom (fl c) t :: cargoOut (fl c) t) (fun a ha => by
      rcases List.mem_cons.mp ha with rfl | ha
      · exact olev_src _ _
      · exact olev_cargoOut c t a ha), add_zero, add_zero, cargoOut_pay, R_srcAtom]
  unfold sndPay ownsTc owns
  simp only [Prog.lift]
  iintro ⟨#HK, ⟨⟨HtS, HtR, Hat⟩, ⟨⟨%Y, %fd, %hY, Hd⟩, -⟩, ⟨%fs, %hfs, Hs⟩, HC⟩, HO⟩
  ihave #HC₁ := (Know_cell X c (.dma (sndS t)) (csem_snd t)) $$ HK
  icases HC₁ with ⟨⟨%κ₁, #HI₁⟩, #HR₁⟩
  ihave #HC₂ := (Know_cell X (Net.dst c t) (.dma (rcvS t)) (csem_rcv t)) $$ HK
  icases HC₂ with ⟨⟨%κ₂, #HI₂⟩, #HR₂⟩
  iapply (Rounds.wp_send_pointsTo_with 𝒱₀ ER (Rd X) (c : Thread nD τ) none (κ₁ := κ₁) (κ₂ := κ₂)
    (r₁ := 0) (r₂ := 0) (d₁ := 0) (d₂ := 0) (fd := fd) (fs := fs)
    (F := lands ((cargoIn (fl (Net.dst c t)) t).filterMap (place (Net.dst c t))))
    (by rw [duties_snd]; exact Finset.mem_singleton_self _) (by rw [duties_rcv]; exact Finset.mem_singleton_self _)
    () () N (show (dstM t).view.amount (.dma (rcvS t)) = N from N_dst t) rfl rfl O rfl (W := W)
    (by
      rw [payload_snd]; unfold sndPay ownsTc owns
      iintro H; iexists fs; isplitr
      · ipureintro; exact hfs
      · iexact H)
    (by
      rw [payload_rcv]; unfold rcvPay ownsTc owns
      iintro ⟨H, HF⟩
      isplitl [H]
      · iexists _; isplitr
        rotate_left
        · iexact H
        · ipureintro; rw [View.read_write_univ, hfs]; rfl
      · iexact HF)) $$ [Hs Hd HC HO HtS HtR]
  · isplitr; · iexact HI₁
    isplitr; · iexact HI₂
    isplitl [Hs]; · iexact Hs
    isplitl [Hd HC]
    · isplitl [Hd]; · iexact Hd
      iexact HC
    isplitl [HO]; · iexact HO
    isplitl [HtS]; · iexact HtS
    isplitr; · iexact HR₁
    isplitl [HtR]; · iexact HtR
    iexact HR₂
  iintro ⟨Hc, HO⟩
  rw [wp_ret]; imodintro
  isplitr; · ipureintro; trivial
  isplitl [Hat Hc]
  · isplitl [Hat Hc]
    · isplitl [Hat]; · iexact Hat
      iexact Hc
    · iempintro
  iexists W; iexact HO

/-- The start of a transfer on the devices of some flavours. -/
theorem Plays.site_one {c : Dev nD} {f g : ℕ} {t : Xfer} {C : Prop} [Decidable C] (hC : C ↔ fl c = f ∨ fl c = g)
    {p : C → Prog (TpuEff nD τ sig (Elt F) Λ₀ .tc) PUnit} (h : ∀ hc : C, fl c = f ∨ fl c = g → Plays X Wv c (p hc) [.snd t] (fun _ => True)) :
    Plays X Wv c (if hc : C then p hc else pure ⟨⟩) [.site f g t] (fun _ => True) := fun A hA => by
  by_cases hc : C
  · have e₁ : pre (fl c) (.site f g t) = pre (fl c) (.snd t) := if_pos (hC.mp hc)
    have e₂ : post (fl c) (.site f g t) = post (fl c) (.snd t) := if_pos (hC.mp hc)
    have ho : oks (fl c) [.snd t] A = true := by
      unfold oks oks ok rest at hA ⊢
      rw [e₁, e₂] at hA
      exact hA
    have hx : nexts (fl c) [.site f g t] A = nexts (fl c) [.snd t] A := by
      unfold nexts nexts next rest
      rw [e₁, e₂]
    rw [dif_pos hc, hx]
    exact h hc (hC.mp hc) A ho
  · have e₁ : pre (fl c) (.site f g t) = [] := if_neg fun h => hc (hC.mpr h)
    have e₂ : post (fl c) (.site f g t) = [] := if_neg fun h => hc (hC.mpr h)
    have hx : nexts (fl c) [.site f g t] A = A := by
      unfold nexts nexts next rest
      rw [e₁, e₂]
      show (A ^^^ 0) ||| 0 = A
      rw [Nat.xor_zero, Nat.or_zero]
    rw [dif_neg hc, hx]
    exact Plays.ret trivial A rfl

/-- The start of a transfer on the devices of some flavours, and what every device does then. -/
theorem Plays.site {β : Type} {c : Dev nD} {f g : ℕ} {t : Xfer} {C : Prop} [Decidable C] {p : C → Prog (TpuEff nD τ sig (Elt F) Λ₀ .tc) PUnit}
    {k : PUnit → Prog (TpuEff nD τ sig (Elt F) Λ₀ .tc) β} {l : List Op} {Q : β → Prop} (hC : C ↔ fl c = f ∨ fl c = g)
    (h : ∀ hc : C, fl c = f ∨ fl c = g → Plays X Wv c (p hc) [.snd t] (fun _ => True)) (hk : Plays X Wv c (k ⟨⟩) l Q) :
    Plays X Wv c (if hc : C then p hc >>= k else k ⟨⟩) (.site f g t :: l) Q := by
  have H := Plays.cons (Plays.site_one hC h) (fun _ _ => hk)
  by_cases hc : C
  · rw [dif_pos hc] at H ⊢; exact H
  · rw [dif_neg hc] at H ⊢; exact H

theorem owns_thirds (c : Dev nD) (m : Memref sig .tc .vmem S64x2048 .f32) (Y : Vec F S64x2048 .f32) :
    (ownsTc c m fullShare Y : sProp 𝕄) ⊣⊢ iprop(ownsTc c m qk Y ∗ ownsTc c m qa Y ∗ ownsTc c m qb Y) := by
  constructor
  · iintro H
    ihave H' := (owns_share (c : Thread nD τ) m (PosShare.mem_left_op_right fullShare) Y).1 $$ H
    icases H' with ⟨H₁, H₂⟩
    ihave H' := (owns_share (c : Thread nD τ) m (PosShare.mem_left_op_right fullShare.right) Y).1 $$ H₂
    isplitl [H₁]; · iexact H₁
    iexact H'
  · iintro ⟨H₁, H₂⟩
    iapply (owns_share (c : Thread nD τ) m (PosShare.mem_left_op_right fullShare) Y).2
    isplitl [H₁]; · iexact H₁
    iapply (owns_share (c : Thread nD τ) m (PosShare.mem_left_op_right fullShare.right) Y).2
    iexact H₂

/-- The wait for a transfer's arrival. -/
theorem Plays.rcv {c : Dev nD} {t : Xfer} {src dst : Memref sig .tc .vmem S64x2048 .f32} {sR : DmaSem sig}
    {hsrc : src.view.WordExact} {hdst : dst.view.WordExact} (h₁ : sR = rcvS t) (h₂ : dst.view.dmaCredit = N) :
    Plays X Wv c (Prog.lift (.waitDma2 sR src dst hsrc hdst)) [.rcv t] (fun _ => True) := by
  subst h₁
  refine Plays.move (fun a ha => ?_) fun O W hO => ?_
  · rcases List.mem_cons.mp ha with rfl | ha
    · rfl
    rcases List.mem_cons.mp ha with rfl | ha
    · rfl
    rcases List.mem_cons.mp ha with rfl | ha
    · rfl
    rcases List.mem_cons.mp ha with rfl | ha
    · rfl
    exact olev_cargoIn c t a ha
  have hp : HoldL X Wv c (post (fl c) (.rcv t)) = iprop(semVal (rcvCell c t) 0 ∗ ownsTc c (dstM t) qk (got X c t)
      ∗ ownsTc c (dstM t) qa (got X c t) ∗ ownsTc c (dstM t) qb (got X c t) ∗ lands ((cargoIn (fl c) t).filterMap (place c))) := by
    show iprop(_ ∗ _ ∗ _ ∗ _ ∗ HoldL X Wv c (cargoIn (fl c) t)) = _
    rw [HoldL_places c _ (cargo_isPlace c t)]
    rfl
  rw [hp]
  show iprop(Know X ∗ ((atPos ER (rcvCell c t) 0 ∅ 0 ∗ cred (tallyAt (rcvCell c t) () N)) ∗ emp) ∗ owes (c : Thread nD τ) (O + (0 + 0)) W) ⊢ _
  rw [add_zero, add_zero]
  simp only [Prog.lift]
  iintro ⟨#HK, ⟨⟨Hat, Hc⟩, -⟩, HO⟩
  ihave #HC := (Know_cell X c (.dma (rcvS t)) (csem_rcv t)) $$ HK
  icases HC with ⟨⟨%κ, #HI⟩, #HR⟩
  iapply (Rounds.wp_wait_rest_token 𝒱₀ ER (Rd X) (c : Thread nD τ) none (κ := κ)
      (wpE_waitDma2_eq 𝒱₀ (c : Thread nD τ) none Set.univ) (Set.mem_univ _) () (O := O) (W := W) (R := 0) (m := 0) (T := ∅)
      (by rw [Nat.zero_add, expect_rcv]; exact h₂)) $$ [Hc HO Hat]
  · isplitr; · iexact HI
    isplitl [Hc]; · rw [h₂]; iexact Hc
    isplitl [HO]; · iexact HO
    isplitr
    · iapply (mayWait c (.dma (rcvS t)) hO (le_of_eq (lv_rcv c t ())))
      unfold Know; icases HK with ⟨Hl, -⟩; iexact Hl
    iexact Hat
  iintro ⟨HO, Hat, -, Hpay⟩
  ihave Hp := (Entails.of_eq (rest_rcv X c t)) $$ Hpay
  unfold rcvPay
  icases Hp with ⟨Hr, HC⟩
  ihave Hr := (owns_thirds c (dstM t) (got X c t)).1 $$ Hr
  icases Hr with ⟨H₁, H₂, H₃⟩
  rw [wp_ret]
  imod (Rounds.cell_close ER (Rd X) (Set.mem_univ κ) (fun h => h) (R := 0 + 1) (duties_later X (rcvCell c t))) $$ [Hat] with Hz
  · isplitr; · iexact HI
    iexact Hat
  imodintro
  isplitr; · ipureintro; trivial
  isplitl [Hz H₁ H₂ H₃ HC]
  · isplitl [Hz]; · iexact Hz
    isplitl [H₁]; · iexact H₁
    isplitl [H₂]; · iexact H₂
    isplitl [H₃]; · iexact H₃
    iexact HC
  iexists _; iexact HO

/-- The wait until a transfer has left. -/
theorem Plays.swait {c : Dev nD} {t : Xfer} {src dst : Memref sig .tc .vmem S64x2048 .f32} {sS : DmaSem sig}
    {hsrc : src.view.WordExact} {hdst : dst.view.WordExact} (h₁ : sS = sndS t) (h₂ : dst.view.dmaCredit = N) :
    Plays X Wv c (Prog.lift (.waitDma2 sS src dst hsrc hdst)) [.swait t] (fun _ => True) := by
  subst h₁
  refine Plays.move (fun a ha => ?_) fun O W hO => ?_
  · rcases List.mem_cons.mp ha with rfl | ha
    · rfl
    rcases List.mem_singleton.mp ha with rfl
    exact olev_src _ _
  show iprop(Know X ∗ ((atPos ER (sndCell c t) 0 ∅ 0 ∗ cred (tallyAt (sndCell c t) () N)) ∗ emp) ∗ owes (c : Thread nD τ) (O + (0 + 0)) W)
    ⊢ wp _ _ _ _ (fun r => iprop(_ ∗ (semVal (sndCell c t) 0 ∗ R X Wv c (srcAtom (fl c) t) ∗ emp) ∗ _))
  rw [add_zero, add_zero, R_srcAtom]
  simp only [Prog.lift]
  iintro ⟨#HK, ⟨⟨Hat, Hc⟩, -⟩, HO⟩
  ihave #HC := (Know_cell X c (.dma (sndS t)) (csem_snd t)) $$ HK
  icases HC with ⟨⟨%κ, #HI⟩, #HR⟩
  iapply (Rounds.wp_wait_rest_token 𝒱₀ ER (Rd X) (c : Thread nD τ) none (κ := κ)
      (wpE_waitDma2_eq 𝒱₀ (c : Thread nD τ) none Set.univ) (Set.mem_univ _) () (O := O) (W := W) (R := 0) (m := 0) (T := ∅)
      (by rw [Nat.zero_add, expect_snd]; exact h₂)) $$ [Hc HO Hat]
  · isplitr; · iexact HI
    isplitl [Hc]; · rw [h₂]; iexact Hc
    isplitl [HO]; · iexact HO
    isplitr
    · iapply (mayWait c (.dma (sndS t)) hO (le_of_eq (lv_snd c t ())))
      unfold Know; icases HK with ⟨Hl, -⟩; iexact Hl
    iexact Hat
  iintro ⟨HO, Hat, -, Hpay⟩
  ihave Hp := (Entails.of_eq (rest_snd X c t)) $$ Hpay
  rw [wp_ret]
  imod (Rounds.cell_close ER (Rd X) (Set.mem_univ κ) (fun h => h) (R := 0 + 1) (duties_later X (sndCell c t))) $$ [Hat] with Hz
  · isplitr; · iexact HI
    iexact Hat
  imodintro
  isplitr; · ipureintro; trivial
  isplitl [Hz Hp]
  · isplitl [Hz]; · iexact Hz
    isplitl [Hp]; · iexact Hp
    iempintro
  iexists _; iexact HO

end Cert.Proof

end
-- ==== Proof.Access.lean ====
/-
  What the loads of the two operands and of the slots read, and what the stores of the result's blocks leave, each proved once.
-/
module

public import proofs.«01_k».proof.Proof.Moves

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

/-! ## Loads through several slices -/

omit [FloatOps F] in
theorem bigSep_two (Φ : Fin 2 → sProp 𝕄) : bigSep Finset.univ Φ = iprop(Φ 0 ∗ Φ 1) := by
  rw [bigSep_univ_eq_bigSepL [0, 1] (by decide) (by decide), bigSepL_cons_cons, bigSepL_singleton]; rfl

/-- A load whose indices all lie in some of a family of disjoint slices, owned at their parts of `V`, reads `V`. -/
theorem wp_load_rects {T : Type} [Fintype T] [DecidableEq T] {c : Dev nD} {sh : Shape} {m : Memref sig .tc .vmem sh .f32}
    (q : PosShare TreeShare) (r : T → Rect sh) (hr : ∀ t a, (r t).stride a = 1) (hd : ∀ t t', t ≠ t' → Disjoint (r t).set (r t').set)
    (V : Vec F sh .f32) {lr : LoadRect sh} {hl : m.view.LoadsAt lr} (hcov : ∀ x, ∃ t j, (r t).emb j = lr.idx x)
    {α : Type} {k : Vec F lr.shape .f32 → Prog (TpuEff nD τ sig (Elt F) Λ₀ .tc) α} {Q : α → sProp 𝕄} :
    (bigSep Finset.univ fun t => ownsTc c (m.slice (r t) (hr t)) q (fun j => V ((r t).emb j)))
      ⊢ iprop(((bigSep Finset.univ fun t => ownsTc c (m.slice (r t) (hr t)) q (fun j => V ((r t).emb j)))
          -∗ wp frame (wpE defs₀ 𝒱₀ (c : Thread nD τ) none) Set.univ (k fun x => V (lr.idx x)) Q)
        -∗ wp frame (wpE defs₀ 𝒱₀ (c : Thread nD τ) none) Set.univ (.op (.load m lr hl) k) Q) := by
  iintro H Hk
  ihave H' := (owns_rects_join (c : Thread nD τ) m q r hr hd V Finset.univ) $$ H
  icases H' with ⟨%g, %hg, Hp⟩
  have hv : m.view.readAt (Elt F) lr g = fun x => V (lr.idx x) := by
    funext x
    obtain ⟨t, j, h⟩ := hcov x
    show m.view.read (Elt F) g (lr.idx x) = V (lr.idx x)
    rw [← h]; exact hg t (Finset.mem_univ t) j
  have hS : m.view.setOn lr.set ⊆ Finset.univ.biUnion fun t => (m.view.slice (r t)).set := by
    intro i hi
    obtain ⟨y, hy, rfl⟩ := Finset.mem_map.mp hi
    obtain ⟨x, rfl⟩ := lr.exists_idx_of_mem hy
    obtain ⟨t, j, h⟩ := hcov x
    rw [← h]
    refine Finset.mem_biUnion.mpr ⟨t, Finset.mem_univ t, ?_⟩
    rw [View.set_slice]
    exact Finset.mem_map_of_mem _ ((r t).map_emb_univ ▸ Finset.mem_map_of_mem _ (Finset.mem_univ j))
  have hb : (m.view.loc (c : Thread nD τ) ↦[Finset.univ.biUnion fun t => (m.view.slice (r t)).set]{q} g : sProp 𝕄)
      = bigSep Finset.univ fun t => ownsTc c (m.slice (r t) (hr t)) q (fun j => V ((r t).emb j)) := by
    rw [pointsTo_biUnion _ _ fun t _ t' _ htt => by
      rw [View.set_slice, View.set_slice]; exact (Finset.disjoint_map _).mpr (hd t t' htt)]
    refine bigSep_congr fun t _ => ?_
    rw [← owns_slice_read (c : Thread nD τ) m q (r t) (hr t) g]
    congr 1; funext j; exact hg t (Finset.mem_univ t) j
  iapply (wp_load 𝒱₀ (c : Thread nD τ) none Set.univ (m := m) hS) $$ Hp
  iintro Hp
  rw [hv]
  iapply Hk
  rw [← hb]
  iexact Hp

/-- A squeezed memref owned at what it reads of `V` is the memref owned at `V`. -/
theorem owns_squeeze (c : Dev nD) {s s' : Shape} (m : Memref sig .tc .vmem s .f32) (h : s.Squeezes s') (q : PosShare TreeShare) (V : Vec F s .f32) :
    (ownsTc c (m.squeeze s' h) q (fun j => V (Shape.reshapeEquiv h.numel_eq j)) : sProp 𝕄) = ownsTc c m q V := by
  have hr (f : m.view.ty.Contents (Elt F)) : (m.squeeze s' h).view.read (Elt F) f = fun j => m.view.read (Elt F) f (Shape.reshapeEquiv h.numel_eq j) := rfl
  have hs : (m.squeeze s' h).view.set = m.view.set := View.set_reshape _ _
  have e (f : m.view.ty.Contents (Elt F)) : ((m.squeeze s' h).view.read (Elt F) f = fun j => V (Shape.reshapeEquiv h.numel_eq j)) = (m.view.read (Elt F) f = V) := by
    rw [hr]
    refine propext ⟨fun hf => funext fun x => ?_, fun hf => by rw [hf]⟩
    have := congrFun hf ((Shape.reshapeEquiv h.numel_eq).symm x)
    simpa only [Equiv.apply_symm_apply] using this
  unfold ownsTc owns
  show iprop(∃ f : m.view.ty.Contents (Elt F), ⌜(m.squeeze s' h).view.read (Elt F) f = fun j => V (Shape.reshapeEquiv h.numel_eq j)⌝
    ∗ (m.view.loc (c : Thread nD τ) ↦[(m.squeeze s' h).view.set]{q} f)) = _
  simp only [e, hs]

/-! ## The slots -/

/-- The last two coordinates of an index of an array of slots. -/
def tail6 (i : S6x128x2048.Idx) : S128x2048.Idx := fun a => i a.succ
def tail5 (i : S5x128x2048.Idx) : S128x2048.Idx := fun a => i a.succ

/-- One device's rows as a slab of a slot array. -/
def slab (x : Vec F S128x2048 .f32) : Vec F S1x128x2048 .f32 := fun i => x (fun a => i a.succ)

theorem owns_slot6 (c : Dev nD) (m : Memref sig .tc .vmem S6x128x2048 .f32) (s : Fin 6) (u : Fin 2) (q : PosShare TreeShare) (x : Vec F S128x2048 .f32) :
    (ownsTc c ((m.slice (rect6 s u) (fun _ => rfl)).squeeze S64x2048 squeezes_S1x64x2048_S64x2048) q (rowsOf u x) : sProp 𝕄)
      = ownsTc c (m.slice (rect6 s u) (fun _ => rfl)) q (fun j => x (tail6 ((rect6 s u).emb j))) := by
  rw [← owns_squeeze c (m.slice (rect6 s u) (fun _ => rfl)) squeezes_S1x64x2048_S64x2048 q]
  congr 1
  funext j
  unfold rowsOf
  rw [show Shape.reshapeEquiv (Shape.Squeezes.numel_eq squeezes_S1x64x2048_S64x2048) j = Fin.cons ⟨0, Nat.one_pos⟩ j from
    Shape.reshapeEquiv_cons_one (n := 2) (d := ![64, 2048]) _ j]
  congr 1

theorem owns_slot5 (c : Dev nD) (m : Memref sig .tc .vmem S5x128x2048 .f32) (s : Fin 5) (u : Fin 2) (q : PosShare TreeShare) (x : Vec F S128x2048 .f32) :
    (ownsTc c ((m.slice (rect5 s u) (fun _ => rfl)).squeeze S64x2048 squeezes_S1x64x2048_S64x2048) q (rowsOf u x) : sProp 𝕄)
      = ownsTc c (m.slice (rect5 s u) (fun _ => rfl)) q (fun j => x (tail5 ((rect5 s u).emb j))) := by
  rw [← owns_squeeze c (m.slice (rect5 s u) (fun _ => rfl)) squeezes_S1x64x2048_S64x2048 q]
  congr 1
  funext j
  unfold rowsOf
  rw [show Shape.reshapeEquiv (Shape.Squeezes.numel_eq squeezes_S1x64x2048_S64x2048) j = Fin.cons ⟨0, Nat.one_pos⟩ j from
    Shape.reshapeEquiv_cons_one (n := 2) (d := ![64, 2048]) _ j]
  congr 1

/-- Indices that agree in every coordinate. -/
theorem idx_ext {s : Shape} {i j : s.Idx} (h : ∀ a, (i a).val = (j a).val) : i = j := funext fun a => Fin.ext (h a)

theorem half_sep {u u' : Fin 2} (h : u ≠ u') : 64 * u.val + 64 ≤ 64 * u'.val ∨ 64 * u'.val + 64 ≤ 64 * u.val := by
  have := Fin.val_ne_of_ne h; omega

/-- The two halves of 128 rows, and of a slot, have no element in common. -/
theorem xRect_disj (u u' : Fin 2) (h : u ≠ u') : Disjoint (xRect u).set (xRect u').set := Rect.unit_disjoint 0 (half_sep h)
theorem rect6_disj (s : Fin 6) (u u' : Fin 2) (h : u ≠ u') : Disjoint (rect6 s u).set (rect6 s u').set := Rect.unit_disjoint 1 (half_sep h)
theorem rect5_disj (s : Fin 5) (u u' : Fin 2) (h : u ≠ u') : Disjoint (rect5 s u).set (rect5 s u').set := Rect.unit_disjoint 1 (half_sep h)

/-- Every index lies in one of the two halves. -/
theorem xRect_cov (i : S128x2048.Idx) : ∃ u j, (xRect u).emb j = i := by
  have h0 : (i 0).val < 128 := (i 0).isLt
  refine ⟨⟨(i 0).val / 64, by omega⟩, (xRect _).exists_idx_of_mem (Rect.mem_set_unit.mpr fun a => ?_)⟩
  match a with
  | 0 => show 64 * ((i 0).val / 64) ≤ (i 0).val ∧ (i 0).val < 64 * ((i 0).val / 64) + 64; omega
  | 1 => exact ⟨Nat.zero_le _, (Nat.zero_add 2048).symm ▸ (i 1).isLt⟩

theorem rect6_cov (s : Fin 6) (i : S6x128x2048.Idx) (h : (i 0).val = s.val) : ∃ u j, (rect6 s u).emb j = i := by
  have h1 : (i 1).val < 128 := (i 1).isLt
  refine ⟨⟨(i 1).val / 64, by omega⟩, (rect6 s _).exists_idx_of_mem (Rect.mem_set_unit.mpr fun a => ?_)⟩
  match a with
  | 0 => show s.val ≤ (i 0).val ∧ (i 0).val < s.val + 1; omega
  | 1 => show 64 * ((i 1).val / 64) ≤ (i 1).val ∧ (i 1).val < 64 * ((i 1).val / 64) + 64; omega
  | 2 => exact ⟨Nat.zero_le _, (Nat.zero_add 2048).symm ▸ (i 2).isLt⟩

theorem rect5_cov (s : Fin 5) (i : S5x128x2048.Idx) (h : (i 0).val = s.val) : ∃ u j, (rect5 s u).emb j = i := by
  have h1 : (i 1).val < 128 := (i 1).isLt
  refine ⟨⟨(i 1).val / 64, by omega⟩, (rect5 s _).exists_idx_of_mem (Rect.mem_set_unit.mpr fun a => ?_)⟩
  match a with
  | 0 => show s.val ≤ (i 0).val ∧ (i 0).val < s.val + 1; omega
  | 1 => show 64 * ((i 1).val / 64) ≤ (i 1).val ∧ (i 1).val < 64 * ((i 1).val / 64) + 64; omega
  | 2 => exact ⟨Nat.zero_le _, (Nat.zero_add 2048).symm ▸ (i 2).isLt⟩

/-- A load of a slot, both halves of which have arrived. -/
theorem Plays.slot {c : Dev nD} (t : Xfer) {sh : Shape} {m : Memref sig .tc .vmem sh .f32} (r : Fin 2 → Rect sh) (hr : ∀ u a, (r u).stride a = 1)
    (hd : ∀ u u', u ≠ u' → Disjoint (r u).set (r u').set) (V : Vec F sh .f32) {lr : LoadRect sh} {hl : m.view.LoadsAt lr}
    (hcov : ∀ x, ∃ u j, (r u).emb j = lr.idx x) (v : Vec F lr.shape .f32) (hv : (fun x => V (lr.idx x)) = v)
    (h₀ : (ownsTc c (dstM t) qk (got X c t) : sProp 𝕄) = ownsTc c (m.slice (r 0) (hr 0)) qk (fun j => V ((r 0).emb j)))
    (h₁ : (ownsTc c (dstM (mate t)) qk (got X c (mate t)) : sProp 𝕄) = ownsTc c (m.slice (r 1) (hr 1)) qk (fun j => V ((r 1).emb j))) :
    Plays X Wv c (Prog.lift (.load m lr hl)) [.lds t] (fun w => w = v) := by
  refine Plays.move (fun a ha => ?_) fun O W hO => ?_
  · rcases List.mem_cons.mp ha with rfl | ha
    · rfl
    · rcases List.mem_singleton.mp ha with rfl; rfl
  show iprop(Know X ∗ (ownsTc c (dstM t) qk (got X c t) ∗ ownsTc c (dstM (mate t)) qk (got X c (mate t)) ∗ emp) ∗ owes (c : Thread nD τ) (O + (0 + (0 + 0))) W)
    ⊢ wp _ _ _ _ (fun w => iprop(_ ∗ (ownsTc c (dstM t) qk (got X c t) ∗ ownsTc c (dstM (mate t)) qk (got X c (mate t)) ∗ emp) ∗ _))
  have hb := wp_load_rects (c := c) (m := m) qk r hr hd V (lr := lr) (hl := hl) hcov (k := .ret)
    (Q := fun w => iprop(⌜w = v⌝ ∗ (ownsTc c (dstM t) qk (got X c t) ∗ ownsTc c (dstM (mate t)) qk (got X c (mate t)) ∗ emp) ∗ ∃ W', owes (c : Thread nD τ) O W'))
  rw [bigSep_two, ← h₀, ← h₁, hv] at hb
  rw [add_zero, add_zero, add_zero]
  simp only [Prog.lift]
  iintro ⟨-, ⟨H₀, H₁, -⟩, HO⟩
  iapply hb $$ [H₀ H₁]
  · isplitl [H₀]; · iexact H₀
    iexact H₁
  iintro ⟨H₀, H₁⟩
  rw [wp_ret]; imodintro
  isplitr; · ipureintro; rfl
  isplitl [H₀ H₁]
  · isplitl [H₀]; · iexact H₀
    isplitl [H₁]; · iexact H₁
    iempintro
  iexists W; iexact HO

theorem slot_facts : ∀ t : Xfer, t.val % 2 = 0 → half t = 0 ∧ half (mate t) = 1 ∧ slot6 (mate t) = slot6 t ∧ slot5 (mate t) = slot5 t
    ∧ (mate t).val = t.val + 1 := by decide
theorem org_mate : ∀ (c : Dev nD) (t : Xfer), t.val % 2 = 0 → org c (mate t) = org c t := by decide +kernel

theorem dstM_cw {t : Xfer} (h : t.val < 10) : dstM t = (cwM.slice (rect6 (slot6 t) (half t)) (fun _ => rfl)).squeeze S64x2048 squeezes_S1x64x2048_S64x2048 := if_pos h
theorem dstM_ccw {t : Xfer} (h : 10 ≤ t.val) (h' : t.val < 20) :
    dstM t = (ccwM.slice (rect6 (slot6 t) (half t)) (fun _ => rfl)).squeeze S64x2048 squeezes_S1x64x2048_S64x2048 := (if_neg (by omega)).trans (if_pos h')
theorem dstM_ch {t : Xfer} (h : 20 ≤ t.val) : dstM t = (chM.slice (rect5 (slot5 t) (half t)) (fun _ => rfl)).squeeze S64x2048 squeezes_S1x64x2048_S64x2048 :=
  (if_neg (by omega)).trans (if_neg (by omega))

/-- A load of a slot of the first ring's array, -/
theorem Plays.lds_cw {c : Dev nD} {t : Xfer} (ht : t.val < 10 ∧ t.val % 2 = 0) {off : Fin 3 → ℕ} {inb} (hoff : off = ![(slot6 t).val, 0, 0])
    {hl : cwM.view.LoadsAt (Rect.unit (s := S6x128x2048) off S1x128x2048.size inb).toLoadRect} :
    Plays X Wv c (Prog.lift (.load cwM (Rect.unit (s := S6x128x2048) off S1x128x2048.size inb).toLoadRect hl)) [.lds t]
      (fun w => w = slab (X (org c t))) := by
  subst hoff
  obtain ⟨f₀, f₁, f₂, -, f₃⟩ := slot_facts t ht.2
  refine Plays.slot t (rect6 (slot6 t)) (fun _ _ => rfl) (rect6_disj _) (fun i => X (org c t) (tail6 i)) (fun x => rect6_cov _ _ ?_) _ ?_ ?_ ?_
  · have : (x 0).val < 1 := (x 0).isLt
    show (slot6 t).val + 1 * (x 0).val = _; omega
  · funext x; unfold slab; congr 1
    exact idx_ext fun a => match a with | 0 => by show 0 + 1 * (x 1).val = (x 1).val; omega | 1 => by show 0 + 1 * (x 2).val = (x 2).val; omega
  · rw [dstM_cw ht.1, got, owns_slot6, f₀]
  · rw [dstM_cw (show (mate t).val < 10 by omega), got, org_mate c t ht.2, owns_slot6, f₁, f₂]

/-- of the second's, -/
theorem Plays.lds_ccw {c : Dev nD} {t : Xfer} (ht : 10 ≤ t.val ∧ t.val < 20 ∧ t.val % 2 = 0) {off : Fin 3 → ℕ} {inb} (hoff : off = ![(slot6 t).val, 0, 0])
    {hl : ccwM.view.LoadsAt (Rect.unit (s := S6x128x2048) off S1x128x2048.size inb).toLoadRect} :
    Plays X Wv c (Prog.lift (.load ccwM (Rect.unit (s := S6x128x2048) off S1x128x2048.size inb).toLoadRect hl)) [.lds t]
      (fun w => w = slab (X (org c t))) := by
  subst hoff
  obtain ⟨f₀, f₁, f₂, -, f₃⟩ := slot_facts t ht.2.2
  refine Plays.slot t (rect6 (slot6 t)) (fun _ _ => rfl) (rect6_disj _) (fun i => X (org c t) (tail6 i)) (fun x => rect6_cov _ _ ?_) _ ?_ ?_ ?_
  · have : (x 0).val < 1 := (x 0).isLt
    show (slot6 t).val + 1 * (x 0).val = _; omega
  · funext x; unfold slab; congr 1
    exact idx_ext fun a => match a with | 0 => by show 0 + 1 * (x 1).val = (x 1).val; omega | 1 => by show 0 + 1 * (x 2).val = (x 2).val; omega
  · rw [dstM_ccw ht.1 ht.2.1, got, owns_slot6, f₀]
  · rw [dstM_ccw (show 10 ≤ (mate t).val by omega) (show (mate t).val < 20 by omega), got, org_mate c t ht.2.2, owns_slot6, f₁, f₂]

/-- and of the chords'. -/
theorem Plays.lds_ch {c : Dev nD} {t : Xfer} (ht : 20 ≤ t.val ∧ t.val % 2 = 0) {off : Fin 3 → ℕ} {inb} (hoff : off = ![(slot5 t).val, 0, 0])
    {hl : chM.view.LoadsAt (Rect.unit (s := S5x128x2048) off S1x128x2048.size inb).toLoadRect} :
    Plays X Wv c (Prog.lift (.load chM (Rect.unit (s := S5x128x2048) off S1x128x2048.size inb).toLoadRect hl)) [.lds t]
      (fun w => w = slab (X (org c t))) := by
  subst hoff
  obtain ⟨f₀, f₁, -, f₂, f₃⟩ := slot_facts t ht.2
  refine Plays.slot t (rect5 (slot5 t)) (fun _ _ => rfl) (rect5_disj _) (fun i => X (org c t) (tail5 i)) (fun x => rect5_cov _ _ ?_) _ ?_ ?_ ?_
  · have : (x 0).val < 1 := (x 0).isLt
    show (slot5 t).val + 1 * (x 0).val = _; omega
  · funext x; unfold slab; congr 1
    exact idx_ext fun a => match a with | 0 => by show 0 + 1 * (x 1).val = (x 1).val; omega | 1 => by show 0 + 1 * (x 2).val = (x 2).val; omega
  · rw [dstM_ch ht.1, got, owns_slot5, f₀]
  · rw [dstM_ch (show 20 ≤ (mate t).val by omega), got, org_mate c t ht.2, owns_slot5, f₁, f₂]

/-! ## The operands and the result -/

/-- The load of the own rows. -/
theorem Plays.ldx {c : Dev nD} {inb} {hl : xM.view.LoadsAt (Rect.unit (s := S128x2048) ![0, 0] S128x2048.size inb).toLoadRect} :
    Plays X Wv c (Prog.lift (.load xM (Rect.unit (s := S128x2048) ![0, 0] S128x2048.size inb).toLoadRect hl)) [.ldx] (fun w => w = X c) := by
  refine Plays.move (fun a ha => ?_) fun O W hO => ?_
  · rcases List.mem_cons.mp ha with rfl | ha
    · rfl
    · rcases List.mem_singleton.mp ha with rfl; rfl
  have hb := wp_load_rects (c := c) (m := xM) qk xRect (fun _ _ => rfl) xRect_disj (X c) (hl := hl) (fun x => xRect_cov _) (k := .ret)
    (Q := fun w => iprop(⌜w = X c⌝ ∗ (ownsTc c (xH 0) qk (rowsOf 0 (X c)) ∗ ownsTc c (xH 1) qk (rowsOf 1 (X c)) ∗ emp) ∗ ∃ W', owes (c : Thread nD τ) O W'))
  rw [bigSep_two] at hb
  have hv : (fun x => X c ((Rect.unit (s := S128x2048) ![0, 0] S128x2048.size inb).toLoadRect.idx x)) = X c :=
    funext fun x => congrArg (X c) (idx_ext fun a => match a with | 0 => by show 0 + 1 * (x 0).val = (x 0).val; omega | 1 => by show 0 + 1 * (x 1).val = (x 1).val; omega)
  rw [hv] at hb
  show iprop(Know X ∗ (ownsTc c (xH 0) qk (rowsOf 0 (X c)) ∗ ownsTc c (xH 1) qk (rowsOf 1 (X c)) ∗ emp) ∗ owes (c : Thread nD τ) (O + (0 + (0 + 0))) W)
    ⊢ wp _ _ _ _ (fun w => iprop(_ ∗ (ownsTc c (xH 0) qk (rowsOf 0 (X c)) ∗ ownsTc c (xH 1) qk (rowsOf 1 (X c)) ∗ emp) ∗ _))
  rw [add_zero, add_zero, add_zero]
  simp only [Prog.lift]
  iintro ⟨-, ⟨H₀, H₁, -⟩, HO⟩
  iapply hb $$ [H₀ H₁]
  · isplitl [H₀]; · iexact H₀
    iexact H₁
  iintro ⟨H₀, H₁⟩
  rw [wp_ret]; imodintro
  isplitr; · ipureintro; rfl
  isplitl [H₀ H₁]
  · isplitl [H₀]; · iexact H₀
    isplitl [H₁]; · iexact H₁
    iempintro
  iexists W; iexact HO

/-- The load of the own block of the second operand. -/
theorem Plays.ldw {c : Dev nD} {inb} {hl : wM.view.LoadsAt (Rect.unit (s := S2048x128) ![0, 0] S2048x128.size inb).toLoadRect} :
    Plays X Wv c (Prog.lift (.load wM (Rect.unit (s := S2048x128) ![0, 0] S2048x128.size inb).toLoadRect hl)) [.ldw] (fun w => w = Wv c) := by
  refine Plays.move (fun a ha => by rcases List.mem_singleton.mp ha with rfl; rfl) fun O W hO => ?_
  show iprop(Know X ∗ (ownsTc c wM fullShare (Wv c) ∗ emp) ∗ owes (c : Thread nD τ) (O + (0 + 0)) W)
    ⊢ wp _ _ _ _ (fun w => iprop(_ ∗ (ownsTc c wM fullShare (Wv c) ∗ emp) ∗ _))
  unfold ownsTc
  rw [add_zero, add_zero, owns_whole]
  simp only [Prog.lift]
  iintro ⟨-, ⟨H, -⟩, HO⟩
  iapply (wp_load 𝒱₀ (c : Thread nD τ) none Set.univ (m := wM) (S := Finset.univ) (Finset.subset_univ _)) $$ H
  iintro H
  rw [wp_ret]; imodintro
  isplitr
  · ipureintro
    exact funext fun x => congrArg (Wv c) (idx_ext fun a => match a with | 0 => by show 0 + 1 * (x 0).val = (x 0).val; omega | 1 => by show 0 + 1 * (x 1).val = (x 1).val; omega)
  isplitl [H]
  · isplitl [H]; · iexact H
    iempintro
  iexists W; iexact HO

/-- The load of a block of the result before it is written; what it reads is not used. -/
theorem Plays.ldo {c : Dev nD} {o : Option Xfer} {off : Fin 2 → ℕ} {inb} (hoff : off = ![128 * (shift c (outOff (fl c) o).val).val, 0])
    {hl : oM.view.LoadsAt (Rect.unit (s := S2048x128) off S128x128.size inb).toLoadRect} :
    Plays X Wv c (Prog.lift (.load oM (Rect.unit (s := S2048x128) off S128x128.size inb).toLoadRect hl)) [.ldo o] (fun _ => True) := by
  subst hoff
  refine Plays.move (fun a ha => by rcases List.mem_singleton.mp ha with rfl; rfl) fun O W hO => ?_
  show iprop(Know X ∗ ((∃ Y, ownsTc c (oH (shift c (outOff (fl c) o).val)) fullShare Y) ∗ emp) ∗ owes (c : Thread nD τ) (O + (0 + 0)) W)
    ⊢ wp _ _ _ _ (fun w => iprop(_ ∗ ((∃ Y, ownsTc c (oH (shift c (outOff (fl c) o).val)) fullShare Y) ∗ emp) ∗ _))
  rw [add_zero, add_zero]
  simp only [Prog.lift]
  unfold ownsTc owns
  iintro ⟨-, ⟨⟨%Y, %f, %hf, H⟩, -⟩, HO⟩
  iapply (wp_load 𝒱₀ (c : Thread nD τ) none Set.univ (m := oM) (S := (oM.view.slice (oRect (shift c (outOff (fl c) o).val))).set)
    (by rw [View.set_slice]; exact Finset.Subset.refl _)) $$ H
  iintro H
  rw [wp_ret]; imodintro
  isplitr; · ipureintro; trivial
  isplitl [H]
  · isplitl [H]
    · iexists Y; iexists f; isplitr
      · ipureintro; exact hf
      · iexact H
    iempintro
  iexists W; iexact HO

/-- The store of a block of the result. -/
theorem Plays.sto {c : Dev nD} {o : Option Xfer} {off : Fin 2 → ℕ} {inb} (hoff : off = ![128 * (shift c (outOff (fl c) o).val).val, 0])
    {w : Vec F S128x128 .f32} (hw : w = blkOf (X (shift c (outOff (fl c) o).val)) (Wv c))
    {hx : (oM.access (Rect.unit (s := S2048x128) off S128x128.size inb)).Stores Finset.univ} {hm} :
    Plays X Wv c (Prog.lift (.store oM (Rect.unit (s := S2048x128) off S128x128.size inb) w Finset.univ hx hm)) [.sto o] (fun _ => True) := by
  subst hoff hw
  refine Plays.move (fun a ha => by rcases List.mem_singleton.mp ha with rfl; rfl) fun O W hO => ?_
  show iprop(Know X ∗ ((∃ Y, ownsTc c (oH (shift c (outOff (fl c) o).val)) fullShare Y) ∗ emp) ∗ owes (c : Thread nD τ) (O + (0 + 0)) W)
    ⊢ wp _ _ _ _ (fun w => iprop(_ ∗ (ownsTc c (oH (shift c (outOff (fl c) o).val)) fullShare (blkOf (X (shift c (outOff (fl c) o).val)) (Wv c)) ∗ emp) ∗ _))
  rw [add_zero, add_zero]
  simp only [Prog.lift]
  unfold ownsTc owns
  iintro ⟨-, ⟨⟨%Y, %f, %hf, H⟩, -⟩, HO⟩
  iapply (wp_store 𝒱₀ (c : Thread nD τ) none Set.univ (m := oM) (r := oRect (shift c (outOff (fl c) o).val)) (Mk := Finset.univ)
    (S := (oM.view.slice (oRect (shift c (outOff (fl c) o).val))).set) (Finset.Subset.refl _)) $$ H
  iintro H
  rw [wp_ret]; imodintro
  isplitr; · ipureintro; trivial
  isplitl [H]
  · isplitl [H]
    · iexists _; isplitr
      rotate_left
      · iexact H
      · ipureintro; exact View.read_write_univ _ _
    iempintro
  iexists W; iexact HO

/-- Where a block of the result sits and whose rows it is made of. -/
theorem shift_outOff : ∀ (c : Dev nD) (t : Xfer), shift c (outOff (fl c) (some t)).val = org c t := by decide +kernel

end Cert.Proof

end
-- ==== Proof.Split.lean ====
/-
  A device's memory at the start and at the end: the buffers cut into the places the moves speak of, and put together again.
-/
module

public import proofs.«01_k».proof.Proof.Access

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

/-! ## Lists of one kind of atoms -/

omit [FloatOps F] in
theorem bigSep_cons_nodup {n : ℕ} (Φ : Fin n → sProp 𝕄) (i : Fin n) (l : List (Fin n)) (h : i ∉ l) :
    bigSep (i :: l).toFinset Φ = iprop(Φ i ∗ bigSep l.toFinset Φ) := by
  rw [List.toFinset_cons]; exact bigSep_insert (by rwa [List.mem_toFinset])

theorem HoldL_family (c : Dev nD) {n : ℕ} (mk : Fin n → Atom) : ∀ l : List (Fin n), l.Nodup →
    HoldL X Wv c (l.map mk) = bigSep l.toFinset fun i => R X Wv c (mk i)
  | [], _ => (bigSep_empty).symm
  | i :: l, h => by
    rw [bigSep_cons_nodup _ i l (List.nodup_cons.mp h).1, ← HoldL_family c mk l (List.nodup_cons.mp h).2]; rfl

/-- All the atoms of one kind are a family. -/
theorem HoldL_map (c : Dev nD) {n : ℕ} (mk : Fin n → Atom) :
    HoldL X Wv c ((List.finRange n).map mk) = bigSep Finset.univ fun i => R X Wv c (mk i) := by
  rw [HoldL_family c mk _ (List.nodup_finRange n), List.toFinset_finRange]

/-! ## Cutting a buffer -/

omit [FloatOps F] in
theorem eq_of_both {P Q : sProp 𝕄} (h : P ⊣⊢ Q) : P = Q := equiv_iff.mp ⟨h.1, h.2⟩

omit [FloatOps F] in
/-- The slices of a covering family cover. -/
theorem cover {T : Type} [Fintype T] {sh : Shape} {r : T → Rect sh} (h : ∀ i, ∃ t j, (r t).emb j = i) :
    (Finset.univ : Finset T).biUnion (fun t => (r t).set) = Finset.univ := by
  ext i
  refine ⟨fun _ => Finset.mem_univ _, fun _ => ?_⟩
  obtain ⟨t, j, rfl⟩ := h i
  exact Finset.mem_biUnion.mpr ⟨t, Finset.mem_univ t, (r t).map_emb_univ ▸ Finset.mem_map_of_mem _ (Finset.mem_univ j)⟩

/-- A memref, whatever it holds, is its slices, whatever they hold. -/
theorem cut_any {T : Type} [Fintype T] [DecidableEq T] (c : Dev nD) {sh : Shape} (m : Memref sig .tc .vmem sh .f32)
    (r : T → Rect sh) (hr : ∀ t a, (r t).stride a = 1) (hd : ∀ t t', t ≠ t' → Disjoint (r t).set (r t').set)
    (hcov : ∀ i, ∃ t j, (r t).emb j = i) :
    (iprop(∃ f, m.view.loc (c : Thread nD τ) ↦[m.view.set]{fullShare} f) : sProp 𝕄)
      ⊣⊢ bigSep Finset.univ fun t => iprop(∃ Y, ownsTc c (m.slice (r t) (hr t)) fullShare Y) := by
  constructor
  · iintro ⟨%f, H⟩
    iapply ((Entails.of_eq (pointsTo_rects (c : Thread nD τ) m fullShare r hr hd (cover hcov) f)).trans (bigSep_mono (s := Finset.univ) fun t _ => (show ownsTc c (m.slice (r t) (hr t)) fullShare (fun j => m.view.read (Elt F) f ((r t).emb j))
      ⊢ (iprop(∃ Y, ownsTc c (m.slice (r t) (hr t)) fullShare Y) : sProp 𝕄) from by iintro H; iexists _; iexact H))) $$ H
  · have hp (t : T) : (iprop(∃ Y, ownsTc c (m.slice (r t) (hr t)) fullShare Y) : sProp 𝕄)
        ⊢ iprop(∃ f, m.view.loc (c : Thread nD τ) ↦[(m.view.slice (r t)).set]{fullShare} f) := by
      unfold ownsTc owns
      iintro ⟨%Y, %f, %hf, H⟩
      iexists f
      iexact H
    have : Nonempty (Buf (Elt F) (m.view.loc (c : Thread nD τ))) := inferInstance
    refine (bigSep_mono fun t _ => hp t).trans ?_
    refine (bigSep_exists_pi Finset.univ fun (t : T) (f : Buf (Elt F) (m.view.loc (c : Thread nD τ))) =>
      (m.view.loc (c : Thread nD τ) ↦[(m.view.slice (r t)).set]{fullShare} f : sProp 𝕄)).trans ?_
    iintro ⟨%fs, H⟩
    ihave H' := (pointsTo_biUnion_join Finset.univ (fun t => (m.view.slice (r t)).set) fs (Classical.choice this) fun t _ t' _ htt => by
      rw [View.set_slice, View.set_slice]; exact (Finset.disjoint_map _).mpr (hd t t' htt)) $$ H
    icases H' with ⟨%g, %hg, H⟩
    iexists g
    have hset : m.view.set = (Finset.univ : Finset T).biUnion fun t => (m.view.slice (r t)).set := by
      ext i
      refine ⟨fun hi => ?_, fun hi => ?_⟩
      · rw [View.set, Finset.mem_map] at hi
        obtain ⟨x, -, rfl⟩ := hi
        obtain ⟨t, -, hx⟩ := Finset.mem_biUnion.mp ((cover hcov).symm ▸ Finset.mem_univ x)
        exact Finset.mem_biUnion.mpr ⟨t, Finset.mem_univ _, by rw [View.set_slice]; exact Finset.mem_map_of_mem _ hx⟩
      · obtain ⟨t, -, hi⟩ := Finset.mem_biUnion.mp hi
        exact View.set_slice_subset _ _ hi
    rw [hset]
    iexact H

/-! ## The arrays of slots -/

/-- A half of a slot, of one of the three arrays. -/
abbrev Piece : Type := (Fin 6 × Fin 2) ⊕ (Fin 6 × Fin 2) ⊕ (Fin 5 × Fin 2)

/-- The piece, whatever it holds. -/
def hold (c : Dev nD) : Piece → sProp 𝕄
  | .inl p => iprop(∃ Y, ownsTc c (cwM.slice (rect6 p.1 p.2) (fun _ => rfl)) fullShare Y)
  | .inr (.inl p) => iprop(∃ Y, ownsTc c (ccwM.slice (rect6 p.1 p.2) (fun _ => rfl)) fullShare Y)
  | .inr (.inr p) => iprop(∃ Y, ownsTc c (chM.slice (rect5 p.1 p.2) (fun _ => rfl)) fullShare Y)

/-- The piece a transfer lands in; and the four in which none does. -/
def pieceOf : Xfer ⊕ Fin 4 → Piece
  | .inl t => if t.val < 10 then .inl (slot6 t, half t) else if t.val < 20 then .inr (.inl (slot6 t, half t)) else .inr (.inr (slot5 t, half t))
  | .inr k => if k.val < 2 then .inl (0, Fin.ofNat 2 k.val) else .inr (.inl (0, Fin.ofNat 2 k.val))

theorem pieceOf_bij : Function.Bijective pieceOf := by
  rw [Fintype.bijective_iff_injective_and_card]
  exact ⟨by decide +kernel, by decide +kernel⟩

theorem land_squeeze (c : Dev nD) {s s' : Shape} (m : Memref sig .tc .vmem s .f32) (h : s.Squeezes s') :
    (iprop(∃ Y, ownsTc c m fullShare Y) : sProp 𝕄) = iprop(∃ Y, ownsTc c (m.squeeze s' h) fullShare Y) := by
  have h₁ : (iprop(∃ Y, ownsTc c m fullShare Y) : sProp 𝕄) ⊢ iprop(∃ Y, ownsTc c (m.squeeze s' h) fullShare Y) := by
    iintro ⟨%Y, H⟩
    iexists (fun j => Y (Shape.reshapeEquiv h.numel_eq j))
    rw [owns_squeeze c m h fullShare Y]
    iexact H
  have h₂ : (iprop(∃ Y, ownsTc c (m.squeeze s' h) fullShare Y) : sProp 𝕄) ⊢ iprop(∃ Y, ownsTc c m fullShare Y) := by
    iintro ⟨%Y, H⟩
    iexists (fun j => Y ((Shape.reshapeEquiv h.numel_eq).symm j))
    rw [← owns_squeeze c m h fullShare]
    simp only [Equiv.symm_apply_apply]
    iexact H
  exact equiv_iff.mp ⟨h₁, h₂⟩

theorem hold_land (c : Dev nD) (t : Xfer) : hold (F := F) c (pieceOf (.inl t)) = land (c, t) := by
  unfold land pieceOf dstM
  dsimp only
  by_cases h : t.val < 10
  · rw [if_pos h, if_pos h]; exact land_squeeze c _ _
  · rw [if_neg h, if_neg h]
    by_cases h' : t.val < 20
    · rw [if_pos h', if_pos h']; exact land_squeeze c _ _
    · rw [if_neg h', if_neg h']; exact land_squeeze c _ _

theorem rect_sep6 : ∀ p p' : Fin 6 × Fin 2, p ≠ p' → Disjoint (rect6 p.1 p.2).set (rect6 p'.1 p'.2).set := by
  intro p p' h
  by_cases hs : p.1 = p'.1
  · exact Rect.unit_disjoint 1 (half_sep fun hu => h (Prod.ext hs hu))
  · refine Rect.unit_disjoint 0 ?_
    have := Fin.val_ne_of_ne hs
    show p.1.val + 1 ≤ p'.1.val ∨ p'.1.val + 1 ≤ p.1.val
    omega
theorem rect_sep5 : ∀ p p' : Fin 5 × Fin 2, p ≠ p' → Disjoint (rect5 p.1 p.2).set (rect5 p'.1 p'.2).set := by
  intro p p' h
  by_cases hs : p.1 = p'.1
  · exact Rect.unit_disjoint 1 (half_sep fun hu => h (Prod.ext hs hu))
  · refine Rect.unit_disjoint 0 ?_
    have := Fin.val_ne_of_ne hs
    show p.1.val + 1 ≤ p'.1.val ∨ p'.1.val + 1 ≤ p.1.val
    omega

/-- The three arrays, whatever they hold. -/
def arrays (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The arrays are the places of the transfers and four unused pieces. -/
theorem arrays_pieces (c : Dev nD) :
    (arrays c : sProp 𝕄) = iprop((bigSep Finset.univ fun t : Xfer => land (c, t)) ∗ bigSep Finset.univ fun k : Fin 4 => hold c (pieceOf (.inr k))) := by
  have h₀ : (iprop(∃ f : Buf (Elt F) ((c : Thread nD τ).loc cc0_scratch0), ((c : Thread nD τ).loc cc0_scratch0) ↦{fullShare} f) : sProp 𝕄)
      = bigSep Finset.univ fun p : Fin 6 × Fin 2 => hold c (.inl p) := by
    have h := eq_of_both (cut_any (F := F) c cwM (fun p : Fin 6 × Fin 2 => rect6 p.1 p.2) (fun _ _ => rfl) rect_sep6
      (fun i => by obtain ⟨u, j, h⟩ := rect6_cov (i 0) i rfl; exact ⟨(i 0, u), j, h⟩))
    rw [show (cwM : Memref sig .tc .vmem S6x128x2048 .f32).view.set = Finset.univ from View.set_whole _] at h
    exact h
  have h₁ : (iprop(∃ f : Buf (Elt F) ((c : Thread nD τ).loc cc0_scratch1), ((c : Thread nD τ).loc cc0_scratch1) ↦{fullShare} f) : sProp 𝕄)
      = bigSep Finset.univ fun p : Fin 6 × Fin 2 => hold c (.inr (.inl p)) := by
    have h := eq_of_both (cut_any (F := F) c ccwM (fun p : Fin 6 × Fin 2 => rect6 p.1 p.2) (fun _ _ => rfl) rect_sep6
      (fun i => by obtain ⟨u, j, h⟩ := rect6_cov (i 0) i rfl; exact ⟨(i 0, u), j, h⟩))
    rw [show (ccwM : Memref sig .tc .vmem S6x128x2048 .f32).view.set = Finset.univ from View.set_whole _] at h
    exact h
  have h₂ : (iprop(∃ f : Buf (Elt F) ((c : Thread nD τ).loc cc0_scratch2), ((c : Thread nD τ).loc cc0_scratch2) ↦{fullShare} f) : sProp 𝕄)
      = bigSep Finset.univ fun p : Fin 5 × Fin 2 => hold c (.inr (.inr p)) := by
    have h := eq_of_both (cut_any (F := F) c chM (fun p : Fin 5 × Fin 2 => rect5 p.1 p.2) (fun _ _ => rfl) rect_sep5
      (fun i => by obtain ⟨u, j, h⟩ := rect5_cov (i 0) i rfl; exact ⟨(i 0, u), j, h⟩))
    rw [show (chM : Memref sig .tc .vmem S5x128x2048 .f32).view.set = Finset.univ from View.set_whole _] at h
    exact h
  unfold arrays
  rw [h₀, h₁, h₂]
  have hs : bigSep Finset.univ (hold (F := F) c) = iprop((bigSep Finset.univ fun p => hold c (.inl p))
      ∗ (bigSep Finset.univ fun p => hold c (.inr (.inl p))) ∗ bigSep Finset.univ fun p => hold c (.inr (.inr p))) := by
    rw [bigSep_univ_sum, bigSep_univ_sum]; rfl
  rw [← hs, bigSep_univ_equiv (Equiv.ofBijective pieceOf pieceOf_bij) (hold (F := F) c), bigSep_univ_sum]
  show iprop((bigSep Finset.univ fun t => hold c (pieceOf (.inl t))) ∗ bigSep Finset.univ fun k => hold c (pieceOf (.inr k))) = _
  simp only [hold_land]

/-! ## The own rows -/

/-- A memref in four shares: kept, lent to the chord, lent to either ring hop. -/
theorem owns_fourths (c : Dev nD) (m : Memref sig .tc .vmem S64x2048 .f32) (Y : Vec F S64x2048 .f32) :
    (ownsTc c m fullShare Y : sProp 𝕄) ⊣⊢ iprop(ownsTc c m qk Y ∗ ownsTc c m qb Y ∗ ownsTc c m (qc 0) Y ∗ ownsTc c m (qc 1) Y) := by
  constructor
  · iintro H
    ihave H' := (owns_thirds c m Y).1 $$ H
    icases H' with ⟨H₁, H₂, H₃⟩
    ihave H' := (owns_share (c : Thread nD τ) m (PosShare.mem_left_op_right qa) Y).1 $$ H₂
    isplitl [H₁]; · iexact H₁
    isplitl [H₃]; · iexact H₃
    iexact H'
  · iintro ⟨H₁, H₂, H₃⟩
    iapply (owns_thirds c m Y).2
    isplitl [H₁]; · iexact H₁
    isplitl [H₃]
    · iapply (owns_share (c : Thread nD τ) m (PosShare.mem_left_op_right qa) Y).2
      iexact H₃
    · iexact H₂

/-- The own rows are their two halves. -/
theorem x_halves (c : Dev nD) (x : Vec F S128x2048 .f32) :
    (((c : Thread nD τ).loc cc0_stg0_0) ↦{fullShare} x : sProp 𝕄)
      = iprop(ownsTc c (xH 0) fullShare (rowsOf 0 x) ∗ ownsTc c (xH 1) fullShare (rowsOf 1 x)) := by
  rw [← owns_whole, ← bigSep_two fun u => ownsTc c (xH u) fullShare (rowsOf u x)]
  exact equiv_iff.mp ⟨owns_rects (c : Thread nD τ) xM fullShare xRect (fun _ _ => rfl) xRect_disj (cover xRect_cov) x,
    owns_of_rects (c : Thread nD τ) xM fullShare xRect (fun _ _ => rfl) xRect_disj (cover xRect_cov) x⟩

/-! ## The result -/

theorem oRect_disj (d d' : Dev nD) (h : d ≠ d') : Disjoint (oRect d).set (oRect d').set := by
  refine Rect.unit_disjoint 0 ?_
  have := Fin.val_ne_of_ne h
  show 128 * d.val + 128 ≤ 128 * d'.val ∨ 128 * d'.val + 128 ≤ 128 * d.val
  omega

theorem oRect_cov (i : S2048x128.Idx) : ∃ d j, (oRect d).emb j = i := by
  have h0 : (i 0).val < 2048 := (i 0).isLt
  refine ⟨⟨(i 0).val / 128, by show _ < 16; omega⟩, (oRect _).exists_idx_of_mem (Rect.mem_set_unit.mpr fun a => ?_)⟩
  match a with
  | 0 => show 128 * ((i 0).val / 128) ≤ (i 0).val ∧ (i 0).val < 128 * ((i 0).val / 128) + 128; omega
  | 1 => exact ⟨Nat.zero_le _, by have := (i 1).isLt; show (i 1).val < 0 + _; rw [Nat.zero_add]; exact this⟩

theorem shift_inj : ∀ (c : Dev nD) (δ δ' : Fin 16), shift c δ.val = shift c δ'.val → δ = δ' := by decide +kernel

/-- The devices, counted along the ring from `c`. -/
def around (c : Dev nD) : Fin 16 ≃ Dev nD :=
  Equiv.ofBijective (fun δ => shift c δ.val) (Finite.injective_iff_bijective.mp fun δ δ' h => shift_inj c δ δ' h)

variable (X Wv) in
/-- All the columns of the result that device `c` computes. -/
def outV (c : Dev nD) : Vec F S2048x128 .f32 := fun i =>
  blkOf (X (⟨(i 0).val / 128, by have : (i 0).val < 2048 := (i 0).isLt; show _ < 16; omega⟩ : Dev nD)) (Wv c)
    (fun a => match a with | 0 => ⟨(i 0).val % 128, Nat.mod_lt _ (by decide)⟩ | 1 => ⟨(i 1).val, (i 1).isLt⟩)

theorem outV_block (c d : Dev nD) : (fun j => outV X Wv c ((oRect d).emb j)) = blkOf (X d) (Wv c) := by
  funext j
  have h0 : (j 0).val < 128 := (j 0).isLt
  have e0 : ((oRect d).emb j 0).val = 128 * d.val + (j 0).val := by
    show 128 * d.val + 1 * (j 0).val = _; omega
  have e1 : ((oRect d).emb j 1).val = (j 1).val := by
    show 0 + 1 * (j 1).val = _; omega
  unfold outV
  have hd : (⟨((oRect d).emb j 0).val / 128, by have : ((oRect d).emb j 0).val < 2048 := ((oRect d).emb j 0).isLt; show _ < 16; omega⟩ : Dev nD) = d :=
    Fin.ext (by show ((oRect d).emb j 0).val / 128 = d.val; rw [e0]; omega)
  have hj : ((fun a => match a with | 0 => ⟨((oRect d).emb j 0).val % 128, Nat.mod_lt _ (by decide)⟩ | 1 => ⟨((oRect d).emb j 1).val, ((oRect d).emb j 1).isLt⟩ : S128x128.Idx)) = j :=
    idx_ext fun a => match a with
      | 0 => by show ((oRect d).emb j 0).val % 128 = (j 0).val; rw [e0]; omega
      | 1 => e1
  rw [hd, hj]

/-- The result's buffer is its sixteen blocks, not yet written, -/
theorem out_cut (c : Dev nD) :
    (iprop(∃ f : Buf (Elt F) ((c : Thread nD τ).loc cc0_stg2_0), ((c : Thread nD τ).loc cc0_stg2_0) ↦{fullShare} f) : sProp 𝕄)
      ⊢ bigSep Finset.univ fun δ : Fin 16 => R X Wv c (.outp δ) := by
  have h := eq_of_both (cut_any (F := F) c oM oRect (fun _ _ => rfl) oRect_disj oRect_cov)
  rw [show (oM : Memref sig .tc .vmem S2048x128 .f32).view.set = Finset.univ from View.set_whole _, bigSep_univ_equiv (around c)] at h
  exact Entails.of_eq h

/-- and, all written, the whole result. -/
theorem out_join (c : Dev nD) :
    (bigSep Finset.univ fun δ : Fin 16 => R X Wv c (.outq δ)) ⊢ (((c : Thread nD τ).loc cc0_stg2_0) ↦{fullShare} outV X Wv c : sProp 𝕄) := by
  rw [← owns_whole]
  refine Entails.trans (Entails.of_eq ?_) (owns_of_rects (c : Thread nD τ) oM fullShare oRect (fun _ _ => rfl) oRect_disj (cover oRect_cov) (outV X Wv c))
  refine Eq.trans ?_ (bigSep_univ_equiv (around c) fun d => ownsTc c (oH d) fullShare fun j => outV X Wv c ((oRect d).emb j)).symm
  refine bigSep_congr fun δ _ => ?_
  exact (congrArg (ownsTc c (oH (shift c δ.val)) fullShare) (outV_block c (shift c δ.val))).symm

end Cert.Proof

end
-- ==== Proof.Fund.lean ====
/-
  What the launch deals: every device's cells and tokens, what each device owes and is owed, and from these and its memory
  the atoms it starts with; and what the atoms it ends with give back.
-/
module

public import proofs.«01_k».proof.Proof.Split

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

variable (X Wv)

/-! ## The cells of a device -/

/-- The barrier's cell, a departure's and an arrival's for each transfer, and four unused ones. -/
abbrev CellIx : Type := Unit ⊕ Xfer ⊕ Xfer ⊕ Fin 4

/-- The DMA semaphores no transfer uses. -/
def spareS (k : Fin 4) : DmaSem sig := ⟨if k.val < 2 then 13 + k.val else 33 + k.val, by show _ < 67; split <;> omega⟩
theorem sndOf_spareS : ∀ k, sndOf (spareS k) = none := by decide
theorem rcvOf_spareS : ∀ k, rcvOf (spareS k) = none := by decide
abbrev spareCell (c : Dev nD) (k : Fin 4) : GSem nD τ sig := ((c : Thread nD τ), .dma (spareS k))

def cellAt : CellIx → Fin 65
  | .inl _ => 64
  | .inr (.inl t) => Fin.ofNat 65 ((sndS t).val - 3)
  | .inr (.inr (.inl t)) => Fin.ofNat 65 ((rcvS t).val - 3)
  | .inr (.inr (.inr k)) => Fin.ofNat 65 ((spareS k).val - 3)

theorem cellAt_bij : Function.Bijective cellAt := by
  rw [Fintype.bijective_iff_injective_and_card]
  exact ⟨by decide +kernel, by decide +kernel⟩

theorem csem_cellAt_bar : ∀ u, csem (cellAt (.inl u)) = .reg barS := fun _ => rfl
theorem csem_cellAt_snd : ∀ t, csem (cellAt (.inr (.inl t))) = .dma (sndS t) := by decide
theorem csem_cellAt_rcv : ∀ t, csem (cellAt (.inr (.inr (.inl t)))) = .dma (rcvS t) := by decide
theorem csem_cellAt_spare : ∀ k, csem (cellAt (.inr (.inr (.inr k)))) = .dma (spareS k) := by decide

omit [FloatOps F] in
/-- Something for every cell of a device, kind by kind. -/
theorem cells_split (Φ : SemLoc sig → sProp 𝕄) : (bigSep Finset.univ fun k : Fin 65 => Φ (csem k))
    = iprop(Φ (.reg barS) ∗ (bigSep Finset.univ fun t => Φ (.dma (sndS t))) ∗ (bigSep Finset.univ fun t => Φ (.dma (rcvS t)))
        ∗ bigSep Finset.univ fun k => Φ (.dma (spareS k))) := by
  rw [bigSep_univ_equiv (Equiv.ofBijective cellAt cellAt_bij) fun k => Φ (csem k), bigSep_univ_sum, bigSep_univ_sum, bigSep_univ_sum]
  simp only [Equiv.ofBijective_apply, csem_cellAt_bar, csem_cellAt_snd, csem_cellAt_rcv, csem_cellAt_spare, Finset.univ_unique, bigSep_singleton]
  rfl

/-- The device's own semaphores: all but the pipeline's three and the barrier's. -/
def osem (k : Fin 64) : SemLoc sig := .dma ⟨k.val + 3, by show _ < 67; omega⟩

def ownAt : Xfer ⊕ Xfer ⊕ Fin 4 → Fin 64
  | .inl t => Fin.ofNat 64 ((sndS t).val - 3)
  | .inr (.inl t) => Fin.ofNat 64 ((rcvS t).val - 3)
  | .inr (.inr k) => Fin.ofNat 64 ((spareS k).val - 3)

theorem ownAt_bij : Function.Bijective ownAt := by
  rw [Fintype.bijective_iff_injective_and_card]
  exact ⟨by decide +kernel, by decide +kernel⟩

theorem osem_snd : ∀ t, osem (ownAt (.inl t)) = .dma (sndS t) := by decide
theorem osem_rcv : ∀ t, osem (ownAt (.inr (.inl t))) = .dma (rcvS t) := by decide
theorem osem_spare : ∀ k, osem (ownAt (.inr (.inr k))) = .dma (spareS k) := by decide

omit [FloatOps F] in
theorem own_split (Φ : SemLoc sig → sProp 𝕄) : (bigSep Finset.univ fun k : Fin 64 => Φ (osem k))
    = iprop((bigSep Finset.univ fun t => Φ (.dma (sndS t))) ∗ (bigSep Finset.univ fun t => Φ (.dma (rcvS t)))
        ∗ bigSep Finset.univ fun k => Φ (.dma (spareS k))) := by
  rw [bigSep_univ_equiv (Equiv.ofBijective ownAt ownAt_bij) fun k => Φ (osem k), bigSep_univ_sum, bigSep_univ_sum]
  simp only [Equiv.ofBijective_apply, osem_snd, osem_rcv, osem_spare]
  rfl

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun t => semVal (sndCell c t) 0) ∗ (bigSep Finset.univ fun t => semVal (rcvCell c t) 0)
        ∗ bigSep Finset.univ fun k => semVal (spareCell c k) 0) := by
  unfold Pipeline.ownSems0
  exact own_split fun sm => semVal ((c : Thread nD τ), sm) 0

omit [FloatOps F] in
/-- The barrier's semaphore is the one that outlives the kernel. -/
theorem barSem_eq (c : Dev nD) : (unscopedSems0 c : sProp 𝕄) = semVal (barCell c) 0 := by
  unfold unscopedSems0; rw [bigSep_eq_bigSepL_of_eq [SemLoc.reg barS] (by decide) (by decide)]; rfl

/-! ## Dealing the cells and the tokens -/

theorem csem_inj : Function.Injective csem := by decide +kernel

theorem kcell_inj : Function.Injective (kcell : Dev nD × Fin 65 → GSem nD τ sig) := by
  rintro ⟨c, k⟩ ⟨c', k'⟩ h
  have h₁ : c = c' := congrArg (fun g : GSem nD τ sig => g.1.1) h
  have h₂ : k = k' := csem_inj (congrArg Prod.snd h)
  rw [h₁, h₂]

/-- All the cells of all the devices. -/
def allCells : Finset (GSem nD τ sig) := Finset.univ.map ⟨kcell, kcell_inj⟩

/-- The tokens of a device's cells: three of the barrier's, one of each departure's and of each arrival's. -/
abbrev TokIx : Type := Fin 3 ⊕ Xfer ⊕ Xfer

def tokAt (ci : Dev nD × TokIx) : GSem nD τ sig × ℕ × Fin 3 :=
  match ci.2 with
  | .inl b => (barCell ci.1, 0, b)
  | .inr (.inl t) => (sndCell ci.1 t, 0, 0)
  | .inr (.inr t) => (rcvCell ci.1 t, 0, 0)

/-- Which token of a device it is. -/
def tokIx (x : GSem nD τ sig × ℕ × Fin 3) : Option TokIx :=
  match x.1.2 with
  | .reg _ => some (.inl x.2.2)
  | .dma q => match sndOf q with
    | some t => some (.inr (.inl t))
    | none => (rcvOf q).map fun t => .inr (.inr t)

theorem tokIx_tokAt (ci : Dev nD × TokIx) : tokIx (tokAt ci) = some ci.2 := by
  rcases ci with ⟨c, b | t | t⟩
  · rfl
  · show (match sndOf (sndS t) with | some t => some (Sum.inr (.inl t) : TokIx) | none => _) = _
    rw [sndOf_sndS]
  · show (match sndOf (rcvS t) with | some t => some (Sum.inr (.inl t) : TokIx) | none => (rcvOf (rcvS t)).map fun t => (Sum.inr (.inr t) : TokIx)) = _
    rw [sndOf_rcvS, rcvOf_rcvS]; rfl

theorem tokAt_dev (ci : Dev nD × TokIx) : (tokAt ci).1.1.1 = ci.1 := by
  rcases ci with ⟨c, b | t | t⟩ <;> rfl

theorem tokAt_inj : Function.Injective tokAt := fun ci ci' h =>
  Prod.ext (by rw [← tokAt_dev, h, tokAt_dev]) (Option.some.inj (by rw [← tokIx_tokAt, h, tokIx_tokAt]))

def allToks : Finset (GSem nD τ sig × ℕ × Fin 3) := Finset.univ.map ⟨tokAt, tokAt_inj⟩

/-- What the run starts from: the pipeline's cells and tokens, and the exchange's. -/
def u₀ : UU :=
  (initOf (Pipeline.cells cfgs cellOf_inj) (Pipeline.launchToks cfgs cellOf_inj), initOf allCells allToks)

/-- The tokens of a device's own cells, -/
def toks (c : Dev nD) : sProp 𝕄 :=
  iprop((bigSep Finset.univ fun b : Fin 3 => dutyTok ER (barCell c) 0 b) ∗ (bigSep Finset.univ fun t : Xfer => dutyTok ER (sndCell c t) 0 0)
    ∗ bigSep Finset.univ fun t : Xfer => dutyTok ER (rcvCell c t) 0 0)

/-- and those of the duties it pays. -/
def payToks (c : Dev nD) : sProp 𝕄 :=
  iprop((bigSep Finset.univ fun b : Fin 3 => dutyTok ER (barCell (nb c b)) 0 b) ∗ (bigSep Finset.univ fun t : Xfer => dutyTok ER (sndCell c t) 0 0)
    ∗ bigSep Finset.univ fun t : Xfer => dutyTok ER (rcvCell (Net.dst c t) t) 0 0)

/-- What a device is dealt at first. -/
def G (c : Dev nD) : sProp 𝕄 :=
  iprop((bigSep Finset.univ fun k : Fin 65 => roundState ER (Rd (F := F) X) (kcell (c, k)) 0)
    ∗ ((bigSep Finset.univ fun k : Fin 65 => atPos ER (kcell (c, k)) 0 ∅ 0) ∗ bigSep Finset.univ fun k : Fin 65 => reached ER (kcell (c, k)) 0) ∗ toks c)

omit [FloatOps F] in
theorem fund : BI.own (ER (initOf allCells allToks)) ⊢ (|==> bigSep Finset.univ (G X) : sProp 𝕄) := by
  have hC (Φ : GSem nD τ sig → sProp 𝕄) : bigSep allCells Φ = bigSep Finset.univ fun c : Dev nD => bigSep Finset.univ fun k : Fin 65 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro H
  imod (Rounds.fund ER (Rd X) allCells allToks) $$ H with ⟨Hs, Hr, Ha, Ht⟩
  imodintro
  ihave Hs := (Entails.of_eq (hC fun g => roundState ER (Rd X) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  unfold G
  simp only [bigSep_sep']
  isplitl [Hs]; · iexact Hs
  isplitl [Ha Hr]
  · isplitl [Ha] <;> iassumption
  iexact Ht

omit [FloatOps F] in
/-- A family dealt around by a permutation for each index. -/
theorem turn {I : Type} [Fintype I] [DecidableEq I] (e : Dev nD → I → Dev nD) (he : ∀ i c c', e c i = e c' i → c = c') (Φ : Dev nD → I → sProp 𝕄) :
    (bigSep Finset.univ fun c => bigSep Finset.univ fun i => Φ c i) = bigSep Finset.univ fun c => bigSep Finset.univ fun i => Φ (e c i) i := by
  rw [BI.bigSep_univ_comm, BI.bigSep_univ_comm fun c i => Φ (e c i) i]
  refine bigSep_congr fun i _ => ?_
  exact bigSep_univ_equiv (Equiv.ofBijective (fun c => e c i) (Finite.injective_iff_bijective.mp fun c c' h => he i c c' h)) fun c => Φ c i

theorem nb_inj : ∀ b c c', nb c b = nb c' b → c = c' := by decide +kernel

omit [FloatOps F] in
theorem toks_around : (bigSep Finset.univ fun c : Dev nD => (toks c : sProp 𝕄)) = bigSep Finset.univ fun c : Dev nD => payToks c := by
  unfold toks payToks
  simp only [bigSep_sep']
  rw [turn nb nb_inj fun c b => (dutyTok ER (barCell c) 0 b : sProp 𝕄), turn Net.dst dst_inj fun c t => (dutyTok ER (rcvCell c t) 0 0 : sProp 𝕄)]

/-- What everyone knows of the cells. -/
def KnowCells : sProp 𝕄 :=
  bigSep (Finset.univ : Finset (Dev nD × Fin 65)) fun ck => iprop((∃ κ, cellInv ER (Rd (F := F) X) κ (kcell ck)) ∗ reached ER (kcell ck) 0)

instance KnowCells_persistent : BI.Persistent (KnowCells (F := F) X) := by
  unfold KnowCells; infer_instance

/-- What is a device's own: its positions, and the tokens it pays with. -/
def mine (c : Dev nD) : sProp 𝕄 := iprop((bigSep Finset.univ fun k : Fin 65 => atPos ER (kcell (c, k)) 0 ∅ 0) ∗ payToks c)

/-- What a device is dealt in the end. -/
def G' (c : Dev nD) : sProp 𝕄 := iprop(KnowCells X ∗ mine c)

omit [FloatOps F] in
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [ownSems_eq, barSem_eq, cells_split fun sm => semVal ((c : Thread nD τ), sm) 0]
  iintro ⟨H, HB⟩
  isplitl [HB]; · iexact HB
  iexact H

omit [FloatOps F] in
/-- A device's semaphores become its cells. -/
theorem dev_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Fin 65 => iprop((∃ κ : ℕ, cellInv ER (Rd X) κ (kcell (c, k))) ∗ reached ER (kcell (c, k)) 0))
          ∗ (bigSep Finset.univ fun k : Fin 65 => atPos ER (kcell (c, k)) 0 ∅ 0) ∗ toks c) := by
  unfold G
  iintro ⟨Ho, Hu, Hs, ⟨Ha, Hr⟩, Ht⟩
  ihave Hv := (sems_cells (F := F) c) $$ [Ho Hu]
  · isplitl [Ho] <;> iassumption
  imod (show iprop((bigSep Finset.univ fun k : Fin 65 => semVal (kcell (c, k)) 0) ∗ bigSep Finset.univ fun k : Fin 65 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hs] with Hi
  · isplitl [Hv] <;> iassumption
  imodintro
  rw [bigSep_sep']
  isplitl [Hi Hr]
  · isplitl [Hi] <;> iassumption
  isplitl [Ha] <;> iassumption

omit [FloatOps F] in
/-- What all know goes to each. -/
theorem to_each {P : sProp 𝕄} [BI.Persistent P] (Φ : Dev nD → sProp 𝕄) :
    iprop(P ∗ bigSep Finset.univ Φ) ⊢ bigSep Finset.univ fun c => iprop(P ∗ Φ c) := by
  rw [bigSep_sep']
  exact sep_mono_left (BI.bigSep_of_persistent Finset.univ P)

omit [FloatOps F] in
theorem deal :
    (bigSep Finset.univ fun c : Dev nD => iprop((bigSep Finset.univ fun k : Fin 65 => iprop((∃ κ : ℕ, cellInv ER (Rd (F := F) X) κ (kcell (c, k))) ∗ reached ER (kcell (c, k)) 0))
          ∗ (bigSep Finset.univ fun k : Fin 65 => atPos ER (kcell (c, k)) 0 ∅ 0) ∗ toks c) : sProp 𝕄)
      ⊢ bigSep Finset.univ (G' X) := by
  rw [bigSep_sep', bigSep_sep', toks_around, ← bigSep_sep']
  refine Entails.trans (Entails.of_eq ?_) (to_each (P := KnowCells X) mine)
  unfold KnowCells
  rw [bigSep_univ_prod]
  rfl

omit [FloatOps F] in
/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => dev_alloc X c).trans (bigSep_fupd _ _)).trans (BI.fupd_mono (deal X))

/-! ## What is owed -/

omit [FloatOps F] in
theorem OweL_append (c : Dev nD) : ∀ l l' : List Atom, OweL c (l ++ l') = OweL c l + OweL c l'
  | [], l' => (zero_add _).symm
  | a :: l, l' => by
    show owed c a + OweL c (l ++ l') = owed c a + OweL c l + OweL c l'
    rw [OweL_append c l l', add_assoc]

omit [FloatOps F] in
theorem OweL_map (c : Dev nD) {n : ℕ} (mk : Fin n → Atom) : OweL c ((List.finRange n).map mk) = ∑ i, owed c (mk i) := by
  have h : ∀ l : List (Fin n), l.Nodup → OweL c (l.map mk) = ∑ i ∈ l.toFinset, owed c (mk i) := by
    intro l hl
    induction l with
    | nil => rfl
    | cons i l ih =>
      rw [List.toFinset_cons, Finset.sum_insert (by rw [List.mem_toFinset]; exact (List.nodup_cons.mp hl).1), ← ih (List.nodup_cons.mp hl).2]; rfl
  rw [h _ (List.nodup_finRange n), List.toFinset_finRange]

/-- What a device owes at the start. -/
def O₀ (c : Dev nD) : CellTallies nD τ sig Unit := Owe c (mask Net.start)

omit [FloatOps F] in
/-- A unit to every neighbour's barrier, and the credit of every transfer to its receiver. -/
theorem O₀_eq (c : Dev nD) :
    O₀ c = ∑ b, tallyAt (barCell (nb c b)) () 1 + ∑ t, tallyAt (rcvCell (Net.dst c t) t) () N := by
  unfold O₀
  rw [Owe_mask c _ nodup_start]
  unfold Net.start
  rw [OweL_append, OweL_append, OweL_append, OweL_append, OweL_map, OweL_map, OweL_map, OweL_map]
  simp only [OweL, owed, add_zero, zero_add, Finset.sum_const_zero, Fin.sum_univ_three, add_assoc]

omit [FloatOps F] in
theorem owed_bar (d c : Dev nD) : O₀ d (barCell c) () = ∑ b, if nb d b = c then 1 else 0 := by
  rw [O₀_eq, Pi.add_apply, Finsupp.add_apply, Finset.sum_apply, Finset.sum_apply, Finsupp.finset_sum_apply, Finsupp.finset_sum_apply,
    Finset.sum_eq_zero (s := Finset.univ) (f := fun t => (tallyAt (rcvCell (Net.dst d t) t) () N : CellTallies nD τ sig Unit) (barCell c) ()) fun t _ => by
      rw [tallyAt_apply]; exact if_neg fun h => by cases congrArg Prod.snd h.1]
  rw [add_zero]
  refine Finset.sum_congr rfl fun b _ => ?_
  rw [tallyAt_apply]
  by_cases h : nb d b = c
  · rw [if_pos h, if_pos ⟨by rw [h], rfl⟩]
  · rw [if_neg h, if_neg fun h' => h (congrArg (fun g : GSem nD τ sig => g.1.1) h'.1).symm]

theorem rcvS_inj {t t' : Xfer} (h : rcvS t = rcvS t') : t = t' :=
  Option.some.inj (by rw [← rcvOf_rcvS, h, rcvOf_rcvS])

omit [FloatOps F] in
theorem owed_rcv (d c : Dev nD) (t : Xfer) : O₀ d (rcvCell c t) () = if Net.dst d t = c then N else 0 := by
  rw [O₀_eq, Pi.add_apply, Finsupp.add_apply, Finset.sum_apply, Finset.sum_apply, Finsupp.finset_sum_apply, Finsupp.finset_sum_apply,
    Finset.sum_eq_zero (s := Finset.univ) (f := fun b => (tallyAt (barCell (nb d b)) () 1 : CellTallies nD τ sig Unit) (rcvCell c t) ()) fun b _ => by
      rw [tallyAt_apply]; exact if_neg fun h => by cases congrArg Prod.snd h.1]
  rw [zero_add, Finset.sum_eq_single t]
  · rw [tallyAt_apply]
    by_cases h : Net.dst d t = c
    · rw [if_pos h, if_pos ⟨by rw [h], rfl⟩]
    · rw [if_neg h, if_neg fun h' => h (congrArg (fun g : GSem nD τ sig => g.1.1) h'.1).symm]
  · intro t' _ ht
    rw [tallyAt_apply]
    exact if_neg fun h => ht (rcvS_inj (SemLoc.dma.inj (congrArg Prod.snd h.1))).symm
  · intro h; exact absurd (Finset.mem_univ t) h

theorem three_signals : ∀ c : Dev nD, (∑ d : Dev nD, ∑ b, if nb d b = c then 1 else 0) = 3 := by decide +kernel

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, three_signals]

omit [FloatOps F] in
theorem launch_rcv (c : Dev nD) (t : Xfer) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => owed_rcv d c t]
  have e := Equiv.sum_comp (Equiv.ofBijective (fun d => Net.dst d t) (Finite.injective_iff_bijective.mp fun d d' h => dst_inj t d d' h)) fun d => if d = c then N else 0
  rw [Finset.sum_ite_eq' Finset.univ c fun _ => N, if_pos (Finset.mem_univ c)] at e
  exact e

/-- The cells a device waits at for others. -/
def waitAt : Unit ⊕ Xfer → SemLoc sig
  | .inl _ => .reg barS
  | .inr t => .dma (rcvS t)

theorem waitAt_inj : Function.Injective waitAt := by
  rintro (u | t) (u' | t') h
  · rfl
  · cases h
  · cases h
  · rw [rcvS_inj (SemLoc.dma.inj h)]

omit [FloatOps F] in
/-- What a device is owed: the barrier's three units, and every arrival's credit. -/
theorem creds (c : Dev nD) :
    (Pipeline.launchCred O₀ c : sProp 𝕄) ⊢ iprop(cred (tallyAt (barCell c) () 3) ∗ bigSep Finset.univ fun t : Xfer => cred (tallyAt (rcvCell c t) () N)) := by
  unfold Pipeline.launchCred
  have h := bigSep_subset (M := 𝕄) (Finset.subset_univ (Finset.univ.map ⟨waitAt, waitAt_inj⟩))
    (Φ := fun sm => cred (tallyOn ((c : Thread nD τ), sm) (launchCredit (Pipeline.owing O₀) 0 ((c : Thread nD τ), sm))))
  rw [bigSep_map, bigSep_univ_sum, Finset.univ_unique (α := Unit), bigSep_singleton] at h
  refine h.trans ?_
  show iprop(cred (tallyOn (barCell c) (launchCredit (Pipeline.owing O₀) 0 (barCell c)))
    ∗ bigSep Finset.univ fun t : Xfer => cred (tallyOn (rcvCell c t) (launchCredit (Pipeline.owing O₀) 0 (rcvCell c t)))) ⊢ _
  simp only [launch_bar, launch_rcv]
  exact .rfl

/-! ## The atoms at the start and at the end -/

/-- What no move touches: the positions of the unused cells, and the unused pieces. -/
def left (c : Dev nD) : sProp 𝕄 :=
  iprop((bigSep Finset.univ fun k : Fin 4 => atPos ER (spareCell c k) 0 ∅ 0) ∗ bigSep Finset.univ fun k : Fin 4 => hold c (pieceOf (.inr k)))

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- What the launch deals a device, and its memory, are the atoms it starts with. -/
theorem hold_start (c : Dev nD) :
    iprop(mine c ∗ cred (tallyAt (barCell c) () 3) ∗ (bigSep Finset.univ fun t : Xfer => cred (tallyAt (rcvCell c t) () N))
        ∗ (((c : Thread nD τ).loc cc0_stg0_0) ↦{fullShare} X c) ∗ (((c : Thread nD τ).loc cc0_stg1_0) ↦{fullShare} Wv c)
        ∗ (∃ f : Buf (Elt F) ((c : Thread nD τ).loc cc0_stg2_0), ((c : Thread nD τ).loc cc0_stg2_0) ↦{fullShare} f) ∗ arrays c)
      ⊢ iprop(Hold X Wv c (mask Net.start) ∗ left c) := by
  rw [Hold_mask X Wv c _ nodup_start, arrays_pieces, x_halves]
  unfold Net.start mine payToks left
  rw [HoldL_append, HoldL_append, HoldL_append, HoldL_append, HoldL_map, HoldL_map, HoldL_map, HoldL_map,
    cells_split fun sm => (atPos ER ((c : Thread nD τ), sm) 0 ∅ 0 : sProp 𝕄), bigSep_three fun b : Fin 3 => (dutyTok ER (barCell (nb c b)) 0 b : sProp 𝕄)]
  have hOwn : (bigSep Finset.univ fun t => R X Wv c (.own t)) = bigSep Finset.univ fun t : Xfer => land (c, t) :=
    bigSep_congr fun t _ => drop_emp _
  have hTok : (bigSep Finset.univ fun t => R X Wv c (.tok t)) = iprop((bigSep Finset.univ fun t : Xfer => dutyTok ER (sndCell c t) 0 0)
      ∗ (bigSep Finset.univ fun t : Xfer => dutyTok ER (rcvCell (Net.dst c t) t) 0 0) ∗ bigSep Finset.univ fun t : Xfer => atPos ER (sndCell c t) 0 ∅ 0) := by
    rw [← bigSep_sep', ← bigSep_sep']; rfl
  have hPos : (bigSep Finset.univ fun t => R X Wv c (.rpos t)) = iprop((bigSep Finset.univ fun t : Xfer => atPos ER (rcvCell c t) 0 ∅ 0)
      ∗ bigSep Finset.univ fun t : Xfer => cred (tallyAt (rcvCell c t) () N)) := by
    rw [← bigSep_sep']; rfl
  have hL : HoldL X Wv c [.sig 0, .sig 1, .sig 2, .bpos, .wv, .xk 0, .xk 1, .xb 0, .xb 1, .xc 0 0, .xc 0 1, .xc 1 0, .xc 1 1]
      = iprop(dutyTok ER (barCell (nb c 0)) 0 0 ∗ dutyTok ER (barCell (nb c 1)) 0 1 ∗ dutyTok ER (barCell (nb c 2)) 0 2
        ∗ (atPos ER (barCell c) 0 ∅ 0 ∗ cred (tallyAt (barCell c) () 3))
        ∗ ownsTc c wM fullShare (Wv c) ∗ ownsTc c (xH 0) qk (rowsOf 0 (X c)) ∗ ownsTc c (xH 1) qk (rowsOf 1 (X c))
        ∗ ownsTc c (xH 0) qb (rowsOf 0 (X c)) ∗ ownsTc c (xH 1) qb (rowsOf 1 (X c)) ∗ ownsTc c (xH 0) (qc 0) (rowsOf 0 (X c)) ∗ ownsTc c (xH 1) (qc 0) (rowsOf 1 (X c))
        ∗ ownsTc c (xH 0) (qc 1) (rowsOf 0 (X c)) ∗ ownsTc c (xH 1) (qc 1) (rowsOf 1 (X c)) ∗ emp) := rfl
  rw [hOwn, hTok, hPos, hL]
  iintro ⟨⟨⟨HaB, HaS, HaR, HaU⟩, ⟨Ht0, Ht1, Ht2⟩, HtS, HtR⟩, HcB, HcR, ⟨Hx0, Hx1⟩, Hw, Ho, Hl, Hu⟩
  ihave Hx0 := (owns_fourths c (xH 0) (rowsOf 0 (X c))).1 $$ Hx0
  ihave Hx1 := (owns_fourths c (xH 1) (rowsOf 1 (X c))).1 $$ Hx1
  icases Hx0 with ⟨Hk0, Hb0, Hc00, Hc10⟩
  icases Hx1 with ⟨Hk1, Hb1, Hc01, Hc11⟩
  ihave Ho := (out_cut c) $$ Ho
  ihave Hw := (Entails.of_eq (owns_whole (c : Thread nD τ) cc0_stg1_0 fullShare (Wv c)).symm) $$ Hw
  isplitr [HaU Hu]
  · isplitr [HaR HcR]
    · isplitr [HtS HtR HaS]
      · isplitr [Hl]
        · isplitr [Ho]
          · isplitl [Ht0]; · iexact Ht0
            isplitl [Ht1]; · iexact Ht1
            isplitl [Ht2]; · iexact Ht2
            isplitl [HaB HcB]
            · isplitl [HaB] <;> iassumption
            isplitl [Hw]; · iexact Hw
            isplitl [Hk0]; · iexact Hk0
            isplitl [Hk1]; · iexact Hk1
            isplitl [Hb0]; · iexact Hb0
            isplitl [Hb1]; · iexact Hb1
            isplitl [Hc00]; · iexact Hc00
            isplitl [Hc01]; · iexact Hc01
            isplitl [Hc10]; · iexact Hc10
            isplitl [Hc11]; · iexact Hc11
            iempintro
          · iexact Ho
        · iexact Hl
      · isplitl [HtS]; · iexact HtS
        isplitl [HtR]; · iexact HtR
        iexact HaS
    · isplitl [HaR] <;> iassumption
  · isplitl [HaU] <;> iassumption

/-- The unused cells close as they are. -/
theorem spare_close (c : Dev nD) :
    iprop(Know X ∗ bigSep Finset.univ fun k : Fin 4 => atPos ER (spareCell c k) 0 ∅ 0)
      ⊢ (|={Set.univ}=> bigSep Finset.univ fun k : Fin 4 => semVal (spareCell c k) 0 : sProp 𝕄) := by
  have h (k : Fin 4) : iprop(Know (F := F) X ∗ atPos ER (spareCell c k) 0 ∅ 0) ⊢ (|={Set.univ}=> semVal (spareCell c k) 0 : sProp 𝕄) := by
    iintro ⟨HK, Ha⟩
    ihave Hi := (Know_cell X c (.dma (spareS k)) ⟨_, csem_cellAt_spare k⟩) $$ HK
    icases Hi with ⟨⟨%κ, Hi⟩, -⟩
    iapply (Rounds.cell_close ER (Rd X) (Set.mem_univ κ) (fun h => h) (R := 0) fun r _ => duties_none X c (spareS k) (sndOf_spareS k) (rcvOf_spareS k) r)
    isplitl [Hi] <;> iassumption
  refine BIBase.Entails.trans ?_ ((bigSep_mono fun k _ => h k).trans (bigSep_fupd _ _))
  rw [bigSep_sep']
  exact sep_mono_left (BI.bigSep_of_persistent Finset.univ (Know X))

theorem thirds_land (c : Dev nD) (t : Xfer) {Y : Vec F S64x2048 .f32} :
    iprop((ownsTc c (dstM t) qk Y ∗ ownsTc c (dstM t) qa Y) ∗ ownsTc c (dstM t) qb Y) ⊢ (land (c, t) : sProp 𝕄) := by
  unfold land
  iintro ⟨⟨H₁, H₂⟩, H₃⟩
  iexists Y
  iapply (owns_thirds c (dstM t) Y).2
  isplitl [H₁]; · iexact H₁
  isplitl [H₂] <;> iassumption

/-- The atoms a device ends with are its semaphores, closed, and its memory with the result in it. -/
theorem hold_finish (c : Dev nD) :
    iprop(Know X ∗ Hold X Wv c (mask Net.finish) ∗ left c)
      ⊢ |={Set.univ}=> iprop((semVal (barCell c) 0 ∗ (bigSep Finset.univ fun t => semVal (sndCell c t) 0) ∗ (bigSep Finset.univ fun t => semVal (rcvCell c t) 0)
            ∗ bigSep Finset.univ fun k => semVal (spareCell c k) 0)
          ∗ (((c : Thread nD τ).loc cc0_stg0_0) ↦{fullShare} X c) ∗ (((c : Thread nD τ).loc cc0_stg1_0) ↦{fullShare} Wv c)
          ∗ (((c : Thread nD τ).loc cc0_stg2_0) ↦{fullShare} outV X Wv c) ∗ arrays c) := by
  rw [Hold_mask X Wv c _ nodup_finish, arrays_pieces, x_halves]
  unfold Net.finish left
  rw [HoldL_append, HoldL_append, HoldL_append, HoldL_append, HoldL_append, HoldL_append, HoldL_map, HoldL_map, HoldL_map, HoldL_map, HoldL_map, HoldL_map]
  have hOwn : iprop(((bigSep Finset.univ fun t => R X Wv c (.keep t)) ∗ (bigSep Finset.univ fun t => R X Wv c (.pa t))) ∗ bigSep Finset.univ fun t => R X Wv c (.pb t))
      ⊢ bigSep Finset.univ fun t : Xfer => land (c, t) := by
    rw [← bigSep_sep', ← bigSep_sep']
    exact bigSep_mono fun t _ => thirds_land c t
  have hL : HoldL X Wv c [.bdone, .wv, .xk 0, .xk 1, .xb 0, .xb 1, .xc 0 0, .xc 0 1, .xc 1 0, .xc 1 1]
      = iprop(semVal (barCell c) 0 ∗ ownsTc c wM fullShare (Wv c) ∗ ownsTc c (xH 0) qk (rowsOf 0 (X c)) ∗ ownsTc c (xH 1) qk (rowsOf 1 (X c))
        ∗ ownsTc c (xH 0) qb (rowsOf 0 (X c)) ∗ ownsTc c (xH 1) qb (rowsOf 1 (X c)) ∗ ownsTc c (xH 0) (qc 0) (rowsOf 0 (X c)) ∗ ownsTc c (xH 1) (qc 0) (rowsOf 1 (X c))
        ∗ ownsTc c (xH 0) (qc 1) (rowsOf 0 (X c)) ∗ ownsTc c (xH 1) (qc 1) (rowsOf 1 (X c)) ∗ emp) := rfl
  have hS : (bigSep Finset.univ fun t => R X Wv c (.sdone t)) = bigSep Finset.univ fun t : Xfer => semVal (sndCell c t) 0 := rfl
  have hR : (bigSep Finset.univ fun t => R X Wv c (.rdone t)) = bigSep Finset.univ fun t : Xfer => semVal (rcvCell c t) 0 := rfl
  rw [hL, hS, hR]
  iintro ⟨HK, ⟨⟨⟨⟨⟨⟨⟨HB, Hw, Hk0, Hk1, Hb0, Hb1, Hc00, Hc01, Hc10, Hc11, -⟩, Ho⟩, HsS⟩, HsR⟩, H₁⟩, H₂⟩, H₃⟩, HaU, Hu⟩
  imod (spare_close X c) $$ [HK HaU] with HsU
  · isplitl [HK] <;> iassumption
  imodintro
  isplitl [HB HsS HsR HsU]
  · isplitl [HB]; · iexact HB
    isplitl [HsS]; · iexact HsS
    isplitl [HsR] <;> iassumption
  isplitl [Hk0 Hk1 Hb0 Hb1 Hc00 Hc01 Hc10 Hc11]
  · isplitl [Hk0 Hb0 Hc00 Hc10]
    · iapply (owns_fourths c (xH 0) (rowsOf 0 (X c))).2
      isplitl [Hk0]; · iexact Hk0
      isplitl [Hb0]; · iexact Hb0
      isplitl [Hc00] <;> iassumption
    · iapply (owns_fourths c (xH 1) (rowsOf 1 (X c))).2
      isplitl [Hk1]; · iexact Hk1
      isplitl [Hb1]; · iexact Hb1
      isplitl [Hc01] <;> iassumption
  isplitl [Hw]
  · iapply (Entails.of_eq (owns_whole (c : Thread nD τ) cc0_stg1_0 fullShare (Wv c)))
    iexact Hw
  isplitl [Ho]
  · iapply (out_join c); iexact Ho
  isplitl [H₁ H₂ H₃]
  · iapply hOwn
    isplitl [H₁ H₂]
    · isplitl [H₁] <;> iassumption
    · iexact H₃
  · iexact Hu

end Cert.Proof

end
-- ==== Proof.Words.lean ====
/-
  What the values a part of the program computes mean on a device: the neighbours, the receivers, the conditions and the places
  of the blocks, each from the device's number.
-/
module

public import proofs.«01_k».proof.Proof.Access

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

/-! ## From printed values to the net's -/

/-- A part of the body, at the buffers and the semaphores of the launch. -/
abbrev on {α : Type 1} (p : (arg0 : Memref sig .tc .vmem S128x2048 .f32) → arg0.IsWhole → (arg1 : Memref sig .tc .vmem S2048x128 .f32) → arg1.IsWhole
    → (arg2 : Memref sig .tc .vmem S2048x128 .f32) → arg2.IsWhole → (arg3 : Memref sig .tc .vmem S6x128x2048 .f32) → arg3.IsWhole
    → (arg4 : Memref sig .tc .vmem S6x128x2048 .f32) → arg4.IsWhole → (arg5 : Memref sig .tc .vmem S5x128x2048 .f32) → arg5.IsWhole
    → DmaSems sig S5x2 → DmaSems sig S6x2 → DmaSems sig S5x2 → DmaSems sig S6x2 → DmaSems sig S5x2 → DmaSems sig S5x2 → α) : α :=
  p xM (Memref.isWhole_whole _) wM (Memref.isWhole_whole _) oM (Memref.isWhole_whole _) cwM (Memref.isWhole_whole _) ccwM (Memref.isWhole_whole _)
    chM (Memref.isWhole_whole _) cc0_scratch3 cc0_scratch4 cc0_scratch5 cc0_scratch6 cc0_scratch7 cc0_scratch8

theorem at_nb {f : Dev nD → ℕ} {b : Fin 3} (c : Dev nD) {h : f c < nD} (hf : ∀ c, f c = (nb c b).val) : (⟨f c, h⟩ : Dev nD) = nb c b := Fin.ext (hf c)
theorem at_dst {f : Dev nD → ℕ} {t : Xfer} (c : Dev nD) {h : f c < nD} (hf : ∀ c, f c = (Net.dst c t).val) : (⟨f c, h⟩ : Dev nD) = Net.dst c t :=
  Fin.ext (hf c)
theorem at_dst_if (k : Dev nD → BitVec 1) {f : Dev nD → ℕ} {t : Xfer} {c : Dev nD} {h : f c < nD} (hk : k c = 1#1)
    (hf : ∀ c, k c = 1#1 → f c = (Net.dst c t).val) : (⟨f c, h⟩ : Dev nD) = Net.dst c t := Fin.ext (hf c hk)
theorem at_cond (k : Dev nD → BitVec 1) {f g : ℕ} {c : Dev nD} (h : ∀ c, k c = 1#1 ↔ fl c = f ∨ fl c = g) : k c = 1#1 ↔ fl c = f ∨ fl c = g := h c
theorem at_off (f : Dev nD → Fin 2 → ℕ) {c : Dev nD} {o : Option Xfer} (h : ∀ c, f c 0 = 128 * (shift c (outOff (fl c) o).val).val ∧ f c 1 = 0) :
    f c = ![128 * (shift c (outOff (fl c) o).val).val, 0] := funext fun a => match a with | 0 => (h c).1 | 1 => (h c).2

theorem srcM_of {f g k : ℕ} {t : Xfer} {m : Memref sig .tc .vmem S64x2048 .f32} (e : k = f ∨ k = g) (h₁ : m = srcM f t) (h₂ : m = srcM g t) : m = srcM k t := by
  rcases e with rfl | rfl <;> assumption

theorem N_own (u : Fin 2) : (xH u).view.dmaCredit = N := by revert u; decide +kernel

/-- A slab's rows are the rows it holds. -/
theorem cast_slab (x : Vec F S128x2048 .f32) : shapeCast S128x2048 (slab x) shapeCasts_S1x128x2048_S128x2048 = x := by
  funext j
  show slab x (Shape.reshapeEquiv _ j) = x j
  rw [show Shape.reshapeEquiv shapeCasts_S1x128x2048_S128x2048 j = Fin.cons ⟨0, Nat.one_pos⟩ j from
    Shape.reshapeEquiv_cons_one (n := 2) (d := ![128, 2048]) _ j]
  rfl

theorem cast_self (x : Vec F S128x2048 .f32) : shapeCast S128x2048 x shapeCasts_S128x2048_S128x2048 = x := by
  funext j
  show x (Shape.reshapeEquiv _ j) = x j
  rw [Shape.reshapeEquiv_self]

/-- The product of a slab with the own block is the product of its rows. -/
theorem pay_of {x : Vec F S128x2048 .f32} {y : Vec F S2048x128 .f32} {v : Vec F S1x128x2048 .f32} {w : Vec F S2048x128 .f32} (hv : v = slab x) (hw : w = y) :
    k0_pay2 v w = blkOf x y := by
  subst hv hw
  unfold k0_pay2 blkOf k0_pay1
  rw [cast_slab, cast_self]

theorem own_of {c : Dev nD} {v : Vec F S128x2048 .f32} {w : Vec F S2048x128 .f32} (hv : v = X c) (hw : w = Wv c) :
    k0_pay1 v w = blkOf (X (shift c (outOff (fl c) none).val)) (Wv c) := by
  subst hv hw
  rw [show shift c (outOff (fl c) none).val = c from (show ∀ c : Dev nD, shift c 0 = c by decide +kernel) c]

theorem stored {c : Dev nD} {t : Xfer} {v : Vec F S128x128 .f32} (h : v = blkOf (X (org c t)) (Wv c)) :
    v = blkOf (X (shift c (outOff (fl c) (some t)).val)) (Wv c) := by
  rw [shift_outOff]; exact h

end Cert.Proof

end
-- ==== Proof.PartsA.lean ====
/-
  The parts of the program, the opening: each plays its moves of the net.
-/
module

public import proofs.«01_k».proof.Proof.Words

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

theorem part16 {c : Dev nD} {v99 v147 v351 v400 v445 : BitVec 32} {v352 v446 : BitVec 1} :
    Plays X Wv c (on (k0_part16 (F := F)) c v99 v147 v351 v352 v400 v445 v446) ops16 (fun _ => True) := by
  rw [k0_part16_eq_skeleton]; unfold k0_part16_skel
  exact .cons (.signal (at_nb c (by decide +kernel))) fun _ _ =>
    .cons (.signal (at_nb c (by decide +kernel))) fun _ _ =>
    .cons (.signal (at_nb c (by decide +kernel))) fun _ _ =>
    .cons .bar fun _ _ =>
    .cons (.snd rfl rfl rfl rfl (at_dst c (by decide +kernel))) fun _ _ =>
    .ret trivial

theorem part17 {c : Dev nD} {v51 v99 v147 v351 : BitVec 32} :
    Plays X Wv c (on (k0_part17 (F := F)) c v51 v99 v147 v351) ops17 (fun _ => True) := by
  rw [k0_part17_eq_skeleton]; unfold k0_part17_skel ops17
  refine .cons (.snd rfl rfl rfl rfl (at_dst c (by decide +kernel))) fun _ _ =>
    ?_
  with_reducible refine .site ?_ (fun h e => ?_) ?_
  · exact at_cond k0_cond1 (by decide +kernel)
  · exact .snd (srcM_of e rfl rfl) rfl rfl rfl (at_dst_if k0_cond1 h (by decide +kernel))
  exact .cons (.snd rfl rfl rfl rfl (at_dst c (by decide +kernel))) fun _ _ =>
    .cons (.snd rfl rfl rfl rfl (at_dst c (by decide +kernel))) fun _ _ =>
    .ret trivial

theorem part18 {c : Dev nD} {v2 v51 v99 v147 v351 : BitVec 32} :
    Plays X Wv c (on (k0_part18 (F := F)) c v2 v51 v99 v147 v351) ops18 (fun _ => True) := by
  rw [k0_part18_eq_skeleton]; unfold k0_part18_skel ops18
  with_reducible refine .site ?_ (fun h e => ?_) ?_
  · exact at_cond k0_cond2 (by decide +kernel)
  · exact .snd (srcM_of e rfl rfl) rfl rfl rfl (at_dst_if k0_cond2 h (by decide +kernel))
  exact .cons .ldx fun v hv =>
    .cons .ldw fun w hw =>
    .cons (.ldo (at_off (fun c => k0_off1 c) (by decide +kernel))) fun _ _ =>
    .cons (.sto (at_off (fun c => k0_off1 c) (by decide +kernel)) (own_of hv hw)) fun _ _ =>
    .cons (.rcv rfl (N_dst 0)) fun _ _ =>
    .ret trivial

theorem part19 {c : Dev nD} {v51 v147 v351 : BitVec 32} :
    Plays X Wv c (on (k0_part19 (F := F)) c v51 v147 v351) ops19 (fun _ => True) := by
  rw [k0_part19_eq_skeleton]; unfold k0_part19_skel ops19
  refine .cons (.snd rfl rfl rfl rfl (at_dst c (by decide +kernel))) fun _ _ =>
    ?_
  with_reducible refine .site ?_ (fun h e => ?_) ?_
  · exact at_cond k0_cond3 (by decide +kernel)
  · exact .snd (srcM_of e rfl rfl) rfl rfl rfl (at_dst_if k0_cond3 h (by decide +kernel))
  with_reducible refine .site ?_ (fun h e => ?_) ?_
  · exact at_cond k0_cond4 (by decide +kernel)
  · exact .snd (srcM_of e rfl rfl) rfl rfl rfl (at_dst_if k0_cond4 h (by decide +kernel))
  with_reducible refine .site ?_ (fun h e => ?_) ?_
  · exact at_cond k0_cond5 (by decide +kernel)
  · exact .snd (srcM_of e rfl rfl) rfl rfl rfl (at_dst_if k0_cond5 h (by decide +kernel))
  exact .cons (.rcv rfl (N_dst 10)) fun _ _ =>
    .ret trivial

theorem part20 {c : Dev nD} {v51 v99 v147 v351 : BitVec 32} :
    Plays X Wv c (on (k0_part20 (F := F)) c v51 v99 v147 v351) ops20 (fun _ => True) := by
  rw [k0_part20_eq_skeleton]; unfold k0_part20_skel ops20
  refine .cons (.snd rfl rfl rfl rfl (at_dst c (by decide +kernel))) fun _ _ =>
    ?_
  with_reducible refine .site ?_ (fun h e => ?_) ?_
  · exact at_cond k0_cond6 (by decide +kernel)
  · exact .snd (srcM_of e rfl rfl) rfl rfl rfl (at_dst_if k0_cond6 h (by decide +kernel))
  with_reducible refine .site ?_ (fun h e => ?_) ?_
  · exact at_cond k0_cond7 (by decide +kernel)
  · exact .snd (srcM_of e rfl rfl) rfl rfl rfl (at_dst_if k0_cond7 h (by decide +kernel))
  with_reducible refine .site ?_ (fun h e => ?_) ?_
  · exact at_cond k0_cond8 (by decide +kernel)
  · exact .snd (srcM_of e rfl rfl) rfl rfl rfl (at_dst_if k0_cond8 h (by decide +kernel))
  exact .cons (.rcv rfl (N_dst 1)) fun _ _ =>
    .ret trivial

theorem part21 {c : Dev nD} {v51 v147 v351 : BitVec 32} :
    Plays X Wv c (on (k0_part21 (F := F)) c v51 v147 v351) ops21 (fun _ => True) := by
  rw [k0_part21_eq_skeleton]; unfold k0_part21_skel ops21
  refine .cons (.snd rfl rfl rfl rfl (at_dst c (by decide +kernel))) fun _ _ =>
    ?_
  with_reducible refine .site ?_ (fun h e => ?_) ?_
  · exact at_cond k0_cond9 (by decide +kernel)
  · exact .snd (srcM_of e rfl rfl) rfl rfl rfl (at_dst_if k0_cond9 h (by decide +kernel))
  with_reducible refine .site ?_ (fun h e => ?_) ?_
  · exact at_cond k0_cond10 (by decide +kernel)
  · exact .snd (srcM_of e rfl rfl) rfl rfl rfl (at_dst_if k0_cond10 h (by decide +kernel))
  with_reducible refine .site ?_ (fun h e => ?_) ?_
  · exact at_cond k0_cond11 (by decide +kernel)
  · exact .snd (srcM_of e rfl rfl) rfl rfl rfl (at_dst_if k0_cond11 h (by decide +kernel))
  exact .cons (.rcv rfl (N_dst 11)) fun _ _ =>
    .ret trivial

theorem part22 {c : Dev nD} {v2 v51 v147 v351 c1_i32_613 : BitVec 32} :
    Plays X Wv c (on (k0_part22 (F := F)) c v2 v51 v147 v351 c1_i32_613) ops22 (fun _ => True) := by
  rw [k0_part22_eq_skeleton]; unfold k0_part22_skel ops22
  refine .cons (.snd rfl rfl rfl rfl (at_dst c (by decide +kernel))) fun _ _ =>
    ?_
  with_reducible refine .site ?_ (fun h e => ?_) ?_
  · exact at_cond k0_cond12 (by decide +kernel)
  · exact .snd (srcM_of e rfl rfl) rfl rfl rfl (at_dst_if k0_cond12 h (by decide +kernel))
  with_reducible refine .site ?_ (fun h e => ?_) ?_
  · exact at_cond k0_cond13 (by decide +kernel)
  · exact .snd (srcM_of e rfl rfl) rfl rfl rfl (at_dst_if k0_cond13 h (by decide +kernel))
  with_reducible refine .site ?_ (fun h e => ?_) ?_
  · exact at_cond k0_cond14 (by decide +kernel)
  · exact .snd (srcM_of e rfl rfl) rfl rfl rfl (at_dst_if k0_cond14 h (by decide +kernel))
  exact .ret trivial

end Cert.Proof

end
-- ==== Proof.PartsB.lean ====
/-
  The parts of the program, the exchange: each plays its moves of the net.
-/
module

public import proofs.«01_k».proof.Proof.Words

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

theorem part24 {c : Dev nD} {v2 v653 c13_i32_669 c0_i32_670 : BitVec 32} {v654 : BitVec 1} :
    Plays X Wv c (on (k0_part24 (F := F)) c v2 v653 v654 c13_i32_669 c0_i32_670) ops24 (fun _ => True) := by
  rw [k0_part24_eq_skeleton]; unfold k0_part24_skel
  exact .cons (.lds_cw (by decide) (by rfl)) fun v hv =>
    .cons .ldw fun w hw =>
    .cons (.ldo (at_off (fun c => k0_off2 c 1#32 0#32 4#32 8#32 12#32 15#32 11#32 7#32 3#32 2#32 6#32 10#32 14#32 13#32 9#32 5#32) (by decide +kernel))) fun _ _ =>
    .cons (.sto (at_off (fun c => k0_off2 c 1#32 0#32 4#32 8#32 12#32 15#32 11#32 7#32 3#32 2#32 6#32 10#32 14#32 13#32 9#32 5#32) (by decide +kernel)) (stored (pay_of hv hw))) fun _ _ =>
    .ret trivial

theorem part26 {c : Dev nD} {v2 v99 v147 v712 c1_i32_728 c0_i32_729 : BitVec 32} {v713 : BitVec 1} :
    Plays X Wv c (on (k0_part26 (F := F)) c v2 v99 v147 v712 v713 c1_i32_728 c0_i32_729) ops26 (fun _ => True) := by
  rw [k0_part26_eq_skeleton]; unfold k0_part26_skel
  exact .cons (.lds_ccw (by decide) (by rfl)) fun v hv =>
    .cons .ldw fun w hw =>
    .cons (.ldo (at_off (fun c => k0_off2 c 4#32 8#32 12#32 15#32 11#32 7#32 3#32 2#32 6#32 10#32 14#32 13#32 9#32 5#32 1#32 0#32) (by decide +kernel))) fun _ _ =>
    .cons (.sto (at_off (fun c => k0_off2 c 4#32 8#32 12#32 15#32 11#32 7#32 3#32 2#32 6#32 10#32 14#32 13#32 9#32 5#32 1#32 0#32) (by decide +kernel)) (stored (pay_of hv hw))) fun _ _ =>
    .cons (.rcv rfl (N_dst 2)) fun _ _ =>
    .ret trivial

theorem part27 {c : Dev nD} {v51 v147 v351 : BitVec 32} :
    Plays X Wv c (on (k0_part27 (F := F)) c v51 v147 v351) ops27 (fun _ => True) := by
  rw [k0_part27_eq_skeleton]; unfold k0_part27_skel ops27
  refine .cons (.snd rfl rfl rfl rfl (at_dst c (by decide +kernel))) fun _ _ =>
    ?_
  with_reducible refine .site ?_ (fun h e => ?_) ?_
  · exact at_cond k0_cond15 (by decide +kernel)
  · exact .snd (srcM_of e rfl rfl) rfl rfl rfl (at_dst_if k0_cond15 h (by decide +kernel))
  with_reducible refine .site ?_ (fun h e => ?_) ?_
  · exact at_cond k0_cond16 (by decide +kernel)
  · exact .snd (srcM_of e rfl rfl) rfl rfl rfl (at_dst_if k0_cond16 h (by decide +kernel))
  exact .cons (.rcv rfl (N_dst 12)) fun _ _ =>
    .ret trivial

theorem part28 {c : Dev nD} {v51 v99 v147 v351 : BitVec 32} :
    Plays X Wv c (on (k0_part28 (F := F)) c v51 v99 v147 v351) ops28 (fun _ => True) := by
  rw [k0_part28_eq_skeleton]; unfold k0_part28_skel ops28
  refine .cons (.snd rfl rfl rfl rfl (at_dst c (by decide +kernel))) fun _ _ =>
    ?_
  with_reducible refine .site ?_ (fun h e => ?_) ?_
  · exact at_cond k0_cond17 (by decide +kernel)
  · exact .snd (srcM_of e rfl rfl) rfl rfl rfl (at_dst_if k0_cond17 h (by decide +kernel))
  with_reducible refine .site ?_ (fun h e => ?_) ?_
  · exact at_cond k0_cond18 (by decide +kernel)
  · exact .snd (srcM_of e rfl rfl) rfl rfl rfl (at_dst_if k0_cond18 h (by decide +kernel))
  exact .cons (.rcv rfl (N_dst 3)) fun _ _ =>
    .cons (.snd rfl rfl rfl rfl (at_dst c (by decide +kernel))) fun _ _ =>
    .ret trivial

theorem part29 {c : Dev nD} {v51 v147 v351 c0_i32_822 : BitVec 32} :
    Plays X Wv c (on (k0_part29 (F := F)) c v51 v147 v351 c0_i32_822) ops29 (fun _ => True) := by
  rw [k0_part29_eq_skeleton]; unfold k0_part29_skel ops29
  with_reducible refine .site ?_ (fun h e => ?_) ?_
  · exact at_cond k0_cond19 (by decide +kernel)
  · exact .snd (srcM_of e rfl rfl) rfl rfl rfl (at_dst_if k0_cond19 h (by decide +kernel))
  with_reducible refine .site ?_ (fun h e => ?_) ?_
  · exact at_cond k0_cond20 (by decide +kernel)
  · exact .snd (srcM_of e rfl rfl) rfl rfl rfl (at_dst_if k0_cond20 h (by decide +kernel))
  exact .cons (.rcv rfl (N_dst 13)) fun _ _ =>
    .cons (.snd rfl rfl rfl rfl (at_dst c (by decide +kernel))) fun _ _ =>
    .ret trivial

theorem part30 {c : Dev nD} {v2 v51 v351 v814 c0_i32_853 : BitVec 32} :
    Plays X Wv c (on (k0_part30 (F := F)) c v2 v51 v351 v814 c0_i32_853) ops30 (fun _ => True) := by
  rw [k0_part30_eq_skeleton]; unfold k0_part30_skel ops30
  with_reducible refine .site ?_ (fun h e => ?_) ?_
  · exact at_cond k0_cond21 (by decide +kernel)
  · exact .snd (srcM_of e rfl rfl) rfl rfl rfl (at_dst_if k0_cond21 h (by decide +kernel))
  with_reducible refine .site ?_ (fun h e => ?_) ?_
  · exact at_cond k0_cond22 (by decide +kernel)
  · exact .snd (srcM_of e rfl rfl) rfl rfl rfl (at_dst_if k0_cond22 h (by decide +kernel))
  exact .ret trivial

theorem part31 {c : Dev nD} {v2 v842 : BitVec 32} {v843 : BitVec 1} :
    Plays X Wv c (on (k0_part31 (F := F)) v2 v842 v843) ops31 (fun r => r = blkOf (X (org c 2)) (Wv c)) := by
  rw [k0_part31_eq_skeleton]; unfold k0_part31_skel
  exact .cons (.lds_cw (by decide) (by rfl)) fun v hv =>
    .cons .ldw fun w hw =>
    .ret (pay_of hv hw)

theorem part32 {c : Dev nD} {v2 : BitVec 32} {v871 : FVec F S128x128 .f32} (hv : v871 = blkOf (X (org c 2)) (Wv c)) :
    Plays X Wv c (on (k0_part32 (F := F)) c v2 v871) ops32 (fun _ => True) := by
  rw [k0_part32_eq_skeleton]; unfold k0_part32_skel
  exact .cons (.ldo (at_off (fun c => k0_off2 c 5#32 1#32 0#32 4#32 8#32 12#32 15#32 11#32 7#32 3#32 2#32 6#32 10#32 14#32 13#32 9#32) (by decide +kernel))) fun _ _ =>
    .cons (.sto (at_off (fun c => k0_off2 c 5#32 1#32 0#32 4#32 8#32 12#32 15#32 11#32 7#32 3#32 2#32 6#32 10#32 14#32 13#32 9#32) (by decide +kernel)) (stored hv)) fun _ _ =>
    .ret trivial

theorem part33 {c : Dev nD} {v2 v901 : BitVec 32} {v902 : BitVec 1} :
    Plays X Wv c (on (k0_part33 (F := F)) c v2 v901 v902) ops33 (fun _ => True) := by
  rw [k0_part33_eq_skeleton]; unfold k0_part33_skel
  exact .cons (.lds_ccw (by decide) (by rfl)) fun v hv =>
    .cons .ldw fun w hw =>
    .cons (.ldo (at_off (fun c => k0_off2 c 8#32 12#32 15#32 11#32 7#32 3#32 2#32 6#32 10#32 14#32 13#32 9#32 5#32 1#32 0#32 4#32) (by decide +kernel))) fun _ _ =>
    .cons (.sto (at_off (fun c => k0_off2 c 8#32 12#32 15#32 11#32 7#32 3#32 2#32 6#32 10#32 14#32 13#32 9#32 5#32 1#32 0#32 4#32) (by decide +kernel)) (stored (pay_of hv hw))) fun _ _ =>
    .ret trivial

theorem part34 {c : Dev nD} {v51 v99 v147 v351 v449 : BitVec 32} :
    Plays X Wv c (on (k0_part34 (F := F)) c v51 v99 v147 v351 v449) ops34 (fun _ => True) := by
  rw [k0_part34_eq_skeleton]; unfold k0_part34_skel ops34
  refine .cons (.rcv rfl (N_dst 4)) fun _ _ =>
    .cons (.snd rfl rfl rfl rfl (at_dst c (by decide +kernel))) fun _ _ =>
    ?_
  with_reducible refine .site ?_ (fun h e => ?_) ?_
  · exact at_cond k0_cond23 (by decide +kernel)
  · exact .snd (srcM_of e rfl rfl) rfl rfl rfl (at_dst_if k0_cond23 h (by decide +kernel))
  with_reducible refine .site ?_ (fun h e => ?_) ?_
  · exact at_cond k0_cond24 (by decide +kernel)
  · exact .snd (srcM_of e rfl rfl) rfl rfl rfl (at_dst_if k0_cond24 h (by decide +kernel))
  with_reducible refine .site ?_ (fun h e => ?_) ?_
  · exact at_cond k0_cond25 (by decide +kernel)
  · exact .snd (srcM_of e rfl rfl) rfl rfl rfl (at_dst_if k0_cond25 h (by decide +kernel))
  exact .ret trivial

theorem part35 {c : Dev nD} {v51 v147 v351 v449 : BitVec 32} :
    Plays X Wv c (on (k0_part35 (F := F)) c v51 v147 v351 v449) ops35 (fun _ => True) := by
  rw [k0_part35_eq_skeleton]; unfold k0_part35_skel ops35
  refine .cons (.rcv rfl (N_dst 14)) fun _ _ =>
    .cons (.snd rfl rfl rfl rfl (at_dst c (by decide +kernel))) fun _ _ =>
    ?_
  with_reducible refine .site ?_ (fun h e => ?_) ?_
  · exact at_cond k0_cond26 (by decide +kernel)
  · exact .snd (srcM_of e rfl rfl) rfl rfl rfl (at_dst_if k0_cond26 h (by decide +kernel))
  with_reducible refine .site ?_ (fun h e => ?_) ?_
  · exact at_cond k0_cond27 (by decide +kernel)
  · exact .snd (srcM_of e rfl rfl) rfl rfl rfl (at_dst_if k0_cond27 h (by decide +kernel))
  exact .ret trivial

theorem part36 {c : Dev nD} {v51 v99 v147 v351 v981 : BitVec 32} :
    Plays X Wv c (on (k0_part36 (F := F)) c v51 v99 v147 v351 v981) ops36 (fun _ => True) := by
  rw [k0_part36_eq_skeleton]; unfold k0_part36_skel ops36
  with_reducible refine .site ?_ (fun h e => ?_) ?_
  · exact at_cond k0_cond28 (by decide +kernel)
  · exact .snd (srcM_of e rfl rfl) rfl rfl rfl (at_dst_if k0_cond28 h (by decide +kernel))
  refine .cons (.rcv rfl (N_dst 5)) fun _ _ =>
    .cons (.snd rfl rfl rfl rfl (at_dst c (by decide +kernel))) fun _ _ =>
    ?_
  with_reducible refine .site ?_ (fun h e => ?_) ?_
  · exact at_cond k0_cond29 (by decide +kernel)
  · exact .snd (srcM_of e rfl rfl) rfl rfl rfl (at_dst_if k0_cond29 h (by decide +kernel))
  with_reducible refine .site ?_ (fun h e => ?_) ?_
  · exact at_cond k0_cond30 (by decide +kernel)
  · exact .snd (srcM_of e rfl rfl) rfl rfl rfl (at_dst_if k0_cond30 h (by decide +kernel))
  exact .ret trivial

theorem part37 {c : Dev nD} {v51 v147 v449 c2_i32_1063 : BitVec 32} :
    Plays X Wv c (on (k0_part37 (F := F)) c v51 v147 v449 c2_i32_1063) ops37 (fun _ => True) := by
  rw [k0_part37_eq_skeleton]; unfold k0_part37_skel ops37
  with_reducible refine .site ?_ (fun h e => ?_) ?_
  · exact at_cond k0_cond31 (by decide +kernel)
  · exact .snd (srcM_of e rfl rfl) rfl rfl rfl (at_dst_if k0_cond31 h (by decide +kernel))
  refine .cons (.rcv rfl (N_dst 15)) fun _ _ =>
    .cons (.snd rfl rfl rfl rfl (at_dst c (by decide +kernel))) fun _ _ =>
    ?_
  with_reducible refine .site ?_ (fun h e => ?_) ?_
  · exact at_cond k0_cond32 (by decide +kernel)
  · exact .snd (srcM_of e rfl rfl) rfl rfl rfl (at_dst_if k0_cond32 h (by decide +kernel))
  exact .ret trivial

theorem part38 {c : Dev nD} {v2 v51 v351 v1030 c0_i32_1094 : BitVec 32} :
    Plays X Wv c (on (k0_part38 (F := F)) c v2 v51 v351 v1030 c0_i32_1094) ops38 (fun _ => True) := by
  rw [k0_part38_eq_skeleton]; unfold k0_part38_skel ops38
  with_reducible refine .site ?_ (fun h e => ?_) ?_
  · exact at_cond k0_cond33 (by decide +kernel)
  · exact .snd (srcM_of e rfl rfl) rfl rfl rfl (at_dst_if k0_cond33 h (by decide +kernel))
  with_reducible refine .site ?_ (fun h e => ?_) ?_
  · exact at_cond k0_cond34 (by decide +kernel)
  · exact .snd (srcM_of e rfl rfl) rfl rfl rfl (at_dst_if k0_cond34 h (by decide +kernel))
  exact .ret trivial

theorem part39 {c : Dev nD} {v2 v1058 : BitVec 32} {v1059 : BitVec 1} :
    Plays X Wv c (on (k0_part39 (F := F)) v2 v1058 v1059) ops39 (fun r => r = blkOf (X (org c 4)) (Wv c)) := by
  rw [k0_part39_eq_skeleton]; unfold k0_part39_skel
  exact .cons (.lds_cw (by decide) (by rfl)) fun v hv =>
    .cons .ldw fun w hw =>
    .ret (pay_of hv hw)

theorem part40 {c : Dev nD} {v2 : BitVec 32} {v1087 : FVec F S128x128 .f32} (hv : v1087 = blkOf (X (org c 4)) (Wv c)) :
    Plays X Wv c (on (k0_part40 (F := F)) c v2 v1087) ops40 (fun _ => True) := by
  rw [k0_part40_eq_skeleton]; unfold k0_part40_skel
  exact .cons (.ldo (at_off (fun c => k0_off2 c 9#32 5#32 1#32 0#32 4#32 8#32 12#32 15#32 11#32 7#32 3#32 2#32 6#32 10#32 14#32 13#32) (by decide +kernel))) fun _ _ =>
    .cons (.sto (at_off (fun c => k0_off2 c 9#32 5#32 1#32 0#32 4#32 8#32 12#32 15#32 11#32 7#32 3#32 2#32 6#32 10#32 14#32 13#32) (by decide +kernel)) (stored hv)) fun _ _ =>
    .ret trivial

theorem part41 {c : Dev nD} {v2 v1117 : BitVec 32} {v1118 : BitVec 1} :
    Plays X Wv c (on (k0_part41 (F := F)) c v2 v1117 v1118) ops41 (fun _ => True) := by
  rw [k0_part41_eq_skeleton]; unfold k0_part41_skel
  exact .cons (.lds_ccw (by decide) (by rfl)) fun v hv =>
    .cons .ldw fun w hw =>
    .cons (.ldo (at_off (fun c => k0_off2 c 12#32 15#32 11#32 7#32 3#32 2#32 6#32 10#32 14#32 13#32 9#32 5#32 1#32 0#32 4#32 8#32) (by decide +kernel))) fun _ _ =>
    .cons (.sto (at_off (fun c => k0_off2 c 12#32 15#32 11#32 7#32 3#32 2#32 6#32 10#32 14#32 13#32 9#32 5#32 1#32 0#32 4#32 8#32) (by decide +kernel)) (stored (pay_of hv hw))) fun _ _ =>
    .ret trivial

theorem part42 {c : Dev nD} {v51 v99 v147 v351 : BitVec 32} :
    Plays X Wv c (on (k0_part42 (F := F)) c v51 v99 v147 v351) ops42 (fun _ => True) := by
  rw [k0_part42_eq_skeleton]; unfold k0_part42_skel ops42
  refine .cons (.rcv rfl (N_dst 6)) fun _ _ =>
    .cons (.snd rfl rfl rfl rfl (at_dst c (by decide +kernel))) fun _ _ =>
    ?_
  with_reducible refine .site ?_ (fun h e => ?_) ?_
  · exact at_cond k0_cond35 (by decide +kernel)
  · exact .snd (srcM_of e rfl rfl) rfl rfl rfl (at_dst_if k0_cond35 h (by decide +kernel))
  exact .ret trivial

theorem part43 {c : Dev nD} {v51 v147 v351 : BitVec 32} :
    Plays X Wv c (on (k0_part43 (F := F)) c v51 v147 v351) ops43 (fun _ => True) := by
  rw [k0_part43_eq_skeleton]; unfold k0_part43_skel ops43
  refine .cons (.rcv rfl (N_dst 16)) fun _ _ =>
    .cons (.snd rfl rfl rfl rfl (at_dst c (by decide +kernel))) fun _ _ =>
    ?_
  with_reducible refine .site ?_ (fun h e => ?_) ?_
  · exact at_cond k0_cond36 (by decide +kernel)
  · exact .snd (srcM_of e rfl rfl) rfl rfl rfl (at_dst_if k0_cond36 h (by decide +kernel))
  exact .cons (.rcv rfl (N_dst 7)) fun _ _ =>
    .ret trivial

theorem part44 {c : Dev nD} {v51 v99 v147 v351 : BitVec 32} :
    Plays X Wv c (on (k0_part44 (F := F)) c v51 v99 v147 v351) ops44 (fun _ => True) := by
  rw [k0_part44_eq_skeleton]; unfold k0_part44_skel ops44
  refine .cons (.snd rfl rfl rfl rfl (at_dst c (by decide +kernel))) fun _ _ =>
    ?_
  with_reducible refine .site ?_ (fun h e => ?_) ?_
  · exact at_cond k0_cond37 (by decide +kernel)
  · exact .snd (srcM_of e rfl rfl) rfl rfl rfl (at_dst_if k0_cond37 h (by decide +kernel))
  exact .cons (.rcv rfl (N_dst 17)) fun _ _ =>
    .ret trivial

theorem part45 {c : Dev nD} {v2 v51 v351 : BitVec 32} :
    Plays X Wv c (on (k0_part45 (F := F)) c v2 v51 v351) ops45 (fun _ => True) := by
  rw [k0_part45_eq_skeleton]; unfold k0_part45_skel ops45
  refine .cons (.snd rfl rfl rfl rfl (at_dst c (by decide +kernel))) fun _ _ =>
    ?_
  with_reducible refine .site ?_ (fun h e => ?_) ?_
  · exact at_cond k0_cond38 (by decide +kernel)
  · exact .snd (srcM_of e rfl rfl) rfl rfl rfl (at_dst_if k0_cond38 h (by decide +kernel))
  exact .ret trivial

theorem part46 {c : Dev nD} {v2 v1247 c12_i32_1338 c0_i32_1339 : BitVec 32} {v1248 : BitVec 1} :
    Plays X Wv c (on (k0_part46 (F := F)) v2 v1247 v1248 c12_i32_1338 c0_i32_1339) ops46 (fun r => k0_pay10 r.2.1 r.2.2.1 r.2.2.2 = blkOf (X (org c 6)) (Wv c)) := by
  rw [k0_part46_eq_skeleton]; unfold k0_part46_skel
  exact .cons (.lds_cw (by decide) (by rfl)) fun v hv =>
    .cons .ldw fun w hw =>
    .ret (pay_of hv hw)

theorem part47 {c : Dev nD} {v2 v1274 : BitVec 32} {v1276 : FVec F S128x2048 .f32} {v1278 : FVec F S2048x128 .f32} {cst_1368 : FVec F S128x128 .f32} (hv : k0_pay10 v1276 v1278 cst_1368 = blkOf (X (org c 6)) (Wv c)) :
    Plays X Wv c (on (k0_part47 (F := F)) c v2 v1274 v1276 v1278 cst_1368) ops47 (fun _ => True) := by
  rw [k0_part47_eq_skeleton]; unfold k0_part47_skel
  exact .cons (.ldo (at_off (fun c => k0_off2 c 13#32 9#32 5#32 1#32 0#32 4#32 8#32 12#32 15#32 11#32 7#32 3#32 2#32 6#32 10#32 14#32) (by decide +kernel))) fun _ _ =>
    .cons (.sto (at_off (fun c => k0_off2 c 13#32 9#32 5#32 1#32 0#32 4#32 8#32 12#32 15#32 11#32 7#32 3#32 2#32 6#32 10#32 14#32) (by decide +kernel)) (stored hv)) fun _ _ =>
    .ret trivial

theorem part48 {c : Dev nD} {v2 v1306 c13_i32_1397 c0_i32_1398 : BitVec 32} {v1307 : BitVec 1} :
    Plays X Wv c (on (k0_part48 (F := F)) c v2 v1306 v1307 c13_i32_1397 c0_i32_1398) ops48 (fun r => r = blkOf (X (org c 16)) (Wv c)) := by
  rw [k0_part48_eq_skeleton]; unfold k0_part48_skel
  exact .cons (.lds_ccw (by decide) (by rfl)) fun v hv =>
    .cons .ldw fun w hw =>
    .cons (.ldo (at_off (fun c => k0_off2 c 15#32 11#32 7#32 3#32 2#32 6#32 10#32 14#32 13#32 9#32 5#32 1#32 0#32 4#32 8#32 12#32) (by decide +kernel))) fun _ _ =>
    .ret (pay_of hv hw)

theorem part49 {c : Dev nD} {v147 : BitVec 32} {v1335 : FVec F S128x128 .f32} (hv : v1335 = blkOf (X (org c 16)) (Wv c)) :
    Plays X Wv c (on (k0_part49 (F := F)) c v147 v1335) ops49 (fun _ => True) := by
  rw [k0_part49_eq_skeleton]; unfold k0_part49_skel
  exact .cons (.sto (at_off (fun c => k0_off2 c 15#32 11#32 7#32 3#32 2#32 6#32 10#32 14#32 13#32 9#32 5#32 1#32 0#32 4#32 8#32 12#32) (by decide +kernel)) (stored hv)) fun _ _ =>
    .cons (.rcv rfl (N_dst 8)) fun _ _ =>
    .cons (.rcv rfl (N_dst 18)) fun _ _ =>
    .cons (.rcv rfl (N_dst 9)) fun _ _ =>
    .ret trivial

end Cert.Proof

end
-- ==== Proof.PartsC.lean ====
/-
  The parts of the program, the last arrivals and the waits: each plays its moves of the net.
-/
module

public import proofs.«01_k».proof.Proof.Words

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

theorem part50 {c : Dev nD} {v2 v147 : BitVec 32} :
    Plays X Wv c (on (k0_part50 (F := F)) v2 v147) ops50 (fun _ => True) := by
  rw [k0_part50_eq_skeleton]; unfold k0_part50_skel
  exact .cons (.rcv rfl (N_dst 19)) fun _ _ =>
    .ret trivial

theorem part51 {c : Dev nD} {v2 v1387 : BitVec 32} :
    Plays X Wv c (on (k0_part51 (F := F)) v2 v1387) ops51 (fun r => ∀ w, k0_pay13 r.2 w = blkOf (X (org c 8)) w) := by
  rw [k0_part51_eq_skeleton]; unfold k0_part51_skel
  exact .cons (.lds_cw (by decide) (by rfl)) fun v hv =>
    .ret fun w => pay_of hv rfl

theorem part52 {c : Dev nD} {v2 v1414 : BitVec 32} {v1416 : FVec F S128x2048 .f32} (hv : ∀ w, k0_pay13 v1416 w = blkOf (X (org c 8)) w) :
    Plays X Wv c (on (k0_part52 (F := F)) c v2 v1414 v1416) ops52 (fun _ => True) := by
  rw [k0_part52_eq_skeleton]; unfold k0_part52_skel
  exact .cons .ldw fun w hw =>
    .cons (.ldo (at_off (fun c => k0_off2 c 14#32 13#32 9#32 5#32 1#32 0#32 4#32 8#32 12#32 15#32 11#32 7#32 3#32 2#32 6#32 10#32) (by decide +kernel))) fun _ _ =>
    .cons (.sto (at_off (fun c => k0_off2 c 14#32 13#32 9#32 5#32 1#32 0#32 4#32 8#32 12#32 15#32 11#32 7#32 3#32 2#32 6#32 10#32) (by decide +kernel)) (stored ((hv _).trans (by rw [hw])))) fun _ _ =>
    .ret trivial

theorem part53 {c : Dev nD} {v2 v1446 : BitVec 32} :
    Plays X Wv c (on (k0_part53 (F := F)) v2 v1446) ops53 (fun r => r.2.1 = blkOf (X (org c 18)) (Wv c)) := by
  rw [k0_part53_eq_skeleton]; unfold k0_part53_skel
  exact .cons (.lds_ccw (by decide) (by rfl)) fun v hv =>
    .cons .ldw fun w hw =>
    .ret (pay_of hv hw)

theorem part54 {c : Dev nD} {v2 v51 v147 v1470 c128_i32_1583 : BitVec 32} {v1475 : FVec F S128x128 .f32} (hv : v1475 = blkOf (X (org c 18)) (Wv c)) :
    Plays X Wv c (on (k0_part54 (F := F)) c v2 v51 v147 v1470 v1475 c128_i32_1583) ops54 (fun _ => True) := by
  rw [k0_part54_eq_skeleton]; unfold k0_part54_skel
  exact .cons (.ldo (at_off (fun c => k0_off2 c 11#32 7#32 3#32 2#32 6#32 10#32 14#32 13#32 9#32 5#32 1#32 0#32 4#32 8#32 12#32 15#32) (by decide +kernel))) fun _ _ =>
    .cons (.sto (at_off (fun c => k0_off2 c 11#32 7#32 3#32 2#32 6#32 10#32 14#32 13#32 9#32 5#32 1#32 0#32 4#32 8#32 12#32 15#32) (by decide +kernel)) (stored hv)) fun _ _ =>
    .cons (.rcv rfl (N_dst 20)) fun _ _ =>
    .cons (.rcv rfl (N_dst 21)) fun _ _ =>
    .ret trivial

theorem part61 {c : Dev nD} {v2 v147 v1645 v1679 c14_i32_1796 : BitVec 32} {v1646 : BitVec 1} :
    Plays X Wv c (on (k0_part61 (F := F)) c v2 v147 v1645 v1646 v1679 c14_i32_1796) ops61 (fun _ => True) := by
  rw [k0_part61_eq_skeleton]; unfold k0_part61_skel
  exact .cons (.lds_ch (by decide) (by rfl)) fun v hv =>
    .cons .ldw fun w hw =>
    .cons (.ldo (at_off (fun c => k0_off3 c 3#32 2#32 6#32 10#32 14#32 13#32 9#32 5#32 1#32 0#32 4#32 8#32 12#32 15#32 11#32 7#32 7#32 3#32 2#32 6#32 10#32 14#32 13#32 9#32 5#32 1#32 0#32 4#32 8#32 12#32 15#32 11#32 10#32 14#32 13#32 9#32 5#32 1#32 0#32 4#32 8#32 12#32 15#32 11#32 7#32 3#32 2#32 6#32 6#32 10#32 14#32 13#32 9#32 5#32 1#32 0#32 4#32 8#32 12#32 15#32 11#32 7#32 3#32 2#32) (by decide +kernel))) fun _ _ =>
    .cons (.sto (at_off (fun c => k0_off3 c 3#32 2#32 6#32 10#32 14#32 13#32 9#32 5#32 1#32 0#32 4#32 8#32 12#32 15#32 11#32 7#32 7#32 3#32 2#32 6#32 10#32 14#32 13#32 9#32 5#32 1#32 0#32 4#32 8#32 12#32 15#32 11#32 10#32 14#32 13#32 9#32 5#32 1#32 0#32 4#32 8#32 12#32 15#32 11#32 7#32 3#32 2#32 6#32 6#32 10#32 14#32 13#32 9#32 5#32 1#32 0#32 4#32 8#32 12#32 15#32 11#32 7#32 3#32 2#32) (by decide +kernel)) (stored (pay_of hv hw))) fun _ _ =>
    .ret trivial

theorem part62 {c : Dev nD} {v2 v51 v147 : BitVec 32} :
    Plays X Wv c (on (k0_part62 (F := F)) v2 v51 v147) ops62 (fun _ => True) := by
  rw [k0_part62_eq_skeleton]; unfold k0_part62_skel
  exact .cons (.rcv rfl (N_dst 22)) fun _ _ =>
    .cons (.rcv rfl (N_dst 23)) fun _ _ =>
    .ret trivial

theorem part69 {c : Dev nD} {v2 v147 v1871 v1911 v1913 : BitVec 32} {v1872 : BitVec 1} :
    Plays X Wv c (on (k0_part69 (F := F)) c v2 v147 v1871 v1872 v1911 v1913) ops69 (fun _ => True) := by
  rw [k0_part69_eq_skeleton]; unfold k0_part69_skel
  exact .cons (.lds_ch (by decide) (by rfl)) fun v hv =>
    .cons .ldw fun w hw =>
    .cons (.ldo (at_off (fun c => k0_off3 c 7#32 3#32 2#32 6#32 10#32 14#32 13#32 9#32 5#32 1#32 0#32 4#32 8#32 12#32 15#32 11#32 3#32 2#32 6#32 10#32 14#32 13#32 9#32 5#32 1#32 0#32 4#32 8#32 12#32 15#32 11#32 7#32 6#32 10#32 14#32 13#32 9#32 5#32 1#32 0#32 4#32 8#32 12#32 15#32 11#32 7#32 3#32 2#32 10#32 14#32 13#32 9#32 5#32 1#32 0#32 4#32 8#32 12#32 15#32 11#32 7#32 3#32 2#32 6#32) (by decide +kernel))) fun _ _ =>
    .cons (.sto (at_off (fun c => k0_off3 c 7#32 3#32 2#32 6#32 10#32 14#32 13#32 9#32 5#32 1#32 0#32 4#32 8#32 12#32 15#32 11#32 3#32 2#32 6#32 10#32 14#32 13#32 9#32 5#32 1#32 0#32 4#32 8#32 12#32 15#32 11#32 7#32 6#32 10#32 14#32 13#32 9#32 5#32 1#32 0#32 4#32 8#32 12#32 15#32 11#32 7#32 3#32 2#32 10#32 14#32 13#32 9#32 5#32 1#32 0#32 4#32 8#32 12#32 15#32 11#32 7#32 3#32 2#32 6#32) (by decide +kernel)) (stored (pay_of hv hw))) fun _ _ =>
    .cons (.rcv rfl (N_dst 24)) fun _ _ =>
    .ret trivial

theorem part70 {c : Dev nD} {v2 v51 v1938 c0_i32_2072 : BitVec 32} :
    Plays X Wv c (on (k0_part70 (F := F)) v2 v51 v1938 c0_i32_2072) ops70 (fun _ => True) := by
  rw [k0_part70_eq_skeleton]; unfold k0_part70_skel
  exact .cons (.rcv rfl (N_dst 25)) fun _ _ =>
    .ret trivial

theorem part77 {c : Dev nD} {v2 v51 v147 v2148 : BitVec 32} :
    Plays X Wv c (on (k0_part77 (F := F)) c v2 v51 v147 v2148) ops77 (fun _ => True) := by
  rw [k0_part77_eq_skeleton]; unfold k0_part77_skel
  exact .cons (.lds_ch (by decide) (by rfl)) fun v hv =>
    .cons .ldw fun w hw =>
    .cons (.ldo (at_off (fun c => k0_off3 c 2#32 6#32 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32 7#32 3#32) (by decide +kernel))) fun _ _ =>
    .cons (.sto (at_off (fun c => k0_off3 c 2#32 6#32 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32 7#32 3#32) (by decide +kernel)) (stored (pay_of hv hw))) fun _ _ =>
    .cons (.rcv rfl (N_dst 26)) fun _ _ =>
    .cons (.rcv rfl (N_dst 27)) fun _ _ =>
    .ret trivial

theorem part84 {c : Dev nD} {v2 v2323 v2351 c6_i32_2495 : BitVec 32} {v2324 : BitVec 1} :
    Plays X Wv c (on (k0_part84 (F := F)) c v2 v2323 v2324 v2351 c6_i32_2495) ops84 (fun r => r = blkOf (X (org c 26)) (Wv c)) := by
  rw [k0_part84_eq_skeleton]; unfold k0_part84_skel
  exact .cons (.lds_ch (by decide) (by rfl)) fun v hv =>
    .cons .ldw fun w hw =>
    .cons (.ldo (at_off (fun c => k0_off3 c 6#32 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32 7#32) (by decide +kernel))) fun _ _ =>
    .ret (pay_of hv hw)

theorem part85 {c : Dev nD} {v2 v51 v147 : BitVec 32} {v2379 : FVec F S128x128 .f32} (hv : v2379 = blkOf (X (org c 26)) (Wv c)) :
    Plays X Wv c (on (k0_part85 (F := F)) c v2 v51 v147 v2379) ops85 (fun _ => True) := by
  rw [k0_part85_eq_skeleton]; unfold k0_part85_skel
  exact .cons (.sto (at_off (fun c => k0_off3 c 6#32 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32 7#32) (by decide +kernel)) (stored hv)) fun _ _ =>
    .cons (.rcv rfl (N_dst 28)) fun _ _ =>
    .cons (.rcv rfl (N_dst 29)) fun _ _ =>
    .ret trivial

theorem part92 {c : Dev nD} {v2 v2549 v2583 v2585 : BitVec 32} {v2550 : BitVec 1} :
    Plays X Wv c (on (k0_part92 (F := F)) c v2 v2549 v2550 v2583 v2585) ops92 (fun _ => True) := by
  rw [k0_part92_eq_skeleton]; unfold k0_part92_skel
  exact .cons (.lds_ch (by decide) (by rfl)) fun v hv =>
    .cons .ldw fun w hw =>
    .cons (.ldo (at_off (fun c => k0_off3 c 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 6#32 7#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32) (by decide +kernel))) fun _ _ =>
    .cons (.sto (at_off (fun c => k0_off3 c 10#32 14#32 13#32 9#32 5#32 1#32 0#32 4#32 8#32 12#32 15#32 11#32 7#32 3#32 2#32 6#32 10#32 14#32 13#32 9#32 5#32 1#32 0#32 4#32 8#32 12#32 15#32 11#32 7#32 3#32 2#32 6#32 7#32 3#32 2#32 6#32 10#32 14#32 13#32 9#32 5#32 1#32 0#32 4#32 8#32 12#32 15#32 11#32 7#32 3#32 2#32 6#32 10#32 14#32 13#32 9#32 5#32 1#32 0#32 4#32 8#32 12#32 15#32 11#32) (by decide +kernel)) (stored (pay_of hv hw))) fun _ _ =>
    .ret trivial

theorem part93 {c : Dev nD} :
    Plays X Wv c (on (k0_part93 (F := F)) ) ops93 (fun _ => True) := by
  rw [k0_part93_eq_skeleton]; unfold k0_part93_skel
  exact .cons (.swait rfl (N_own 0)) fun _ _ =>
    .cons (.swait rfl (N_own 0)) fun _ _ =>
    .cons (.swait rfl (N_own 1)) fun _ _ =>
    .cons (.swait rfl (N_own 1)) fun _ _ =>
    .ret trivial

theorem part94 {c : Dev nD} :
    Plays X Wv c (on (k0_part94 (F := F)) ) ops94 (fun _ => True) := by
  rw [k0_part94_eq_skeleton]; unfold k0_part94_skel
  exact .cons (.swait rfl (N_dst 0)) fun _ _ =>
    .cons (.swait rfl (N_dst 10)) fun _ _ =>
    .cons (.swait rfl (N_dst 1)) fun _ _ =>
    .ret trivial

theorem part95 {c : Dev nD} :
    Plays X Wv c (on (k0_part95 (F := F)) ) ops95 (fun _ => True) := by
  rw [k0_part95_eq_skeleton]; unfold k0_part95_skel
  exact .cons (.swait rfl (N_dst 11)) fun _ _ =>
    .cons (.swait rfl (N_dst 2)) fun _ _ =>
    .cons (.swait rfl (N_dst 12)) fun _ _ =>
    .cons (.swait rfl (N_dst 3)) fun _ _ =>
    .ret trivial

theorem part96 {c : Dev nD} :
    Plays X Wv c (on (k0_part96 (F := F)) ) ops96 (fun _ => True) := by
  rw [k0_part96_eq_skeleton]; unfold k0_part96_skel
  exact .cons (.swait rfl (N_dst 13)) fun _ _ =>
    .cons (.swait rfl (N_dst 4)) fun _ _ =>
    .cons (.swait rfl (N_dst 14)) fun _ _ =>
    .ret trivial

theorem part97 {c : Dev nD} :
    Plays X Wv c (on (k0_part97 (F := F)) ) ops97 (fun _ => True) := by
  rw [k0_part97_eq_skeleton]; unfold k0_part97_skel
  exact .cons (.swait rfl (N_dst 5)) fun _ _ =>
    .cons (.swait rfl (N_dst 15)) fun _ _ =>
    .cons (.swait rfl (N_dst 6)) fun _ _ =>
    .ret trivial

theorem part98 {c : Dev nD} :
    Plays X Wv c (on (k0_part98 (F := F)) ) ops98 (fun _ => True) := by
  rw [k0_part98_eq_skeleton]; unfold k0_part98_skel
  exact .cons (.swait rfl (N_dst 16)) fun _ _ =>
    .cons (.swait rfl (N_dst 7)) fun _ _ =>
    .cons (.swait rfl (N_dst 17)) fun _ _ =>
    .cons (.swait rfl (N_own 0)) fun _ _ =>
    .ret trivial

theorem part99 {c : Dev nD} :
    Plays X Wv c (on (k0_part99 (F := F)) ) ops99 (fun _ => True) := by
  rw [k0_part99_eq_skeleton]; unfold k0_part99_skel
  exact .cons (.swait rfl (N_own 1)) fun _ _ =>
    .cons (.swait rfl (N_own 0)) fun _ _ =>
    .cons (.swait rfl (N_own 1)) fun _ _ =>
    .cons (.swait rfl (N_own 0)) fun _ _ =>
    .ret trivial

theorem part100 {c : Dev nD} :
    Plays X Wv c (on (k0_part100 (F := F)) ) ops100 (fun _ => True) := by
  rw [k0_part100_eq_skeleton]; unfold k0_part100_skel
  exact .cons (.swait rfl (N_own 1)) fun _ _ =>
    .cons (.swait rfl (N_own 0)) fun _ _ =>
    .cons (.swait rfl (N_own 1)) fun _ _ =>
    .ret trivial

end Cert.Proof

end
-- ==== Proof.Body.lean ====
/-
  The program of a device: its parts one after the other play the whole list of moves.
-/
module

public import proofs.«01_k».proof.Proof.PartsA
public import proofs.«01_k».proof.Proof.PartsB
public import proofs.«01_k».proof.Proof.PartsC

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x2048 .f32) (Wv : Dev nD → Vec F S2048x128 .f32)

variable {X Wv}

/-- A program that only computes a value moves nothing, so what comes after it plays the whole list. -/
theorem pass {α β : Type} {c : Dev nD} {p : Prog (TpuEff nD τ sig (Elt F) Λ₀ .tc) α} {k : α → Prog (TpuEff nD τ sig (Elt F) Λ₀ .tc) β}
    {l : List Op} {Q : β → Prop} (h : ∃ a, p = .ret a) (h' : ∀ a, Plays X Wv c (k a) l Q) : Plays X Wv c (p >>= k) l Q := by
  obtain ⟨a, rfl⟩ := h
  exact .skip (Q := fun _ => True) (.ret trivial) fun b _ => h' b

/-- The first part reads the device's number. -/
theorem part1 {c : Dev nD} : Plays X Wv c (on (k0_part1 (F := F))) [] (fun r => r.1 = c) := by
  rw [k0_part1_eq_skeleton]; unfold k0_part1_skel
  refine .skip (Q := fun d => d = c) (fun A _ => ?_) fun d hd => .ret hd
  simp only [Prog.lift]
  rw [wp_deviceId, wp_ret]
  iintro ⟨-, H⟩
  imodintro
  isplitr
  · ipureintro; rfl
  · iexact H

/-- The moves of the first sixty parts. -/
def opsL : List Op := ops16 ++ (ops17 ++ (ops18 ++ (ops19 ++ (ops20 ++ (ops21 ++ (ops22 ++ (ops24 ++ (ops26 ++ (ops27 ++ (ops28 ++ (ops29 ++ (ops30 ++ (ops31 ++ (ops32 ++ (ops33 ++ (ops34 ++ (ops35 ++ (ops36 ++ (ops37 ++ (ops38 ++ (ops39 ++ (ops40 ++ (ops41 ++ (ops42 ++ (ops43 ++ (ops44 ++ (ops45 ++ (ops46 ++ (ops47 ++ (ops48 ++ (ops49 ++ (ops50 ++ (ops51 ++ (ops52 ++ (ops53 ++ (ops54 ++ []))))))))))))))))))))))))))))))))))))

/-- The moves of the other parts. -/
def opsR : List Op := ops61 ++ (ops62 ++ (ops69 ++ (ops70 ++ (ops77 ++ (ops84 ++ (ops85 ++ (ops92 ++ (ops93 ++ (ops94 ++ (ops95 ++ (ops96 ++ (ops97 ++ (ops98 ++ (ops99 ++ (ops100 ++ [.swait 28, .swait 29])))))))))))))))

theorem opsAll_eq : opsAll = opsL ++ opsR := rfl

theorem part101 {c : Dev nD} : Plays X Wv c (on (k0_part101 (F := F))) opsL (fun r => r.1 = c) := by
  rw [k0_part101_eq_skeleton]; unfold k0_part101_skel opsL
  refine .skip part1 fun r hr => ?_
  obtain ⟨d, v2, v26, v28⟩ := r
  obtain rfl : d = c := hr
  with_reducible refine pass ?_ ?_
  · exact ⟨_, rfl⟩
  rintro ⟨v51, v57, v58⟩
  with_reducible refine pass ?_ ?_
  · exact ⟨_, rfl⟩
  rintro ⟨v87, v88⟩
  with_reducible refine pass ?_ ?_
  · exact ⟨_, rfl⟩
  rintro ⟨v99, v117, c7_i32_103⟩
  with_reducible refine pass ?_ ?_
  · exact ⟨_, rfl⟩
  rintro ⟨v147, c0_i32_133⟩
  with_reducible refine pass ?_ ?_
  · exact ⟨_, rfl⟩
  rintro ⟨v148, v175, v176, c0_i32_163, c0_i32_164⟩
  with_reducible refine pass ?_ ?_
  · exact ⟨_, rfl⟩
  rintro ⟨v198, v199, v205, v206, c3_i32_194⟩
  with_reducible refine pass ?_ ?_
  · exact ⟨_, rfl⟩
  rintro ⟨v235, v236, c4_i32_224⟩
  with_reducible refine pass ?_ ?_
  · exact ⟨_, rfl⟩
  rintro ⟨v249, v250, v265, v266, c0_i32_254⟩
  with_reducible refine pass ?_ ?_
  · exact ⟨_, rfl⟩
  rintro ⟨v295, v296, c10_i32_284⟩
  with_reducible refine pass ?_ ?_
  · exact ⟨_, rfl⟩
  rintro ⟨v300, v301, v325, v326, c4_i32_314⟩
  with_reducible refine pass ?_ ?_
  · exact ⟨_, rfl⟩
  rintro ⟨v351, v352, v355, v356, c5_i32_344⟩
  with_reducible refine pass ?_ ?_
  · exact ⟨_, rfl⟩
  rintro ⟨v385, v386, c2_i32_374⟩
  with_reducible refine pass ?_ ?_
  · exact ⟨_, rfl⟩
  rintro ⟨v400, v415, v416⟩
  with_reducible refine pass ?_ ?_
  · exact ⟨_, rfl⟩
  rintro ⟨v445, v446⟩
  with_reducible refine .bind part16 (fun r _ => ?_)
  with_reducible refine .bind part17 (fun r _ => ?_)
  with_reducible refine .bind part18 (fun r _ => ?_)
  with_reducible refine .bind part19 (fun r _ => ?_)
  with_reducible refine .bind part20 (fun r _ => ?_)
  with_reducible refine .bind part21 (fun r _ => ?_)
  with_reducible refine .bind part22 ?_
  rintro ⟨v623, v624, c8_i32_639, c0_i32_640⟩ -
  with_reducible refine pass ?_ ?_
  · exact ⟨_, rfl⟩
  rintro ⟨v653, v654, c13_i32_669, c0_i32_670⟩
  with_reducible refine .bind part24 ?_
  rintro ⟨v682, v683, c11_i32_698, c0_i32_699⟩ -
  with_reducible refine pass ?_ ?_
  · exact ⟨_, rfl⟩
  rintro ⟨v712, v713, c1_i32_728, c0_i32_729⟩
  with_reducible refine .bind part26 (fun r _ => ?_)
  with_reducible refine .bind part27 (fun r _ => ?_)
  with_reducible refine .bind part28 (fun r _ => ?_)
  with_reducible refine .bind part29 ?_
  rintro ⟨v814, c0_i32_853⟩ -
  with_reducible refine .bind part30 ?_
  rintro ⟨v842, v843⟩ -
  with_reducible refine .bind part31 (fun r h31 => ?_)
  with_reducible refine .bind (part32 h31) ?_
  rintro ⟨v901, v902⟩ -
  with_reducible refine .bind part33 (fun r _ => ?_)
  with_reducible refine .bind part34 (fun r _ => ?_)
  with_reducible refine .bind part35 (fun r _ => ?_)
  with_reducible refine .bind part36 (fun r _ => ?_)
  with_reducible refine .bind part37 ?_
  rintro ⟨v1030, c0_i32_1094⟩ -
  with_reducible refine .bind part38 ?_
  rintro ⟨v1058, v1059⟩ -
  with_reducible refine .bind part39 (fun r h39 => ?_)
  with_reducible refine .bind (part40 h39) ?_
  rintro ⟨v1117, v1118⟩ -
  with_reducible refine .bind part41 (fun r _ => ?_)
  with_reducible refine .bind part42 (fun r _ => ?_)
  with_reducible refine .bind part43 (fun r _ => ?_)
  with_reducible refine .bind part44 (fun r _ => ?_)
  with_reducible refine .bind part45 ?_
  rintro ⟨v1247, v1248, c12_i32_1338, c0_i32_1339⟩ -
  with_reducible refine .bind part46 ?_
  rintro ⟨v1274, v1276, v1278, cst_1368⟩ h46
  with_reducible refine .bind (part47 h46) ?_
  rintro ⟨v1306, v1307, c13_i32_1397, c0_i32_1398⟩ -
  with_reducible refine .bind part48 (fun r h48 => ?_)
  with_reducible refine .bind (part49 h48) (fun r _ => ?_)
  with_reducible refine .bind part50 (fun r _ => ?_)
  with_reducible refine .bind part51 ?_
  rintro ⟨v1414, v1416⟩ h51
  with_reducible refine .bind (part52 h51) (fun r _ => ?_)
  with_reducible refine .bind part53 ?_
  rintro ⟨v1470, v1475, c128_i32_1583⟩ h53
  with_reducible refine .bind (part54 h53) ?_
  rintro ⟨v1493, v1499, v1500⟩ -
  with_reducible refine pass ?_ ?_
  · exact ⟨_, rfl⟩
  rintro ⟨v1529, v1530⟩
  with_reducible refine pass ?_ ?_
  · exact ⟨_, rfl⟩
  rintro ⟨v1543, v1544, v1559, c11_i32_1676⟩
  with_reducible refine pass ?_ ?_
  · exact ⟨_, rfl⟩
  rintro ⟨v1589, c1_i32_1706⟩
  with_reducible refine pass ?_ ?_
  · exact ⟨_, rfl⟩
  rintro ⟨v1594, v1595, v1619, c2_i32_1736⟩
  with_reducible refine pass ?_ ?_
  · exact ⟨_, rfl⟩
  rintro ⟨v1645, v1646, v1649, c4_i32_1766⟩
  with_reducible refine pass ?_ ?_
  · exact ⟨_, rfl⟩
  rintro ⟨v1679, c14_i32_1796⟩
  exact .ret rfl

/-- The whole program of a device plays the whole list. -/
theorem body_plays {c : Dev nD} : Plays X Wv c (on (cc0_body (F := F))) opsAll (fun _ => True) := by
  rw [cc0_body_eq_skeleton, opsAll_eq]; unfold cc0_body_skel opsR
  refine .bind part101 fun r hr => ?_
  obtain ⟨d, v2, v51, v147, v1645, v1646, v1679, w⟩ := r
  obtain rfl : d = c := hr
  with_reducible refine .bind part61 (fun r _ => ?_)
  with_reducible refine .bind part62 ?_
  rintro ⟨v1719, v1734⟩ -
  with_reducible refine pass ?_ (fun r => ?_)
  · exact ⟨_, rfl⟩
  with_reducible refine pass ?_ ?_
  · exact ⟨_, rfl⟩
  rintro ⟨v1769, v1770, v1791, v1793⟩
  with_reducible refine pass ?_ ?_
  · exact ⟨_, rfl⟩
  rintro ⟨v1820, v1821, v1823, c0_i32_1949⟩
  with_reducible refine pass ?_ ?_
  · exact ⟨_, rfl⟩
  rintro ⟨v1851, v1853⟩
  with_reducible refine pass ?_ ?_
  · exact ⟨_, rfl⟩
  rintro ⟨v1871, v1872, v1881, v1883⟩
  with_reducible refine pass ?_ ?_
  · exact ⟨_, rfl⟩
  rintro ⟨v1911, v1913⟩
  with_reducible refine .bind part69 ?_
  rintro ⟨v1938, c0_i32_2072⟩ -
  with_reducible refine .bind part70 ?_
  rintro ⟨v1945, v1966, v1967, c1_i32_2101, c0_i32_2102⟩ -
  with_reducible refine pass ?_ ?_
  · exact ⟨_, rfl⟩
  rintro ⟨v1995, v1996, v1997, c2_i32_2131, c0_i32_2132⟩
  with_reducible refine pass ?_ ?_
  · exact ⟨_, rfl⟩
  rintro ⟨v2026, v2027, c8_i32_2162⟩
  with_reducible refine pass ?_ ?_
  · exact ⟨_, rfl⟩
  rintro ⟨v2046, v2047, v2056, v2057, c14_i32_2192⟩
  with_reducible refine pass ?_ ?_
  · exact ⟨_, rfl⟩
  rintro ⟨v2086, v2087, c11_i32_2222⟩
  with_reducible refine pass ?_ ?_
  · exact ⟨_, rfl⟩
  rintro ⟨v2097, v2098, v2116, v2117, c5_i32_2252⟩
  with_reducible refine pass ?_ (fun r => ?_)
  · exact ⟨_, rfl⟩
  with_reducible refine .bind part77 ?_
  rintro ⟨v2171, v2172, c6_i32_2314⟩ -
  with_reducible refine pass ?_ ?_
  · exact ⟨_, rfl⟩
  rintro ⟨v2201, v2202⟩
  with_reducible refine pass ?_ ?_
  · exact ⟨_, rfl⟩
  rintro ⟨v2221, v2222, v2231, c12_i32_2375⟩
  with_reducible refine pass ?_ ?_
  · exact ⟨_, rfl⟩
  rintro ⟨v2261, c9_i32_2405⟩
  with_reducible refine pass ?_ ?_
  · exact ⟨_, rfl⟩
  rintro ⟨v2272, v2273, v2291, c7_i32_2435⟩
  with_reducible refine pass ?_ ?_
  · exact ⟨_, rfl⟩
  rintro ⟨v2321, c0_i32_2465⟩
  with_reducible refine pass ?_ ?_
  · exact ⟨_, rfl⟩
  rintro ⟨v2323, v2324, v2351, c6_i32_2495⟩
  with_reducible refine .bind part84 (fun r h84 => ?_)
  with_reducible refine .bind (part85 h84) ?_
  rintro ⟨v2397, v2406⟩ -
  with_reducible refine pass ?_ (fun r => ?_)
  · exact ⟨_, rfl⟩
  with_reducible refine pass ?_ ?_
  · exact ⟨_, rfl⟩
  rintro ⟨v2447, v2448, v2463, v2465⟩
  with_reducible refine pass ?_ ?_
  · exact ⟨_, rfl⟩
  rintro ⟨v2493, v2495⟩
  with_reducible refine pass ?_ ?_
  · exact ⟨_, rfl⟩
  rintro ⟨v2498, v2499, v2523, v2525⟩
  with_reducible refine pass ?_ ?_
  · exact ⟨_, rfl⟩
  rintro ⟨v2549, v2550, v2553, v2555⟩
  with_reducible refine pass ?_ ?_
  · exact ⟨_, rfl⟩
  rintro ⟨v2583, v2585⟩
  with_reducible refine .bind part92 (fun r _ => ?_)
  with_reducible refine .bind part93 (fun r _ => ?_)
  with_reducible refine .bind part94 (fun r _ => ?_)
  with_reducible refine .bind part95 (fun r _ => ?_)
  with_reducible refine .bind part96 (fun r _ => ?_)
  with_reducible refine .bind part97 (fun r _ => ?_)
  with_reducible refine .bind part98 (fun r _ => ?_)
  with_reducible refine .bind part99 (fun r _ => ?_)
  with_reducible refine .bind part100 (fun r _ => ?_)
  exact .cons (.swait rfl (N_own 0)) fun _ _ =>
    .cons (.swait rfl (N_own 1)) fun _ _ =>
    .ret trivial

end Cert.Proof

end
-- ==== Proof.Launch.lean ====
/-
  The launch: every device's body from what it is dealt to what it ends with, and the run of the whole mesh: it terminates,
  the two arguments are unchanged, every semaphore is at zero, and every device's result array holds the device's column of products.
-/
module

public import proofs.«01_k».proof.Proof.Fund
public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.Proof

open Cert.KernelIdeal Cert.KernelIdeal.Gen
open Net
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What the body starts from and leaves -/

/-- The memory at launch, with every counter at zero. -/
def s₀ : MemSt nD τ sig (Elt F) := ⟨m, fun _ => 0, ρ⟩

/-- A device's rows of the first argument, as its window stages them. -/
def xs (c : Dev nD) : Vec F S128x2048 .f32 := (win0_0.blk (0 : Fin 1)).view.read (Elt F) ((s₀ m ρ).mem ((c : Thread nD τ).loc main_arg0))
/-- A device's columns of the second. -/
def ws (c : Dev nD) : Vec F S2048x128 .f32 := (win0_1.blk (0 : Fin 1)).view.read (Elt F) ((s₀ m ρ).mem ((c : Thread nD τ).loc main_arg1))
/-- A device's result. -/
def ys (c : Dev nD) : Vec F S2048x128 .f32 := outV (xs m ρ) (ws m ρ) c

/-- What a device has besides its memory. -/
def start (c : Dev nD) : sProp 𝕄 :=
  iprop(Know (xs m ρ) ∗ mine c ∗ cred (tallyAt (barCell c) () 3) ∗ bigSep Finset.univ fun t : Xfer => cred (tallyAt (rcvCell c t) () N))

def Φ₀ (c : Dev nD) : sProp 𝕄 := iprop(start m ρ c ∗ arrays c)
/-- A device's semaphores at zero, and its arrays. -/
def Φ₁ (c : Dev nD) : sProp 𝕄 :=
  iprop((semVal (barCell c) 0 ∗ (bigSep Finset.univ fun t => semVal (sndCell c t) 0) ∗ (bigSep Finset.univ fun t => semVal (rcvCell c t) 0)
    ∗ bigSep Finset.univ fun k => semVal (spareCell c k) 0) ∗ arrays c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => ys m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem before_0 (c : Dev nD) (d) : (dats m ρ 0 c).before (0 : Fin 3) t0_0 d = xs m ρ c := by
  unfold Dat.before; rw [if_pos (fetch_0 t0_0)]; rfl
theorem before_1 (c : Dev nD) (d) : (dats m ρ 0 c).before (1 : Fin 3) t0_0 d = ws m ρ c := by
  unfold Dat.before; rw [if_pos (fetch_1 t0_0)]; rfl

/-- A staging buffer at given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

omit [FloatOps F] in
theorem stg_whole (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

/-! ## The body -/

/-- In the end a device owes nothing. -/
theorem owe_finish (c : Dev nD) : Owe c (mask Net.finish) = 0 := by
  rw [Owe_mask c _ nodup_finish]
  exact OweL_low c _ (by decide +kernel)

/-- The body of a device, from its start and its staged arguments to its result. -/
theorem body_sound (c : Dev nD) (W) (f₂ : Buf (Elt F) ((c : Thread nD τ).loc cc0_stg2_0)) :
    iprop(start m ρ c ∗ arrays c ∗ owes (c : Thread nD τ) (O₀ c) W ∗ (((c : Thread nD τ).loc cc0_stg0_0) ↦{fullShare} xs m ρ c)
        ∗ (((c : Thread nD τ).loc cc0_stg1_0) ↦{fullShare} ws m ρ c) ∗ (((c : Thread nD τ).loc cc0_stg2_0) ↦{fullShare} f₂))
      ⊢ wp frame (wpE (defs₀ (F := F)) 𝒱₀ (c : Thread nD τ) none) Set.univ (on (cc0_body (F := F))) (fun _ =>
        iprop(Φ₁ c ∗ (∃ W', owes (c : Thread nD τ) 0 W') ∗ (((c : Thread nD τ).loc cc0_stg0_0) ↦{fullShare} xs m ρ c)
        ∗ (((c : Thread nD τ).loc cc0_stg1_0) ↦{fullShare} ws m ρ c) ∗ (((c : Thread nD τ).loc cc0_stg2_0) ↦{fullShare} ys m ρ c))) := by
  unfold start
  iintro ⟨⟨#HK, Hm, Hb, Hr⟩, Ha, HO, Hx, Hw, Ho⟩
  ihave H := (hold_start (xs m ρ) (ws m ρ) c) $$ [Hm Hb Hr Ha Hx Hw Ho]
  · isplitl [Hm]; · iexact Hm
    isplitl [Hb]; · iexact Hb
    isplitl [Hr]; · iexact Hr
    isplitl [Hx]; · iexact Hx
    isplitl [Hw]; · iexact Hw
    isplitl [Ho]; · iexists f₂; iexact Ho
    iexact Ha
  icases H with ⟨HH, HL⟩
  ihave Hwp := (body_plays (X := xs m ρ) (Wv := ws m ρ) (c := c) (mask Net.start) (oks_all ⟨fl c, fl_lt c⟩)) $$ [HH HO]
  · isplitr; · iexact HK
    unfold St O₀
    isplitl [HH]; · iexact HH
    iexists W; iexact HO
  ihave Hwp := (wp_beside c _ iprop(Know (xs m ρ) ∗ left c) _) $$ [HL Hwp]
  · isplitl [HL]
    · isplitr; · iexact HK
      iexact HL
    iexact Hwp
  iapply (wp_fupd (Fr := frame) _ _)
  iapply (wp_mono _ _ _ (fun a => ?_)) $$ Hwp
  rw [nexts_all ⟨fl c, fl_lt c⟩]
  unfold St
  rw [owe_finish]
  iintro ⟨⟨HK, HL⟩, -, HH, HO⟩
  imod (hold_finish (xs m ρ) (ws m ρ) c) $$ [HK HH HL] with H
  · isplitl [HK]; · iexact HK
    isplitl [HH] <;> iassumption
  icases H with ⟨Hs, Hx, Hw, Ho, Ha⟩
  imodintro
  unfold Φ₁
  isplitl [Hs Ha]
  · isplitl [Hs] <;> iassumption
  isplitl [HO]; · iexact HO
  isplitl [Hx]; · iexact Hx
  isplitl [Hw]; · iexact Hw
  iexact Ho

def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () (t0_0 : Fin cfg0.N).succ ∗ stg c cc0_stg0_0 (xs m ρ c) ∗ stg c cc0_stg1_0 (ws m ρ c) ∗ stg c cc0_stg2_0 (ys m ρ c))

theorem body_step (c : Dev nD) : bodyPre m ρ c ⊢ wp frame (wpE (defs₀ (F := F)) 𝒱₀ (c : Thread nD τ) none) Set.univ (on (cc0_body (F := F))) (fun _ => bodyPost m ρ c) := by
  unfold bodyPre Φ₀ Dat.owesAt Pipeline.owesWithin
  rw [show (dats m ρ 0 c).owed (t0_0 : Fin cfg0.N).castSucc = O₀ c from rfl]
  iintro ⟨⟨Hs, Ha⟩, ⟨%W, %hW, HO⟩, ⟨%d0, %g0, %hg0, Hx⟩, ⟨%d1, %g1, %hg1, Hw⟩, ⟨%d2, %g2, %hg2, Ho⟩⟩
  rw [before_0] at hg0
  rw [before_1] at hg1
  subst hg0 hg1
  ihave H := (body_sound m ρ c W g2) $$ [Hs Ha HO Hx Hw Ho]
  · isplitl [Hs]; · iexact Hs
    isplitl [Ha]; · iexact Ha
    isplitl [HO]; · iexact HO
    isplitl [Hx]; · iexact Hx
    isplitl [Hw]; · iexact Hw
    iexact Ho
  iapply (wp_mono _ _ _ (fun a => ?_)) $$ H
  unfold bodyPost Dat.owesAt Pipeline.owesWithin
  rw [show (dats m ρ 0 c).owed (t0_0 : Fin cfg0.N).succ = 0 from rfl]
  iintro ⟨HΦ, ⟨%W', HO⟩, Hx, Hw, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The library's obligation for the body of device `c`. -/
theorem body_obligation (c : Dev nD) : BodyObligation (dats (F := F) m ρ 0 c) (defs₀ (F := F)) 𝒱₀ () Set.univ := fun t => by
  rw [fin_N0 t]
  rw [bigSep_W, bigSep_W]
  simp only [stg_whole]
  exact body_step m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' Know
  icases HG with ⟨HK, Hm⟩
  isplitl
  · isplitl [HK Hlev]
    · isplitl [Hlev]; · iexact Hlev
      unfold KnowCells; iexact HK
    isplitl [Hm]; · iexact Hm
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ arrays
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq]
  unfold Φ₁ arrays
  iintro ⟨⟨HB, Hs⟩, Hr⟩
  isplitl [HB]; · iexact HB
  isplitl [Hs]; · iexact Hs
  iexact Hr

/-- What a device owes at the start is above the pipeline's own waits. -/
theorem above_start (c : Dev nD) : Above 0 (O₀ c) := fun g u hg => Owe_level c (by decide +kernel) g u hg

theorem above_zero : Above 0 (0 : CellTallies nD τ sig Unit) := fun g u hg => absurd hg (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait (ℓ := 0) c _ (by
      rcases t with ⟨_ | _, ht⟩
      · exact above_start c
      · exact above_zero) (Nat.le_of_eq (by fin_cases w <;> fin_cases s <;> rfl))

/-! ## The run -/

def finalA (c : Dev nD) (w : Fin cfg0.W) : Buf (Elt F) ((cfg0.win w).arr.view.loc (c : Thread nD τ)) := (dats m ρ 0 c).arrAt w cfg0.N

/-- Every device's arrays in the end. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters: every weakly fair execution of the program on the mesh terminates, with every device's arrays
    at the contents computed, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument holds what it held. -/
theorem finalA_x (c : Dev nD) : finalA m ρ c (0 : Fin 3) = (s₀ m ρ).mem (win0_0.arr.view.loc (c : Thread nD τ)) :=
  (dats (F := F) m ρ 0 c).arrAt_in (0 : Fin 3) rfl _

/-- The second argument holds what it held. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.Proof

end
-- ==== Proof.Value.lean ====
/-
  The kernel's result over the extended reals: every device's block of columns of the product.
-/
module

public import proofs.«01_k».proof.Proof.Launch
public import proofs.«01_k».proof.Proof.Gen.ReferenceIdeal
public import Idealize.ShloMosaic.Lib.Pointwise.Contract
public import Idealize.ShloMosaic.Lib.Pointwise.Reshape
public import Idealize.ShloMosaic.PureOps.Ideal.Laws
public import Idealize.ShloMosaic.Lib.Layout

@[expose] public section

noncomputable section

namespace Cert.Proof

open Idealize.ShloMosaic Idealize.ShloMosaic.TcCoe
open Cert.KernelIdeal Cert.KernelIdeal.Gen

/-! ## Entries of the two products -/

/-- An entry of the product of two blocks is the sum over the dimension contracted; -/
theorem blkOf_apply (x : Vec Ideal S128x2048 .f32) (w : Vec Ideal S2048x128 .f32) (j : S128x128.Idx) :
    blkOf x w j = ∑ k : Fin 2048, x (ix2 (j 0) k) * w (ix2 k (j 1)) := by
  unfold blkOf k0_pay1
  simp only [matmul, shapeCast_id, Ideal.matmul_def]
  refine (Ideal.matmul_apply₁_of dot_S128x2048_S2048x128_S128x128_1_0_0_1_n_n (a := (1 : Fin 2)) (K := 2048) rfl rfl x w
    (constant (F := Ideal) S128x128 .f32 0x00000000#32) j (fun k => ix2 (j 0) k) (fun k => ix2 k (j 1))
    (fun _ => by simp only [pointwise]) (fun _ => by simp only [pointwise])).trans ?_
  exact (congrArg (· + _) Ideal.ofBits_zero_f32).trans (zero_add _)

/-- so is an entry of the reference's product. -/
theorem product_apply (A B : FVec Ideal Cert.ReferenceIdeal.S2048x2048 .f32) (i : Cert.ReferenceIdeal.S2048x2048.Idx) :
    Host.dotGeneral Cert.ReferenceIdeal.dot_S2048x2048_S2048x2048_S2048x2048_1_0_0_1_n_n none A B i
      = ∑ k : Fin 2048, A (ix2 (i 0) k) * B (ix2 k (i 1)) := by
  simp only [Host.dotGeneral, Ideal.dotGeneral_def]
  exact (Ideal.matmul_apply₁_of Cert.ReferenceIdeal.dot_S2048x2048_S2048x2048_S2048x2048_1_0_0_1_n_n (a := (1 : Fin 2)) (K := 2048) rfl rfl A B
    (fun _ => 0) i (fun k => ix2 (i 0) k) (fun k => ix2 k (i 1))
    (fun _ => by simp only [pointwise]) (fun _ => by simp only [pointwise])).trans (zero_add _)

/-! ## The blocks of the product -/

/-- From the rows' blocks of one matrix and the columns' blocks of another, a device's result is its block of the columns of their
    product. -/
theorem outV_product (A B : FVec Ideal Cert.ReferenceIdeal.S2048x2048 .f32) (c : Dev nD) :
    outV (F := Ideal) (fun d => Layout.block ⟨2, ![128, 2048]⟩ ⟨2, ![2048, 2048]⟩ 0 16 d A)
        (fun d => Layout.block ⟨2, ![2048, 128]⟩ ⟨2, ![2048, 2048]⟩ 1 16 d B) c
      = Layout.block ⟨2, ![2048, 128]⟩ ⟨2, ![2048, 2048]⟩ 1 16 c
          (Host.dotGeneral (F := Ideal) Cert.ReferenceIdeal.dot_S2048x2048_S2048x2048_S2048x2048_1_0_0_1_n_n none A B) := by
  funext i
  rw [Layout.block_apply, product_apply]
  unfold outV
  rw [blkOf_apply]
  refine Finset.sum_congr rfl fun k _ => congrArg₂ (· * ·) (congrArg A (idx_ext fun a => ?_)) (congrArg B (idx_ext fun a => ?_))
  · match a with
    | 0 => show (i 0).val / 128 * 128 + (i 0).val % 128 = (i 0).val; omega
    | 1 => rfl
  · match a with
    | 0 => rfl
    | 1 => rfl

/-! ## The result's array -/

section
variable {F : FTy → Type} [FloatOps F]
variable (m : (ℓ : Loc nD τ sig) → Buf (Elt F) ℓ) (ρ : Dev nD → PrngReg)

/-- The first argument's window holds the whole argument, -/
theorem xs_eq (c : Dev nD) : xs m ρ c = m ((c : Thread nD τ).loc main_arg0) :=
  Memref.read_access_unit_zero (Elt F) main_arg0 (funext fun a => by fin_cases a <;> decide) (fun a => by fin_cases a <;> decide) _

/-- the second's the whole second argument, -/
theorem ws_eq (c : Dev nD) : ws m ρ c = m ((c : Thread nD τ).loc main_arg1) :=
  Memref.read_access_unit_zero (Elt F) main_arg1 (funext fun a => by fin_cases a <;> decide) (fun a => by fin_cases a <;> decide) _

/-- and the result's the whole result: in the end it holds what the body computed. -/
theorem finalA_o (c : Dev nD) :
    finalA m ρ c (2 : Fin 3) = outV (fun d => m ((d : Thread nD τ).loc main_arg0)) (fun d => m ((d : Thread nD τ).loc main_arg1)) c := by
  have h : (win0_2.blk (0 : Fin 1)).view.read (Elt F) (finalA m ρ c (2 : Fin 3)) = ys m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have e : (win0_2.blk (0 : Fin 1)).view.read (Elt F) (finalA m ρ c (2 : Fin 3)) = finalA m ρ c (2 : Fin 3) :=
    Memref.read_access_unit_zero (Elt F) main_v1 (funext fun a => by fin_cases a <;> decide) (fun a => by fin_cases a <;> decide) _
  refine e.symm.trans (h.trans ?_)
  unfold ys
  rw [funext (xs_eq m ρ), funext (ws_eq m ρ)]

end

end Cert.Proof

end
-- ==== Proof.lean ====
/-
  The claims: the frames of the kernel at both readings of its floats and of the reference, and the kernel's result over the extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run at any floats: it terminates, the arguments are unchanged, and every counter is at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩) (run_main (F := F) m ρ)

/-- The table of bodies is the same in the kernel's text and in the idealized kernel's, -/
theorem bodies_eq : Cert.Kernel.defs₀ (F := Bits) = Cert.KernelIdeal.defs₀ (F := Bits) :=
  congrArg Defs.onTc (funext fun ℓ => match ℓ with
    | ⟨0, _⟩ => funext fun ⟨_, _⟩ => rfl
    | ⟨_ + 1, h⟩ => absurd h (Nat.not_lt.2 (Nat.le_add_left _ _)))

/-- so the two texts define the same programs. -/
theorem defs_eq : Cert.Kernel.defs (F := Bits) = Cert.KernelIdeal.defs (F := Bits) :=
  congrArg (Pipeline.defs Cert.KernelIdeal.pcfgs) bodies_eq

/-- The kernel's run at the machine's floats: its text is the idealized kernel's. -/
theorem frame_kernel : Cert.quiescent_Kernel := fun m ρ _ => by
  rw [defs_eq]
  exact frame_any (F := Bits) m ρ

/-- The kernel's run over the extended reals. -/
theorem frame_ideal : Cert.quiescent_KernelIdeal := fun m ρ _ => frame_any (F := Ideal) m ρ

/-- The reference's run: it has no semaphores, and leaves its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of the columns of the reference's product. -/
theorem algebraic : Cert.algebraic_KernelIdeal_ReferenceIdeal := fun m ρ m' ρ' _ hm =>
  ⟨Host.dotGeneral (F := Ideal) Cert.ReferenceIdeal.dot_S2048x2048_S2048x2048_S2048x2048_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨(h.1 c (2 : Fin 3)).trans ((finalA_o m ρ c).trans
          ((congrArg₂ (fun X W => outV (F := Ideal) X W c) (funext fun d => (hm d).1) (funext fun d => (hm d).2)).trans (outV_product _ _ c))),
        (h.1 c (0 : Fin 3)).trans (finalA_x m ρ c), (h.1 c (1 : Fin 3)).trans (finalA_w m ρ c)⟩)
      (run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
